-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S2x2x72x2x128 Cert.KernelIdeal.S2x2x72x1x128
  ∧ IdealRules.bf16_pair.BufferStatement Cert.KernelIdeal.S2x2x8x2x128 Cert.KernelIdeal.S2x2x8x1x128
  ∧ IdealRules.bf16_pair.BufferStatement Cert.KernelIdeal.S2x224x2x128 Cert.KernelIdeal.S2x224x1x128
  ∧ IdealRules.bf16_pair.Statement Cert.KernelIdeal.S2x2x72x2x128 Cert.KernelIdeal.S2x2x72x1x128
  ∧ IdealRules.bf16_pair.SelectZeroStatement Cert.KernelIdeal.S2x2x72x128
  ∧ IdealRules.bf16_pair.Statement Cert.KernelIdeal.S1x16x128 Cert.KernelIdeal.S1x8x128
  ∧ IdealRules.bf16_pair.Statement Cert.KernelIdeal.S16x128 Cert.KernelIdeal.S8x128
  ∧ IdealRules.bf16_pair.Statement Cert.KernelIdeal.S8x2x128 Cert.KernelIdeal.S8x1x128
  ∧ IdealRules.bf16_pair.PackStatement Cert.KernelIdeal.S8x128
  ∧ IdealRules.bf16_pair.Statement Cert.KernelIdeal.S1x1x8x2x128 Cert.KernelIdeal.S1x1x8x1x128
  ∧ IdealRules.bf16_pair.Statement Cert.KernelIdeal.S1x2x128 Cert.KernelIdeal.S1x1x128
  ∧ IdealRules.bf16_pair.Statement Cert.KernelIdeal.S2x128 Cert.KernelIdeal.S1x128
  ∧ IdealRules.bf16_pair.Statement Cert.KernelIdeal.S1x8x2x128 Cert.KernelIdeal.S1x8x1x128
  ∧ IdealRules.bf16_pair.Statement Cert.KernelIdeal.S1x128x2x128 Cert.KernelIdeal.S1x128x1x128
  ∧ IdealRules.bf16_pair.Statement Cert.KernelIdeal.S256x128 Cert.KernelIdeal.S128x128
  ∧ IdealRules.bf16_pair.Statement Cert.KernelIdeal.S1x96x2x128 Cert.KernelIdeal.S1x96x1x128
  ∧ IdealRules.bf16_pair.Statement Cert.KernelIdeal.S192x128 Cert.KernelIdeal.S96x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v99) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x6272x2816 : Shape := ⟨3, ![12, 6272, 2816]⟩
abbrev S4 : Shape := ⟨1, ![4]⟩
abbrev S3x8x1 : Shape := ⟨3, ![3, 8, 1]⟩
abbrev S64x256 : Shape := ⟨2, ![64, 256]⟩
abbrev S1x4 : Shape := ⟨2, ![1, 4]⟩
abbrev S64x4 : Shape := ⟨2, ![64, 4]⟩
abbrev S256 : Shape := ⟨1, ![256]⟩
abbrev S_ : Shape := ⟨0, ![]⟩
abbrev S3x8x128 : Shape := ⟨3, ![3, 8, 128]⟩
abbrev S12x3136x2816 : Shape := ⟨3, ![12, 3136, 2816]⟩
abbrev S12x98x2816 : Shape := ⟨3, ![12, 98, 2816]⟩
abbrev S12936x256 : Shape := ⟨2, ![12936, 256]⟩
abbrev S12936x1 : Shape := ⟨2, ![12936, 1]⟩
abbrev S1x1 : Shape := ⟨2, ![1, 1]⟩
abbrev S1x6272x128 : Shape := ⟨3, ![1, 6272, 128]⟩
abbrev S1x3136x256 : Shape := ⟨3, ![1, 3136, 256]⟩
abbrev S1x98x256 : Shape := ⟨3, ![1, 98, 256]⟩
abbrev S2x2x72x128 : Shape := ⟨4, ![2, 2, 72, 128]⟩
abbrev S2x2x8x128 : Shape := ⟨4, ![2, 2, 8, 128]⟩
abbrev S2x224x128 : Shape := ⟨3, ![2, 224, 128]⟩
abbrev S98x128 : Shape := ⟨2, ![98, 128]⟩
abbrev S12936x128 : Shape := ⟨2, ![12936, 128]⟩
abbrev S1x3136x128 : Shape := ⟨3, ![1, 3136, 128]⟩
abbrev S3136x128 : Shape := ⟨2, ![3136, 128]⟩
abbrev S8x128 : Shape := ⟨2, ![8, 128]⟩
abbrev S1x16x128 : Shape := ⟨3, ![1, 16, 128]⟩
abbrev S1x8x128 : Shape := ⟨3, ![1, 8, 128]⟩
abbrev S16x128 : Shape := ⟨2, ![16, 128]⟩
abbrev S1x1x72x128 : Shape := ⟨4, ![1, 1, 72, 128]⟩
abbrev S72x128 : Shape := ⟨2, ![72, 128]⟩
abbrev S1x1x8x128 : Shape := ⟨4, ![1, 1, 8, 128]⟩
abbrev S7x128 : Shape := ⟨2, ![7, 128]⟩
abbrev S1x128 : Shape := ⟨2, ![1, 128]⟩
abbrev S2x128 : Shape := ⟨2, ![2, 128]⟩
abbrev S8x128x1 : Shape := ⟨3, ![8, 128, 1]⟩
abbrev S1x128x128 : Shape := ⟨3, ![1, 128, 128]⟩
abbrev S128x128 : Shape := ⟨2, ![128, 128]⟩
abbrev S256x128 : Shape := ⟨2, ![256, 128]⟩
abbrev S256x256 : Shape := ⟨2, ![256, 256]⟩
abbrev S16x256 : Shape := ⟨2, ![16, 256]⟩
abbrev S8x256 : Shape := ⟨2, ![8, 256]⟩
abbrev S32x256 : Shape := ⟨2, ![32, 256]⟩
abbrev S1x224x256 : Shape := ⟨3, ![1, 224, 256]⟩
abbrev S224x256 : Shape := ⟨2, ![224, 256]⟩
abbrev S1x32x256 : Shape := ⟨3, ![1, 32, 256]⟩
abbrev S1x96x128 : Shape := ⟨3, ![1, 96, 128]⟩
abbrev S96x128 : Shape := ⟨2, ![96, 128]⟩
abbrev S192x128 : Shape := ⟨2, ![192, 128]⟩
abbrev S192x256 : Shape := ⟨2, ![192, 256]⟩
abbrev S48x192 : Shape := ⟨2, ![48, 192]⟩
abbrev S48x256 : Shape := ⟨2, ![48, 256]⟩
abbrev S1x98x128 : Shape := ⟨3, ![1, 98, 128]⟩
abbrev S264x128 : Shape := ⟨2, ![264, 128]⟩
abbrev S33x8x128 : Shape := ⟨3, ![33, 8, 128]⟩
abbrev S1 : Shape := ⟨1, ![1]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S8 : Shape := ⟨1, ![8]⟩
abbrev S8x1 : Shape := ⟨2, ![8, 1]⟩

abbrev nBuf : Space → Nat
  | .hbm => 24
  | .vmem => 21
  | .smem => 1
  | _ => 0

abbrev bufTy : (tb : Table) → Fin (tcTables nBuf tb) → BufTy
  | .hbm, ⟨0, _⟩ => ⟨S12x6272x2816, .bf16⟩
  | .hbm, ⟨1, _⟩ => ⟨S4, .f32⟩
  | .hbm, ⟨2, _⟩ => ⟨S3x8x1, .i32⟩
  | .hbm, ⟨3, _⟩ => ⟨S64x256, .i32⟩
  | .hbm, ⟨4, _⟩ => ⟨S64x256, .i32⟩
  | .hbm, ⟨5, _⟩ => ⟨S1x4, .f32⟩
  | .hbm, ⟨6, _⟩ => ⟨S64x4, .f32⟩
  | .hbm, ⟨7, _⟩ => ⟨S256, .f32⟩
  | .hbm, ⟨8, _⟩ => ⟨S64x256, .f32⟩
  | .hbm, ⟨9, _⟩ => ⟨S_, .i32⟩
  | .hbm, ⟨10, _⟩ => ⟨S64x256, .i32⟩
  | .hbm, ⟨11, _⟩ => ⟨S64x256, .i32⟩
  | .hbm, ⟨12, _⟩ => ⟨S64x256, .i1⟩
  | .hbm, ⟨13, _⟩ => ⟨S_, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S3x8x128, .i32⟩
  | .hbm, ⟨18, _⟩ => ⟨S64x256, .bf16⟩
  | .hbm, ⟨19, _⟩ => ⟨S12x3136x2816, .i8⟩
  | .hbm, ⟨20, _⟩ => ⟨S12x98x2816, .f32⟩
  | .hbm, ⟨21, _⟩ => ⟨S12936x256, .i8⟩
  | .hbm, ⟨22, _⟩ => ⟨S12936x1, .f32⟩
  | .hbm, ⟨23, _⟩ => ⟨S1x1, .f32⟩
  | .local _ .vmem, ⟨0, _⟩ => ⟨S1x6272x128, .bf16⟩
  | .local _ .vmem, ⟨1, _⟩ => ⟨S1x6272x128, .bf16⟩
  | .local _ .vmem, ⟨2, _⟩ => ⟨S1x6272x128, .bf16⟩
  | .local _ .vmem, ⟨3, _⟩ => ⟨S1x6272x128, .bf16⟩
  | .local _ .vmem, ⟨4, _⟩ => ⟨S3x8x128, .i32⟩
  | .local _ .vmem, ⟨5, _⟩ => ⟨S64x256, .bf16⟩
  | .local _ .vmem, ⟨6, _⟩ => ⟨S1x3136x256, .i8⟩
  | .local _ .vmem, ⟨7, _⟩ => ⟨S1x3136x256, .i8⟩
  | .local _ .vmem, ⟨8, _⟩ => ⟨S1x98x256, .f32⟩
  | .local _ .vmem, ⟨9, _⟩ => ⟨S1x98x256, .f32⟩
  | .local _ .vmem, ⟨10, _⟩ => ⟨S12936x256, .i8⟩
  | .local _ .vmem, ⟨11, _⟩ => ⟨S12936x1, .f32⟩
  | .local _ .vmem, ⟨12, _⟩ => ⟨S2x2x72x128, .i32⟩
  | .local _ .vmem, ⟨13, _⟩ => ⟨S2x2x8x128, .f32⟩
  | .local _ .vmem, ⟨14, _⟩ => ⟨S2x2x8x128, .i32⟩
  | .local _ .vmem, ⟨15, _⟩ => ⟨S2x224x128, .i32⟩
  | .local _ .vmem, ⟨16, _⟩ => ⟨S2x224x128, .i32⟩
  | .local _ .vmem, ⟨17, _⟩ => ⟨S98x128, .f32⟩
  | .local _ .vmem, ⟨18, _⟩ => ⟨S98x128, .f32⟩
  | .local _ .vmem, ⟨19, _⟩ => ⟨S12936x128, .f32⟩
  | .local _ .vmem, ⟨20, _⟩ => ⟨S12936x128, .f32⟩
  | .local _ .smem, ⟨0, _⟩ => ⟨S1x1, .f32⟩
  | _, _ => ⟨S12x6272x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [BitOps F]

abbrev grid0 : Pipeline.Grid := ⟨2, ![12, 11], ![false, false]⟩

@[reducible] def k0_t1_loop : Scf.Loop 32 :=
  let c0_i32_5 : BitVec 32 := 0#32
  let c7_i32 : BitVec 32 := 7#32
  let v5 : BitVec 32 := Scalar.addi c0_i32_5 c7_i32
  let c1_i32 : BitVec 32 := 1#32
  ⟨c0_i32_5, v5, c1_i32⟩
def k0_off1 (k0_t1 : Fin k0_t1_loop.trips) (c0_i32_151 : BitVec 32) : Fin 3 → Nat :=
  let c0_i32_2 : BitVec 32 := 0#32
  let c32_i32 : BitVec 32 := 32#32
  let c0_i32_150 : BitVec 32 := 0#32
  let c0_i32_5 : BitVec 32 := 0#32
  let c1_i32 : BitVec 32 := 1#32
  let arg20 : BitVec 32 := Scf.iv c0_i32_5 c1_i32 k0_t1
  let v167 : BitVec 32 := Scalar.addi c0_i32_150 arg20
  let v168 : BitVec 32 := Scalar.muli c32_i32 v167
  let v169 : BitVec 32 := Scalar.addi v168 c0_i32_151
  let v173 : Index := Scalar.indexCast v169
  let c0_i32_153 : BitVec 32 := 0#32
  ![0, Nat.mul 2 v173.toNat, 0]
def k0_off2 (k0_t1 : Fin k0_t1_loop.trips) : Fin 2 → Nat :=
  let c9_i32 : BitVec 32 := 9#32
  let c0_i32_5 : BitVec 32 := 0#32
  let c1_i32 : BitVec 32 := 1#32
  let arg20 : BitVec 32 := Scf.iv c0_i32_5 c1_i32 k0_t1
  let v211 : BitVec 32 := Scalar.muli c9_i32 arg20
  let v214 : Index := Scalar.indexCast v211
  let c0_173 : Index := 0#32
  ![v214.toNat, 0]
def k0_off3 (i : grid0.Coords) : Fin 2 → Nat :=
  let arg0 : BitVec 32 := BitVec.ofNat 32 (i 0).val
  let c98_i32 : BitVec 32 := 98#32
  let v71 : BitVec 32 := Scalar.muli arg0 c98_i32
  let c0_i32_59 : BitVec 32 := 0#32
  let v72 : BitVec 32 := Scalar.addi v71 c0_i32_59
  let c11_i32 : BitVec 32 := 11#32
  let v73 : BitVec 32 := Scalar.muli v72 c11_i32
  let arg1 : BitVec 32 := BitVec.ofNat 32 (i 1).val
  let v74 : BitVec 32 := Scalar.addi v73 arg1
  let v75 : Index := Scalar.indexCast v74
  let c0_60 : Index := 0#32
  ![v75.toNat, 0]
@[reducible] def k0_t2_loop : Scf.Loop 32 :=
  let c0_i32_64 : BitVec 32 := 0#32
  let c7_i32_65 : BitVec 32 := 7#32
  let v79 : BitVec 32 := Scalar.addi c0_i32_64 c7_i32_65
  let c1_i32_66 : BitVec 32 := 1#32
  ⟨c0_i32_64, v79, c1_i32_66⟩
def k0_off4 (k0_t2 : Fin k0_t2_loop.trips) (c0_i32_151 : BitVec 32) : Fin 3 → Nat :=
  let c0_i32_61 : BitVec 32 := 0#32
  let c32_i32 : BitVec 32 := 32#32
  let c0_i32_150 : BitVec 32 := 0#32
  let c0_i32_64 : BitVec 32 := 0#32
  let c1_i32_66 : BitVec 32 := 1#32
  let arg20 : BitVec 32 := Scf.iv c0_i32_64 c1_i32_66 k0_t2
  let v167 : BitVec 32 := Scalar.addi c0_i32_150 arg20
  let v168 : BitVec 32 := Scalar.muli c32_i32 v167
  let v169 : BitVec 32 := Scalar.addi v168 c0_i32_151
  let v173 : Index := Scalar.indexCast v169
  let c0_i32_153 : BitVec 32 := 0#32
  ![0, Nat.mul 2 v173.toNat, 0]
def k0_off5 (k0_t2 : Fin k0_t2_loop.trips) : Fin 2 → Nat :=
  let c9_i32 : BitVec 32 := 9#32
  let c0_i32_64 : BitVec 32 := 0#32
  let c1_i32_66 : BitVec 32 := 1#32
  let arg20 : BitVec 32 := Scf.iv c0_i32_64 c1_i32_66 k0_t2
  let v211 : BitVec 32 := Scalar.muli c9_i32 arg20
  let v214 : Index := Scalar.indexCast v211
  let c0_173 : Index := 0#32
  ![v214.toNat, 0]
@[reducible] def k0_t3_loop : Scf.Loop 32 :=
  let c0_i32_135 : BitVec 32 := 0#32
  let c7_i32_136 : BitVec 32 := 7#32
  let v153 : BitVec 32 := Scalar.addi c0_i32_135 c7_i32_136
  let c1_i32_137 : BitVec 32 := 1#32
  ⟨c0_i32_135, v153, c1_i32_137⟩
@[reducible] def k0_t4_loop : Scf.Loop 32 :=
  let c0_i32_151 : BitVec 32 := 0#32
  let c7_i32_152 : BitVec 32 := 7#32
  let v168 : BitVec 32 := Scalar.addi c0_i32_151 c7_i32_152
  let c1_i32_153 : BitVec 32 := 1#32
  ⟨c0_i32_151, v168, c1_i32_153⟩
def k0_off6 (k0_t4 : Fin k0_t4_loop.trips) : Fin 2 → Nat :=
  let c0_i32_151 : BitVec 32 := 0#32
  let c1_i32_153 : BitVec 32 := 1#32
  let arg21 : BitVec 32 := Scf.iv c0_i32_151 c1_i32_153 k0_t4
  let v641 : Index := Scalar.indexCast arg21
  let c0_566 : Index := 0#32
  ![v641.toNat, 0]
def k0_off7 (k0_t4 : Fin k0_t4_loop.trips) : Fin 2 → Nat :=
  let c0_i32_151 : BitVec 32 := 0#32
  let c1_i32_153 : BitVec 32 := 1#32
  let arg21 : BitVec 32 := Scf.iv c0_i32_151 c1_i32_153 k0_t4
  let v645 : Index := Scalar.indexCast arg21
  let c0_571 : Index := 0#32
  ![v645.toNat, 0]
def k0_off8 (k0_t3 : Fin k0_t3_loop.trips) (k0_t4 : Fin k0_t4_loop.trips) (c0_i32_579 : BitVec 32) : Fin 3 → Nat :=
  let c0_i32_150 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v659 : BitVec 32 := Scalar.muli c7_i32_578 v167
  let c0_i32_151 : BitVec 32 := 0#32
  let c1_i32_153 : BitVec 32 := 1#32
  let arg21 : BitVec 32 := Scf.iv c0_i32_151 c1_i32_153 k0_t4
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off9 (k0_t4 : Fin k0_t4_loop.trips) (c0_i32_645 : BitVec 32) : Fin 3 → Nat :=
  let c0_646 : Index := 0#32
  let c32_i32_644 : BitVec 32 := 32#32
  let c0_i32_151 : BitVec 32 := 0#32
  let c1_i32_153 : BitVec 32 := 1#32
  let arg21 : BitVec 32 := Scf.iv c0_i32_151 c1_i32_153 k0_t4
  let v900 : BitVec 32 := Scalar.muli c32_i32_644 arg21
  let v901 : BitVec 32 := Scalar.addi v900 c0_i32_645
  let v902 : Index := Scalar.indexCast v901
  let c0_647 : Index := 0#32
  ![0, v902.toNat, 0]
@[reducible] def k0_t5_loop : Scf.Loop 32 :=
  let c0_i32_156 : BitVec 32 := 0#32
  let c7_i32_157 : BitVec 32 := 7#32
  let v169 : BitVec 32 := Scalar.addi c0_i32_156 c7_i32_157
  let c1_i32_158 : BitVec 32 := 1#32
  ⟨c0_i32_156, v169, c1_i32_158⟩
def k0_off10 (k0_t5 : Fin k0_t5_loop.trips) : Fin 2 → Nat :=
  let c0_i32_156 : BitVec 32 := 0#32
  let c1_i32_158 : BitVec 32 := 1#32
  let arg21 : BitVec 32 := Scf.iv c0_i32_156 c1_i32_158 k0_t5
  let v641 : Index := Scalar.indexCast arg21
  let c0_566 : Index := 0#32
  ![v641.toNat, 0]
def k0_off11 (k0_t5 : Fin k0_t5_loop.trips) : Fin 2 → Nat :=
  let c0_i32_156 : BitVec 32 := 0#32
  let c1_i32_158 : BitVec 32 := 1#32
  let arg21 : BitVec 32 := Scf.iv c0_i32_156 c1_i32_158 k0_t5
  let v645 : Index := Scalar.indexCast arg21
  let c0_571 : Index := 0#32
  ![v645.toNat, 0]
def k0_off12 (k0_t3 : Fin k0_t3_loop.trips) (k0_t5 : Fin k0_t5_loop.trips) (c0_i32_579 : BitVec 32) : Fin 3 → Nat :=
  let c0_i32_155 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v659 : BitVec 32 := Scalar.muli c7_i32_578 v167
  let c0_i32_156 : BitVec 32 := 0#32
  let c1_i32_158 : BitVec 32 := 1#32
  let arg21 : BitVec 32 := Scf.iv c0_i32_156 c1_i32_158 k0_t5
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off13 (k0_t5 : Fin k0_t5_loop.trips) (c0_i32_645 : BitVec 32) : Fin 3 → Nat :=
  let c1_646 : Index := 1#32
  let c32_i32_644 : BitVec 32 := 32#32
  let c0_i32_156 : BitVec 32 := 0#32
  let c1_i32_158 : BitVec 32 := 1#32
  let arg21 : BitVec 32 := Scf.iv c0_i32_156 c1_i32_158 k0_t5
  let v900 : BitVec 32 := Scalar.muli c32_i32_644 arg21
  let v901 : BitVec 32 := Scalar.addi v900 c0_i32_645
  let v902 : Index := Scalar.indexCast v901
  let c0_647 : Index := 0#32
  ![1, v902.toNat, 0]
@[reducible] def k0_t6_loop : Scf.Loop 32 :=
  let c0_i32_164 : BitVec 32 := 0#32
  let c7_i32_165 : BitVec 32 := 7#32
  let v171 : BitVec 32 := Scalar.addi c0_i32_164 c7_i32_165
  let c1_i32_166 : BitVec 32 := 1#32
  ⟨c0_i32_164, v171, c1_i32_166⟩
def k0_off14 (k0_t3 : Fin k0_t3_loop.trips) (k0_t6 : Fin k0_t6_loop.trips) (c0_i32_563 : BitVec 32) : Fin 3 → Nat :=
  let c0_i32_161 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v639 : BitVec 32 := Scalar.muli c7_i32_562 v170
  let c0_i32_164 : BitVec 32 := 0#32
  let c1_i32_166 : BitVec 32 := 1#32
  let arg21 : BitVec 32 := Scf.iv c0_i32_164 c1_i32_166 k0_t6
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off15 (k0_t6 : Fin k0_t6_loop.trips) : Fin 2 → Nat :=
  let c9_i32 : BitVec 32 := 9#32
  let c0_i32_164 : BitVec 32 := 0#32
  let c1_i32_166 : BitVec 32 := 1#32
  let arg21 : BitVec 32 := Scf.iv c0_i32_164 c1_i32_166 k0_t6
  let v687 : BitVec 32 := Scalar.muli c9_i32 arg21
  let v690 : Index := Scalar.indexCast v687
  let c0_585 : Index := 0#32
  ![v690.toNat, 0]
def k0_off16 (k0_t3 : Fin k0_t3_loop.trips) : Fin 2 → Nat :=
  let c7_i32_229 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v233 : BitVec 32 := Scalar.muli c7_i32_229 v170
  let v234 : Index := Scalar.indexCast v233
  let c0_230 : Index := 0#32
  ![v234.toNat, 0]
def k0_off17 (i : grid0.Coords) (k0_t3 : Fin k0_t3_loop.trips) : Fin 2 → Nat :=
  let arg0 : BitVec 32 := BitVec.ofNat 32 (i 0).val
  let c98_i32_231 : BitVec 32 := 98#32
  let v239 : BitVec 32 := Scalar.muli arg0 c98_i32_231
  let c7_i32_232 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v240 : BitVec 32 := Scalar.muli c7_i32_232 v170
  let v241 : BitVec 32 := Scalar.addi v239 v240
  let c11_i32_233 : BitVec 32 := 11#32
  let v242 : BitVec 32 := Scalar.muli v241 c11_i32_233
  let arg1 : BitVec 32 := BitVec.ofNat 32 (i 1).val
  let v243 : BitVec 32 := Scalar.addi v242 arg1
  let v244 : Index := Scalar.indexCast v243
  let c0_234 : Index := 0#32
  ![v244.toNat, 0]
@[reducible] def k0_t7_loop : Scf.Loop 32 :=
  let c0_i32_238 : BitVec 32 := 0#32
  let c7_i32_239 : BitVec 32 := 7#32
  let v248 : BitVec 32 := Scalar.addi c0_i32_238 c7_i32_239
  let c1_i32_240 : BitVec 32 := 1#32
  ⟨c0_i32_238, v248, c1_i32_240⟩
def k0_off18 (k0_t3 : Fin k0_t3_loop.trips) (k0_t7 : Fin k0_t7_loop.trips) (c0_i32_563 : BitVec 32) : Fin 3 → Nat :=
  let c0_i32_235 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v639 : BitVec 32 := Scalar.muli c7_i32_562 v170
  let c0_i32_238 : BitVec 32 := 0#32
  let c1_i32_240 : BitVec 32 := 1#32
  let arg21 : BitVec 32 := Scf.iv c0_i32_238 c1_i32_240 k0_t7
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off19 (k0_t7 : Fin k0_t7_loop.trips) : Fin 2 → Nat :=
  let c9_i32 : BitVec 32 := 9#32
  let c0_i32_238 : BitVec 32 := 0#32
  let c1_i32_240 : BitVec 32 := 1#32
  let arg21 : BitVec 32 := Scf.iv c0_i32_238 c1_i32_240 k0_t7
  let v687 : BitVec 32 := Scalar.muli c9_i32 arg21
  let v690 : Index := Scalar.indexCast v687
  let c0_585 : Index := 0#32
  ![v690.toNat, 0]
def k0_mult1 (k0_t3 : Fin k0_t3_loop.trips) : BitVec 32 :=
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  v325
def k0_off20 (k0_t3 : Fin k0_t3_loop.trips) : Fin 3 → Nat :=
  let c0_i32_319 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_320 : BitVec 32 := 0#32
  ![0, v326.toNat, 0]
def k0_off21 (k0_t3 : Fin k0_t3_loop.trips) : Fin 3 → Nat :=
  let c0_i32_319 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_320 : BitVec 32 := 0#32
  ![0, v326.toNat, 0]
def k0_off22 (k0_t3 : Fin k0_t3_loop.trips) : Fin 3 → Nat :=
  let c0_i32_323 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_324 : BitVec 32 := 0#32
  ![0, Nat.add v326.toNat 32, 0]
def k0_off23 (k0_t3 : Fin k0_t3_loop.trips) : Fin 3 → Nat :=
  let c0_i32_326 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_327 : BitVec 32 := 0#32
  ![0, Nat.add v326.toNat 64, 0]
def k0_off24 (k0_t3 : Fin k0_t3_loop.trips) : Fin 3 → Nat :=
  let c0_i32_329 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_330 : BitVec 32 := 0#32
  ![0, Nat.add v326.toNat 96, 0]
def k0_off25 (k0_t3 : Fin k0_t3_loop.trips) : Fin 3 → Nat :=
  let c0_i32_342 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_343 : BitVec 32 := 0#32
  ![0, Nat.add v326.toNat 128, 0]
def k0_off26 (k0_t3 : Fin k0_t3_loop.trips) : Fin 3 → Nat :=
  let c0_i32_346 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_347 : BitVec 32 := 0#32
  ![0, Nat.add v326.toNat 160, 0]
def k0_off27 (k0_t3 : Fin k0_t3_loop.trips) : Fin 3 → Nat :=
  let c0_i32_349 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_350 : BitVec 32 := 0#32
  ![0, Nat.add v326.toNat 192, 0]
@[reducible] def k0_t8_loop : Scf.Loop 32 :=
  let c0_i32_354 : BitVec 32 := 0#32
  let c7_i32_355 : BitVec 32 := 7#32
  let v403 : BitVec 32 := Scalar.addi c0_i32_354 c7_i32_355
  let c1_i32_356 : BitVec 32 := 1#32
  ⟨c0_i32_354, v403, c1_i32_356⟩
def k0_off28 (k0_t8 : Fin k0_t8_loop.trips) : Fin 2 → Nat :=
  let c0_i32_354 : BitVec 32 := 0#32
  let c1_i32_356 : BitVec 32 := 1#32
  let arg21 : BitVec 32 := Scf.iv c0_i32_354 c1_i32_356 k0_t8
  let v641 : Index := Scalar.indexCast arg21
  let c0_566 : Index := 0#32
  ![v641.toNat, 0]
def k0_off29 (k0_t8 : Fin k0_t8_loop.trips) : Fin 2 → Nat :=
  let c0_i32_354 : BitVec 32 := 0#32
  let c1_i32_356 : BitVec 32 := 1#32
  let arg21 : BitVec 32 := Scf.iv c0_i32_354 c1_i32_356 k0_t8
  let v645 : Index := Scalar.indexCast arg21
  let c0_571 : Index := 0#32
  ![v645.toNat, 0]
def k0_off30 (k0_t3 : Fin k0_t3_loop.trips) (k0_t8 : Fin k0_t8_loop.trips) (c0_i32_579 : BitVec 32) : Fin 3 → Nat :=
  let c0_i32_353 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_352 : BitVec 32 := 1#32
  let v402 : BitVec 32 := Scalar.addi v167 c1_i32_352
  let v659 : BitVec 32 := Scalar.muli c7_i32_578 v402
  let c0_i32_354 : BitVec 32 := 0#32
  let c1_i32_356 : BitVec 32 := 1#32
  let arg21 : BitVec 32 := Scf.iv c0_i32_354 c1_i32_356 k0_t8
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off31 (k0_t8 : Fin k0_t8_loop.trips) (c0_i32_645 : BitVec 32) : Fin 3 → Nat :=
  let c0_646 : Index := 0#32
  let c32_i32_644 : BitVec 32 := 32#32
  let c0_i32_354 : BitVec 32 := 0#32
  let c1_i32_356 : BitVec 32 := 1#32
  let arg21 : BitVec 32 := Scf.iv c0_i32_354 c1_i32_356 k0_t8
  let v900 : BitVec 32 := Scalar.muli c32_i32_644 arg21
  let v901 : BitVec 32 := Scalar.addi v900 c0_i32_645
  let v902 : Index := Scalar.indexCast v901
  let c0_647 : Index := 0#32
  ![0, v902.toNat, 0]
@[reducible] def k0_t9_loop : Scf.Loop 32 :=
  let c0_i32_359 : BitVec 32 := 0#32
  let c7_i32_360 : BitVec 32 := 7#32
  let v404 : BitVec 32 := Scalar.addi c0_i32_359 c7_i32_360
  let c1_i32_361 : BitVec 32 := 1#32
  ⟨c0_i32_359, v404, c1_i32_361⟩
def k0_off32 (k0_t9 : Fin k0_t9_loop.trips) : Fin 2 → Nat :=
  let c0_i32_359 : BitVec 32 := 0#32
  let c1_i32_361 : BitVec 32 := 1#32
  let arg21 : BitVec 32 := Scf.iv c0_i32_359 c1_i32_361 k0_t9
  let v641 : Index := Scalar.indexCast arg21
  let c0_566 : Index := 0#32
  ![v641.toNat, 0]
def k0_off33 (k0_t9 : Fin k0_t9_loop.trips) : Fin 2 → Nat :=
  let c0_i32_359 : BitVec 32 := 0#32
  let c1_i32_361 : BitVec 32 := 1#32
  let arg21 : BitVec 32 := Scf.iv c0_i32_359 c1_i32_361 k0_t9
  let v645 : Index := Scalar.indexCast arg21
  let c0_571 : Index := 0#32
  ![v645.toNat, 0]
def k0_off34 (k0_t3 : Fin k0_t3_loop.trips) (k0_t9 : Fin k0_t9_loop.trips) (c0_i32_579 : BitVec 32) : Fin 3 → Nat :=
  let c0_i32_358 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_352 : BitVec 32 := 1#32
  let v402 : BitVec 32 := Scalar.addi v167 c1_i32_352
  let v659 : BitVec 32 := Scalar.muli c7_i32_578 v402
  let c0_i32_359 : BitVec 32 := 0#32
  let c1_i32_361 : BitVec 32 := 1#32
  let arg21 : BitVec 32 := Scf.iv c0_i32_359 c1_i32_361 k0_t9
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off35 (k0_t9 : Fin k0_t9_loop.trips) (c0_i32_645 : BitVec 32) : Fin 3 → Nat :=
  let c1_646 : Index := 1#32
  let c32_i32_644 : BitVec 32 := 32#32
  let c0_i32_359 : BitVec 32 := 0#32
  let c1_i32_361 : BitVec 32 := 1#32
  let arg21 : BitVec 32 := Scf.iv c0_i32_359 c1_i32_361 k0_t9
  let v900 : BitVec 32 := Scalar.muli c32_i32_644 arg21
  let v901 : BitVec 32 := Scalar.addi v900 c0_i32_645
  let v902 : Index := Scalar.indexCast v901
  let c0_647 : Index := 0#32
  ![1, v902.toNat, 0]
@[reducible] def k0_t10_loop : Scf.Loop 32 :=
  let c0_i32_367 : BitVec 32 := 0#32
  let c7_i32_368 : BitVec 32 := 7#32
  let v407 : BitVec 32 := Scalar.addi c0_i32_367 c7_i32_368
  let c1_i32_369 : BitVec 32 := 1#32
  ⟨c0_i32_367, v407, c1_i32_369⟩
def k0_off36 (k0_t3 : Fin k0_t3_loop.trips) (k0_t10 : Fin k0_t10_loop.trips) (c0_i32_563 : BitVec 32) : Fin 3 → Nat :=
  let c0_i32_364 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v639 : BitVec 32 := Scalar.muli c7_i32_562 v406
  let c0_i32_367 : BitVec 32 := 0#32
  let c1_i32_369 : BitVec 32 := 1#32
  let arg21 : BitVec 32 := Scf.iv c0_i32_367 c1_i32_369 k0_t10
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off37 (k0_t10 : Fin k0_t10_loop.trips) : Fin 2 → Nat :=
  let c9_i32 : BitVec 32 := 9#32
  let c0_i32_367 : BitVec 32 := 0#32
  let c1_i32_369 : BitVec 32 := 1#32
  let arg21 : BitVec 32 := Scf.iv c0_i32_367 c1_i32_369 k0_t10
  let v687 : BitVec 32 := Scalar.muli c9_i32 arg21
  let v690 : Index := Scalar.indexCast v687
  let c0_585 : Index := 0#32
  ![v690.toNat, 0]
def k0_off38 (k0_t3 : Fin k0_t3_loop.trips) : Fin 2 → Nat :=
  let c7_i32_432 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v469 : BitVec 32 := Scalar.muli c7_i32_432 v406
  let v470 : Index := Scalar.indexCast v469
  let c0_433 : Index := 0#32
  ![v470.toNat, 0]
def k0_off39 (i : grid0.Coords) (k0_t3 : Fin k0_t3_loop.trips) : Fin 2 → Nat :=
  let arg0 : BitVec 32 := BitVec.ofNat 32 (i 0).val
  let c98_i32_434 : BitVec 32 := 98#32
  let v475 : BitVec 32 := Scalar.muli arg0 c98_i32_434
  let c7_i32_435 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v476 : BitVec 32 := Scalar.muli c7_i32_435 v406
  let v477 : BitVec 32 := Scalar.addi v475 v476
  let c11_i32_436 : BitVec 32 := 11#32
  let v478 : BitVec 32 := Scalar.muli v477 c11_i32_436
  let arg1 : BitVec 32 := BitVec.ofNat 32 (i 1).val
  let v479 : BitVec 32 := Scalar.addi v478 arg1
  let v480 : Index := Scalar.indexCast v479
  let c0_437 : Index := 0#32
  ![v480.toNat, 0]
@[reducible] def k0_t11_loop : Scf.Loop 32 :=
  let c0_i32_441 : BitVec 32 := 0#32
  let c7_i32_442 : BitVec 32 := 7#32
  let v484 : BitVec 32 := Scalar.addi c0_i32_441 c7_i32_442
  let c1_i32_443 : BitVec 32 := 1#32
  ⟨c0_i32_441, v484, c1_i32_443⟩
def k0_off40 (k0_t3 : Fin k0_t3_loop.trips) (k0_t11 : Fin k0_t11_loop.trips) (c0_i32_563 : BitVec 32) : Fin 3 → Nat :=
  let c0_i32_438 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v639 : BitVec 32 := Scalar.muli c7_i32_562 v406
  let c0_i32_441 : BitVec 32 := 0#32
  let c1_i32_443 : BitVec 32 := 1#32
  let arg21 : BitVec 32 := Scf.iv c0_i32_441 c1_i32_443 k0_t11
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off41 (k0_t11 : Fin k0_t11_loop.trips) : Fin 2 → Nat :=
  let c9_i32 : BitVec 32 := 9#32
  let c0_i32_441 : BitVec 32 := 0#32
  let c1_i32_443 : BitVec 32 := 1#32
  let arg21 : BitVec 32 := Scf.iv c0_i32_441 c1_i32_443 k0_t11
  let v687 : BitVec 32 := Scalar.muli c9_i32 arg21
  let v690 : Index := Scalar.indexCast v687
  let c0_585 : Index := 0#32
  ![v690.toNat, 0]
def k0_mult2 (k0_t3 : Fin k0_t3_loop.trips) : BitVec 32 :=
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  v562
def k0_off42 (k0_t3 : Fin k0_t3_loop.trips) : Fin 3 → Nat :=
  let c0_i32_524 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_525 : BitVec 32 := 0#32
  ![0, v563.toNat, 0]
def k0_off43 (k0_t3 : Fin k0_t3_loop.trips) : Fin 3 → Nat :=
  let c0_i32_524 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_525 : BitVec 32 := 0#32
  ![0, v563.toNat, 0]
def k0_off44 (k0_t3 : Fin k0_t3_loop.trips) : Fin 3 → Nat :=
  let c0_i32_528 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_529 : BitVec 32 := 0#32
  ![0, Nat.add v563.toNat 32, 0]
def k0_off45 (k0_t3 : Fin k0_t3_loop.trips) : Fin 3 → Nat :=
  let c0_i32_532 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_533 : BitVec 32 := 0#32
  ![0, Nat.add v563.toNat 64, 0]
def k0_off46 (k0_t3 : Fin k0_t3_loop.trips) : Fin 3 → Nat :=
  let c0_i32_536 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_537 : BitVec 32 := 0#32
  ![0, Nat.add v563.toNat 96, 0]
def k0_off47 (k0_t3 : Fin k0_t3_loop.trips) : Fin 3 → Nat :=
  let c0_i32_550 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_551 : BitVec 32 := 0#32
  ![0, Nat.add v563.toNat 128, 0]
def k0_off48 (k0_t3 : Fin k0_t3_loop.trips) : Fin 3 → Nat :=
  let c0_i32_554 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_555 : BitVec 32 := 0#32
  ![0, Nat.add v563.toNat 160, 0]
def k0_off49 (k0_t3 : Fin k0_t3_loop.trips) : Fin 3 → Nat :=
  let c0_i32_558 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_559 : BitVec 32 := 0#32
  ![0, Nat.add v563.toNat 192, 0]
def k0_cond2 (i : grid0.Coords) : BitVec 1 :=
  let arg0 : BitVec 32 := BitVec.ofNat 32 (i 0).val
  let c11_i32_148 : BitVec 32 := 11#32
  let v162 : BitVec 1 := Scalar.cmpi .eq arg0 c11_i32_148
  let arg1 : BitVec 32 := BitVec.ofNat 32 (i 1).val
  let c10_i32 : BitVec 32 := 10#32
  let v163 : BitVec 1 := Scalar.cmpi .eq arg1 c10_i32
  let v164 : BitVec 1 := Scalar.andi v162 v163
  let v165 : BitVec 32 := Scalar.extui v164
  let c0_i32_149 : BitVec 32 := 0#32
  let v166 : BitVec 1 := Scalar.cmpi .ne v165 c0_i32_149
  v166

@[reducible] def k0_t12_loop : Scf.Loop 32 :=
  let c0_i32_151 : BitVec 32 := 0#32
  let c49_i32 : BitVec 32 := 49#32
  let v168 : BitVec 32 := Scalar.addi c0_i32_151 c49_i32
  let c1_i32_152 : BitVec 32 := 1#32
  ⟨c0_i32_151, v168, c1_i32_152⟩
def k0_mult3 (k0_t12 : Fin k0_t12_loop.trips) : BitVec 32 :=
  let c0_i32_151 : BitVec 32 := 0#32
  let c1_i32_152 : BitVec 32 := 1#32
  let arg20 : BitVec 32 := Scf.iv c0_i32_151 c1_i32_152 k0_t12
  let c264_i32 : BitVec 32 := 264#32
  let v209 : BitVec 32 := Scalar.muli arg20 c264_i32
  v209
def k0_off50 (k0_t12 : Fin k0_t12_loop.trips) : Fin 2 → Nat :=
  let c0_i32_151 : BitVec 32 := 0#32
  let c1_i32_152 : BitVec 32 := 1#32
  let arg20 : BitVec 32 := Scf.iv c0_i32_151 c1_i32_152 k0_t12
  let c264_i32 : BitVec 32 := 264#32
  let v209 : BitVec 32 := Scalar.muli arg20 c264_i32
  let v210 : BitVec 32 := v209
  let v211 : Index := Scalar.indexCast v210
  let c0_176 : Index := 0#32
  ![v211.toNat, 0]
@[reducible] def k0_t13_loop : Scf.Loop 32 :=
  let c0_i32_158 : BitVec 32 := 0#32
  let c404_i32 : BitVec 32 := 404#32
  let v176 : BitVec 32 := Scalar.addi c0_i32_158 c404_i32
  let c1_i32_159 : BitVec 32 := 1#32
  ⟨c0_i32_158, v176, c1_i32_159⟩
def k0_mult4 (k0_t13 : Fin k0_t13_loop.trips) : BitVec 32 :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  v209
def k0_off51 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v211 : Index := Scalar.indexCast v210
  let c0_176 : Index := 0#32
  ![v211.toNat, 0]
def k0_off52 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v234 : Index := Scalar.indexCast v210
  let c0_182 : Index := 0#32
  ![v234.toNat, 0]
def k0_off53 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v244 : Index := Scalar.indexCast v210
  let c128_185 : Index := 128#32
  ![v244.toNat, 128]
def k0_off54 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v246 : Index := Scalar.indexCast v210
  let c0_186 : Index := 0#32
  ![v246.toNat, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x6272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6272x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3136x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x98x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S12936x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S12936x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
abbrev S12x6272x2816 : Shape := ⟨3, ![12, 6272, 2816]⟩
abbrev S4 : Shape := ⟨1, ![4]⟩
abbrev S3x8x1 : Shape := ⟨3, ![3, 8, 1]⟩
abbrev S64x256 : Shape := ⟨2, ![64, 256]⟩
abbrev S1x4 : Shape := ⟨2, ![1, 4]⟩
abbrev S64x4 : Shape := ⟨2, ![64, 4]⟩
abbrev S256 : Shape := ⟨1, ![256]⟩
abbrev S_ : Shape := ⟨0, ![]⟩
abbrev S3x8x128 : Shape := ⟨3, ![3, 8, 128]⟩
abbrev S12x3136x2816 : Shape := ⟨3, ![12, 3136, 2816]⟩
abbrev S12x98x2816 : Shape := ⟨3, ![12, 98, 2816]⟩
abbrev S12936x256 : Shape := ⟨2, ![12936, 256]⟩
abbrev S12936x1 : Shape := ⟨2, ![12936, 1]⟩
abbrev S1x1 : Shape := ⟨2, ![1, 1]⟩
abbrev S1x6272x128 : Shape := ⟨3, ![1, 6272, 128]⟩
abbrev S1x3136x256 : Shape := ⟨3, ![1, 3136, 256]⟩
abbrev S1x98x256 : Shape := ⟨3, ![1, 98, 256]⟩
abbrev S2x2x72x128 : Shape := ⟨4, ![2, 2, 72, 128]⟩
abbrev S2x2x72x2x128 : Shape := ⟨5, ![2, 2, 72, 2, 128]⟩
abbrev S2x2x72x1x128 : Shape := ⟨5, ![2, 2, 72, 1, 128]⟩
abbrev S2x2x8x128 : Shape := ⟨4, ![2, 2, 8, 128]⟩
abbrev S2x2x8x2x128 : Shape := ⟨5, ![2, 2, 8, 2, 128]⟩
abbrev S2x2x8x1x128 : Shape := ⟨5, ![2, 2, 8, 1, 128]⟩
abbrev S2x224x128 : Shape := ⟨3, ![2, 224, 128]⟩
abbrev S2x224x2x128 : Shape := ⟨4, ![2, 224, 2, 128]⟩
abbrev S2x224x1x128 : Shape := ⟨4, ![2, 224, 1, 128]⟩
abbrev S98x128 : Shape := ⟨2, ![98, 128]⟩
abbrev S12936x128 : Shape := ⟨2, ![12936, 128]⟩
abbrev S1x3136x128 : Shape := ⟨3, ![1, 3136, 128]⟩
abbrev S3136x128 : Shape := ⟨2, ![3136, 128]⟩
abbrev S8x128 : Shape := ⟨2, ![8, 128]⟩
abbrev S1x16x128 : Shape := ⟨3, ![1, 16, 128]⟩
abbrev S1x8x128 : Shape := ⟨3, ![1, 8, 128]⟩
abbrev S16x128 : Shape := ⟨2, ![16, 128]⟩
abbrev S1x1x72x2x128 : Shape := ⟨5, ![1, 1, 72, 2, 128]⟩
abbrev S72x2x128 : Shape := ⟨3, ![72, 2, 128]⟩
abbrev S8x2x128 : Shape := ⟨3, ![8, 2, 128]⟩
abbrev S8x1x128 : Shape := ⟨3, ![8, 1, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S7x128 : Shape := ⟨2, ![7, 128]⟩
abbrev S1x128 : Shape := ⟨2, ![1, 128]⟩
abbrev S1x2x128 : Shape := ⟨3, ![1, 2, 128]⟩
abbrev S1x1x128 : Shape := ⟨3, ![1, 1, 128]⟩
abbrev S2x128 : Shape := ⟨2, ![2, 128]⟩
abbrev S8x128x1 : Shape := ⟨3, ![8, 128, 1]⟩
abbrev S1x8x2x128 : Shape := ⟨4, ![1, 8, 2, 128]⟩
abbrev S1x8x1x128 : Shape := ⟨4, ![1, 8, 1, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S128x128 : Shape := ⟨2, ![128, 128]⟩
abbrev S256x128 : Shape := ⟨2, ![256, 128]⟩
abbrev S256x256 : Shape := ⟨2, ![256, 256]⟩
abbrev S16x256 : Shape := ⟨2, ![16, 256]⟩
abbrev S8x256 : Shape := ⟨2, ![8, 256]⟩
abbrev S32x256 : Shape := ⟨2, ![32, 256]⟩
abbrev S1x224x256 : Shape := ⟨3, ![1, 224, 256]⟩
abbrev S224x256 : Shape := ⟨2, ![224, 256]⟩
abbrev S1x32x256 : Shape := ⟨3, ![1, 32, 256]⟩
abbrev S1x96x128 : Shape := ⟨3, ![1, 96, 128]⟩
abbrev S1x96x2x128 : Shape := ⟨4, ![1, 96, 2, 128]⟩
abbrev S1x96x1x128 : Shape := ⟨4, ![1, 96, 1, 128]⟩
abbrev S96x128 : Shape := ⟨2, ![96, 128]⟩
abbrev S192x128 : Shape := ⟨2, ![192, 128]⟩
abbrev S192x256 : Shape := ⟨2, ![192, 256]⟩
abbrev S48x192 : Shape := ⟨2, ![48, 192]⟩
abbrev S48x256 : Shape := ⟨2, ![48, 256]⟩
abbrev S1x98x128 : Shape := ⟨3, ![1, 98, 128]⟩
abbrev S264x128 : Shape := ⟨2, ![264, 128]⟩
abbrev S33x8x128 : Shape := ⟨3, ![33, 8, 128]⟩
abbrev S1 : Shape := ⟨1, ![1]⟩
abbrev S1x1x1 : Shape := ⟨3, ![1, 1, 1]⟩
abbrev S32x128 : Shape := ⟨2, ![32, 128]⟩
abbrev S32 : Shape := ⟨1, ![32]⟩
abbrev S32x1 : Shape := ⟨2, ![32, 1]⟩
abbrev S8 : Shape := ⟨1, ![8]⟩
abbrev S8x1 : Shape := ⟨2, ![8, 1]⟩

abbrev nBuf : Space → Nat
  | .hbm => 24
  | .vmem => 21
  | .smem => 1
  | _ => 0

abbrev bufTy : (tb : Table) → Fin (tcTables nBuf tb) → BufTy
  | .hbm, ⟨0, _⟩ => ⟨S12x6272x2816, .bf16⟩
  | .hbm, ⟨1, _⟩ => ⟨S4, .f32⟩
  | .hbm, ⟨2, _⟩ => ⟨S3x8x1, .i32⟩
  | .hbm, ⟨3, _⟩ => ⟨S64x256, .i32⟩
  | .hbm, ⟨4, _⟩ => ⟨S64x256, .i32⟩
  | .hbm, ⟨5, _⟩ => ⟨S1x4, .f32⟩
  | .hbm, ⟨6, _⟩ => ⟨S64x4, .f32⟩
  | .hbm, ⟨7, _⟩ => ⟨S256, .f32⟩
  | .hbm, ⟨8, _⟩ => ⟨S64x256, .f32⟩
  | .hbm, ⟨9, _⟩ => ⟨S_, .i32⟩
  | .hbm, ⟨10, _⟩ => ⟨S64x256, .i32⟩
  | .hbm, ⟨11, _⟩ => ⟨S64x256, .i32⟩
  | .hbm, ⟨12, _⟩ => ⟨S64x256, .i1⟩
  | .hbm, ⟨13, _⟩ => ⟨S_, .f32⟩
  | .hbm, ⟨14, _⟩ => ⟨S_, .f32⟩
  | .hbm, ⟨15, _⟩ => ⟨S64x256, .f32⟩
  | .hbm, ⟨16, _⟩ => ⟨S64x256, .f32⟩
  | .hbm, ⟨17, _⟩ => ⟨S3x8x128, .i32⟩
  | .hbm, ⟨18, _⟩ => ⟨S64x256, .bf16⟩
  | .hbm, ⟨19, _⟩ => ⟨S12x3136x2816, .i8⟩
  | .hbm, ⟨20, _⟩ => ⟨S12x98x2816, .f32⟩
  | .hbm, ⟨21, _⟩ => ⟨S12936x256, .i8⟩
  | .hbm, ⟨22, _⟩ => ⟨S12936x1, .f32⟩
  | .hbm, ⟨23, _⟩ => ⟨S1x1, .f32⟩
  | .local _ .vmem, ⟨0, _⟩ => ⟨S1x6272x128, .bf16⟩
  | .local _ .vmem, ⟨1, _⟩ => ⟨S1x6272x128, .bf16⟩
  | .local _ .vmem, ⟨2, _⟩ => ⟨S1x6272x128, .bf16⟩
  | .local _ .vmem, ⟨3, _⟩ => ⟨S1x6272x128, .bf16⟩
  | .local _ .vmem, ⟨4, _⟩ => ⟨S3x8x128, .i32⟩
  | .local _ .vmem, ⟨5, _⟩ => ⟨S64x256, .bf16⟩
  | .local _ .vmem, ⟨6, _⟩ => ⟨S1x3136x256, .i8⟩
  | .local _ .vmem, ⟨7, _⟩ => ⟨S1x3136x256, .i8⟩
  | .local _ .vmem, ⟨8, _⟩ => ⟨S1x98x256, .f32⟩
  | .local _ .vmem, ⟨9, _⟩ => ⟨S1x98x256, .f32⟩
  | .local _ .vmem, ⟨10, _⟩ => ⟨S12936x256, .i8⟩
  | .local _ .vmem, ⟨11, _⟩ => ⟨S12936x1, .f32⟩
  | .local _ .vmem, ⟨12, _⟩ => ⟨S2x2x72x2x128, .bf16⟩
  | .local _ .vmem, ⟨13, _⟩ => ⟨S2x2x8x128, .f32⟩
  | .local _ .vmem, ⟨14, _⟩ => ⟨S2x2x8x2x128, .bf16⟩
  | .local _ .vmem, ⟨15, _⟩ => ⟨S2x224x2x128, .bf16⟩
  | .local _ .vmem, ⟨16, _⟩ => ⟨S2x224x2x128, .bf16⟩
  | .local _ .vmem, ⟨17, _⟩ => ⟨S98x128, .f32⟩
  | .local _ .vmem, ⟨18, _⟩ => ⟨S98x128, .f32⟩
  | .local _ .vmem, ⟨19, _⟩ => ⟨S12936x128, .f32⟩
  | .local _ .vmem, ⟨20, _⟩ => ⟨S12936x128, .f32⟩
  | .local _ .smem, ⟨0, _⟩ => ⟨S1x1, .f32⟩
  | _, _ => ⟨S12x6272x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![12, 11], ![false, false]⟩

@[reducible] def k0_t1_loop : Scf.Loop 32 :=
  let c0_i32_5 : BitVec 32 := 0#32
  let c7_i32 : BitVec 32 := 7#32
  let v5 : BitVec 32 := Scalar.addi c0_i32_5 c7_i32
  let c1_i32 : BitVec 32 := 1#32
  ⟨c0_i32_5, v5, c1_i32⟩
def k0_off1 (k0_t1 : Fin k0_t1_loop.trips) (c0_i32_151 : BitVec 32) : Fin 3 → Nat :=
  let c0_i32_2 : BitVec 32 := 0#32
  let c32_i32 : BitVec 32 := 32#32
  let c0_i32_150 : BitVec 32 := 0#32
  let c0_i32_5 : BitVec 32 := 0#32
  let c1_i32 : BitVec 32 := 1#32
  let arg20 : BitVec 32 := Scf.iv c0_i32_5 c1_i32 k0_t1
  let v167 : BitVec 32 := Scalar.addi c0_i32_150 arg20
  let v168 : BitVec 32 := Scalar.muli c32_i32 v167
  let v169 : BitVec 32 := Scalar.addi v168 c0_i32_151
  let v173 : Index := Scalar.indexCast v169
  let c0_i32_153 : BitVec 32 := 0#32
  ![0, Nat.mul 2 v173.toNat, 0]
def k0_off2 (k0_t1 : Fin k0_t1_loop.trips) : Fin 3 → Nat :=
  let c9_i32 : BitVec 32 := 9#32
  let c0_i32_5 : BitVec 32 := 0#32
  let c1_i32 : BitVec 32 := 1#32
  let arg20 : BitVec 32 := Scf.iv c0_i32_5 c1_i32 k0_t1
  let v211 : BitVec 32 := Scalar.muli c9_i32 arg20
  let v214 : Index := Scalar.indexCast v211
  let c0_173 : Index := 0#32
  ![v214.toNat, 0, 0]
def k0_off3 (i : grid0.Coords) : Fin 2 → Nat :=
  let arg0 : BitVec 32 := BitVec.ofNat 32 (i 0).val
  let c98_i32 : BitVec 32 := 98#32
  let v71 : BitVec 32 := Scalar.muli arg0 c98_i32
  let c0_i32_59 : BitVec 32 := 0#32
  let v72 : BitVec 32 := Scalar.addi v71 c0_i32_59
  let c11_i32 : BitVec 32 := 11#32
  let v73 : BitVec 32 := Scalar.muli v72 c11_i32
  let arg1 : BitVec 32 := BitVec.ofNat 32 (i 1).val
  let v74 : BitVec 32 := Scalar.addi v73 arg1
  let v75 : Index := Scalar.indexCast v74
  let c0_60 : Index := 0#32
  ![v75.toNat, 0]
@[reducible] def k0_t2_loop : Scf.Loop 32 :=
  let c0_i32_64 : BitVec 32 := 0#32
  let c7_i32_65 : BitVec 32 := 7#32
  let v79 : BitVec 32 := Scalar.addi c0_i32_64 c7_i32_65
  let c1_i32_66 : BitVec 32 := 1#32
  ⟨c0_i32_64, v79, c1_i32_66⟩
def k0_off4 (k0_t2 : Fin k0_t2_loop.trips) (c0_i32_151 : BitVec 32) : Fin 3 → Nat :=
  let c0_i32_61 : BitVec 32 := 0#32
  let c32_i32 : BitVec 32 := 32#32
  let c0_i32_150 : BitVec 32 := 0#32
  let c0_i32_64 : BitVec 32 := 0#32
  let c1_i32_66 : BitVec 32 := 1#32
  let arg20 : BitVec 32 := Scf.iv c0_i32_64 c1_i32_66 k0_t2
  let v167 : BitVec 32 := Scalar.addi c0_i32_150 arg20
  let v168 : BitVec 32 := Scalar.muli c32_i32 v167
  let v169 : BitVec 32 := Scalar.addi v168 c0_i32_151
  let v173 : Index := Scalar.indexCast v169
  let c0_i32_153 : BitVec 32 := 0#32
  ![0, Nat.mul 2 v173.toNat, 0]
def k0_off5 (k0_t2 : Fin k0_t2_loop.trips) : Fin 3 → Nat :=
  let c9_i32 : BitVec 32 := 9#32
  let c0_i32_64 : BitVec 32 := 0#32
  let c1_i32_66 : BitVec 32 := 1#32
  let arg20 : BitVec 32 := Scf.iv c0_i32_64 c1_i32_66 k0_t2
  let v211 : BitVec 32 := Scalar.muli c9_i32 arg20
  let v214 : Index := Scalar.indexCast v211
  let c0_173 : Index := 0#32
  ![v214.toNat, 0, 0]
@[reducible] def k0_t3_loop : Scf.Loop 32 :=
  let c0_i32_135 : BitVec 32 := 0#32
  let c7_i32_136 : BitVec 32 := 7#32
  let v153 : BitVec 32 := Scalar.addi c0_i32_135 c7_i32_136
  let c1_i32_137 : BitVec 32 := 1#32
  ⟨c0_i32_135, v153, c1_i32_137⟩
@[reducible] def k0_t4_loop : Scf.Loop 32 :=
  let c0_i32_151 : BitVec 32 := 0#32
  let c7_i32_152 : BitVec 32 := 7#32
  let v168 : BitVec 32 := Scalar.addi c0_i32_151 c7_i32_152
  let c1_i32_153 : BitVec 32 := 1#32
  ⟨c0_i32_151, v168, c1_i32_153⟩
def k0_off6 (k0_t4 : Fin k0_t4_loop.trips) : Fin 2 → Nat :=
  let c0_i32_151 : BitVec 32 := 0#32
  let c1_i32_153 : BitVec 32 := 1#32
  let arg21 : BitVec 32 := Scf.iv c0_i32_151 c1_i32_153 k0_t4
  let v641 : Index := Scalar.indexCast arg21
  let c0_566 : Index := 0#32
  ![v641.toNat, 0]
def k0_off7 (k0_t4 : Fin k0_t4_loop.trips) : Fin 3 → Nat :=
  let c0_i32_151 : BitVec 32 := 0#32
  let c1_i32_153 : BitVec 32 := 1#32
  let arg21 : BitVec 32 := Scf.iv c0_i32_151 c1_i32_153 k0_t4
  let v645 : Index := Scalar.indexCast arg21
  let c0_571 : Index := 0#32
  ![v645.toNat, 0, 0]
def k0_off8 (k0_t3 : Fin k0_t3_loop.trips) (k0_t4 : Fin k0_t4_loop.trips) (c0_i32_579 : BitVec 32) : Fin 3 → Nat :=
  let c0_i32_150 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v659 : BitVec 32 := Scalar.muli c7_i32_578 v167
  let c0_i32_151 : BitVec 32 := 0#32
  let c1_i32_153 : BitVec 32 := 1#32
  let arg21 : BitVec 32 := Scf.iv c0_i32_151 c1_i32_153 k0_t4
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off9 (k0_t4 : Fin k0_t4_loop.trips) (c0_i32_645 : BitVec 32) : Fin 4 → Nat :=
  let c0_646 : Index := 0#32
  let c32_i32_644 : BitVec 32 := 32#32
  let c0_i32_151 : BitVec 32 := 0#32
  let c1_i32_153 : BitVec 32 := 1#32
  let arg21 : BitVec 32 := Scf.iv c0_i32_151 c1_i32_153 k0_t4
  let v900 : BitVec 32 := Scalar.muli c32_i32_644 arg21
  let v901 : BitVec 32 := Scalar.addi v900 c0_i32_645
  let v902 : Index := Scalar.indexCast v901
  let c0_647 : Index := 0#32
  ![0, v902.toNat, 0, 0]
@[reducible] def k0_t5_loop : Scf.Loop 32 :=
  let c0_i32_156 : BitVec 32 := 0#32
  let c7_i32_157 : BitVec 32 := 7#32
  let v169 : BitVec 32 := Scalar.addi c0_i32_156 c7_i32_157
  let c1_i32_158 : BitVec 32 := 1#32
  ⟨c0_i32_156, v169, c1_i32_158⟩
def k0_off10 (k0_t5 : Fin k0_t5_loop.trips) : Fin 2 → Nat :=
  let c0_i32_156 : BitVec 32 := 0#32
  let c1_i32_158 : BitVec 32 := 1#32
  let arg21 : BitVec 32 := Scf.iv c0_i32_156 c1_i32_158 k0_t5
  let v641 : Index := Scalar.indexCast arg21
  let c0_566 : Index := 0#32
  ![v641.toNat, 0]
def k0_off11 (k0_t5 : Fin k0_t5_loop.trips) : Fin 3 → Nat :=
  let c0_i32_156 : BitVec 32 := 0#32
  let c1_i32_158 : BitVec 32 := 1#32
  let arg21 : BitVec 32 := Scf.iv c0_i32_156 c1_i32_158 k0_t5
  let v645 : Index := Scalar.indexCast arg21
  let c0_571 : Index := 0#32
  ![v645.toNat, 0, 0]
def k0_off12 (k0_t3 : Fin k0_t3_loop.trips) (k0_t5 : Fin k0_t5_loop.trips) (c0_i32_579 : BitVec 32) : Fin 3 → Nat :=
  let c0_i32_155 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v659 : BitVec 32 := Scalar.muli c7_i32_578 v167
  let c0_i32_156 : BitVec 32 := 0#32
  let c1_i32_158 : BitVec 32 := 1#32
  let arg21 : BitVec 32 := Scf.iv c0_i32_156 c1_i32_158 k0_t5
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off13 (k0_t5 : Fin k0_t5_loop.trips) (c0_i32_645 : BitVec 32) : Fin 4 → Nat :=
  let c1_646 : Index := 1#32
  let c32_i32_644 : BitVec 32 := 32#32
  let c0_i32_156 : BitVec 32 := 0#32
  let c1_i32_158 : BitVec 32 := 1#32
  let arg21 : BitVec 32 := Scf.iv c0_i32_156 c1_i32_158 k0_t5
  let v900 : BitVec 32 := Scalar.muli c32_i32_644 arg21
  let v901 : BitVec 32 := Scalar.addi v900 c0_i32_645
  let v902 : Index := Scalar.indexCast v901
  let c0_647 : Index := 0#32
  ![1, v902.toNat, 0, 0]
@[reducible] def k0_t6_loop : Scf.Loop 32 :=
  let c0_i32_164 : BitVec 32 := 0#32
  let c7_i32_165 : BitVec 32 := 7#32
  let v171 : BitVec 32 := Scalar.addi c0_i32_164 c7_i32_165
  let c1_i32_166 : BitVec 32 := 1#32
  ⟨c0_i32_164, v171, c1_i32_166⟩
def k0_off14 (k0_t3 : Fin k0_t3_loop.trips) (k0_t6 : Fin k0_t6_loop.trips) (c0_i32_563 : BitVec 32) : Fin 3 → Nat :=
  let c0_i32_161 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v639 : BitVec 32 := Scalar.muli c7_i32_562 v170
  let c0_i32_164 : BitVec 32 := 0#32
  let c1_i32_166 : BitVec 32 := 1#32
  let arg21 : BitVec 32 := Scf.iv c0_i32_164 c1_i32_166 k0_t6
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off15 (k0_t6 : Fin k0_t6_loop.trips) : Fin 3 → Nat :=
  let c9_i32 : BitVec 32 := 9#32
  let c0_i32_164 : BitVec 32 := 0#32
  let c1_i32_166 : BitVec 32 := 1#32
  let arg21 : BitVec 32 := Scf.iv c0_i32_164 c1_i32_166 k0_t6
  let v687 : BitVec 32 := Scalar.muli c9_i32 arg21
  let v690 : Index := Scalar.indexCast v687
  let c0_585 : Index := 0#32
  ![v690.toNat, 0, 0]
def k0_off16 (k0_t3 : Fin k0_t3_loop.trips) : Fin 2 → Nat :=
  let c7_i32_229 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v233 : BitVec 32 := Scalar.muli c7_i32_229 v170
  let v234 : Index := Scalar.indexCast v233
  let c0_230 : Index := 0#32
  ![v234.toNat, 0]
def k0_off17 (i : grid0.Coords) (k0_t3 : Fin k0_t3_loop.trips) : Fin 2 → Nat :=
  let arg0 : BitVec 32 := BitVec.ofNat 32 (i 0).val
  let c98_i32_231 : BitVec 32 := 98#32
  let v239 : BitVec 32 := Scalar.muli arg0 c98_i32_231
  let c7_i32_232 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v240 : BitVec 32 := Scalar.muli c7_i32_232 v170
  let v241 : BitVec 32 := Scalar.addi v239 v240
  let c11_i32_233 : BitVec 32 := 11#32
  let v242 : BitVec 32 := Scalar.muli v241 c11_i32_233
  let arg1 : BitVec 32 := BitVec.ofNat 32 (i 1).val
  let v243 : BitVec 32 := Scalar.addi v242 arg1
  let v244 : Index := Scalar.indexCast v243
  let c0_234 : Index := 0#32
  ![v244.toNat, 0]
@[reducible] def k0_t7_loop : Scf.Loop 32 :=
  let c0_i32_238 : BitVec 32 := 0#32
  let c7_i32_239 : BitVec 32 := 7#32
  let v248 : BitVec 32 := Scalar.addi c0_i32_238 c7_i32_239
  let c1_i32_240 : BitVec 32 := 1#32
  ⟨c0_i32_238, v248, c1_i32_240⟩
def k0_off18 (k0_t3 : Fin k0_t3_loop.trips) (k0_t7 : Fin k0_t7_loop.trips) (c0_i32_563 : BitVec 32) : Fin 3 → Nat :=
  let c0_i32_235 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_160 : BitVec 32 := 1#32
  let v170 : BitVec 32 := Scalar.addi v167 c1_i32_160
  let v639 : BitVec 32 := Scalar.muli c7_i32_562 v170
  let c0_i32_238 : BitVec 32 := 0#32
  let c1_i32_240 : BitVec 32 := 1#32
  let arg21 : BitVec 32 := Scf.iv c0_i32_238 c1_i32_240 k0_t7
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off19 (k0_t7 : Fin k0_t7_loop.trips) : Fin 3 → Nat :=
  let c9_i32 : BitVec 32 := 9#32
  let c0_i32_238 : BitVec 32 := 0#32
  let c1_i32_240 : BitVec 32 := 1#32
  let arg21 : BitVec 32 := Scf.iv c0_i32_238 c1_i32_240 k0_t7
  let v687 : BitVec 32 := Scalar.muli c9_i32 arg21
  let v690 : Index := Scalar.indexCast v687
  let c0_585 : Index := 0#32
  ![v690.toNat, 0, 0]
def k0_mult1 (k0_t3 : Fin k0_t3_loop.trips) : BitVec 32 :=
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  v325
def k0_off20 (k0_t3 : Fin k0_t3_loop.trips) : Fin 3 → Nat :=
  let c0_i32_319 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_320 : BitVec 32 := 0#32
  ![0, v326.toNat, 0]
def k0_off21 (k0_t3 : Fin k0_t3_loop.trips) : Fin 3 → Nat :=
  let c0_i32_319 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_320 : BitVec 32 := 0#32
  ![0, v326.toNat, 0]
def k0_off22 (k0_t3 : Fin k0_t3_loop.trips) : Fin 3 → Nat :=
  let c0_i32_323 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_324 : BitVec 32 := 0#32
  ![0, Nat.add v326.toNat 32, 0]
def k0_off23 (k0_t3 : Fin k0_t3_loop.trips) : Fin 3 → Nat :=
  let c0_i32_326 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_327 : BitVec 32 := 0#32
  ![0, Nat.add v326.toNat 64, 0]
def k0_off24 (k0_t3 : Fin k0_t3_loop.trips) : Fin 3 → Nat :=
  let c0_i32_329 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_330 : BitVec 32 := 0#32
  ![0, Nat.add v326.toNat 96, 0]
def k0_off25 (k0_t3 : Fin k0_t3_loop.trips) : Fin 3 → Nat :=
  let c0_i32_342 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_343 : BitVec 32 := 0#32
  ![0, Nat.add v326.toNat 128, 0]
def k0_off26 (k0_t3 : Fin k0_t3_loop.trips) : Fin 3 → Nat :=
  let c0_i32_346 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_347 : BitVec 32 := 0#32
  ![0, Nat.add v326.toNat 160, 0]
def k0_off27 (k0_t3 : Fin k0_t3_loop.trips) : Fin 3 → Nat :=
  let c0_i32_349 : BitVec 32 := 0#32
  let c224_i32 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let v325 : BitVec 32 := Scalar.muli c224_i32 v167
  let v326 : BitVec 32 := v325
  let c0_i32_350 : BitVec 32 := 0#32
  ![0, Nat.add v326.toNat 192, 0]
@[reducible] def k0_t8_loop : Scf.Loop 32 :=
  let c0_i32_354 : BitVec 32 := 0#32
  let c7_i32_355 : BitVec 32 := 7#32
  let v403 : BitVec 32 := Scalar.addi c0_i32_354 c7_i32_355
  let c1_i32_356 : BitVec 32 := 1#32
  ⟨c0_i32_354, v403, c1_i32_356⟩
def k0_off28 (k0_t8 : Fin k0_t8_loop.trips) : Fin 2 → Nat :=
  let c0_i32_354 : BitVec 32 := 0#32
  let c1_i32_356 : BitVec 32 := 1#32
  let arg21 : BitVec 32 := Scf.iv c0_i32_354 c1_i32_356 k0_t8
  let v641 : Index := Scalar.indexCast arg21
  let c0_566 : Index := 0#32
  ![v641.toNat, 0]
def k0_off29 (k0_t8 : Fin k0_t8_loop.trips) : Fin 3 → Nat :=
  let c0_i32_354 : BitVec 32 := 0#32
  let c1_i32_356 : BitVec 32 := 1#32
  let arg21 : BitVec 32 := Scf.iv c0_i32_354 c1_i32_356 k0_t8
  let v645 : Index := Scalar.indexCast arg21
  let c0_571 : Index := 0#32
  ![v645.toNat, 0, 0]
def k0_off30 (k0_t3 : Fin k0_t3_loop.trips) (k0_t8 : Fin k0_t8_loop.trips) (c0_i32_579 : BitVec 32) : Fin 3 → Nat :=
  let c0_i32_353 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_352 : BitVec 32 := 1#32
  let v402 : BitVec 32 := Scalar.addi v167 c1_i32_352
  let v659 : BitVec 32 := Scalar.muli c7_i32_578 v402
  let c0_i32_354 : BitVec 32 := 0#32
  let c1_i32_356 : BitVec 32 := 1#32
  let arg21 : BitVec 32 := Scf.iv c0_i32_354 c1_i32_356 k0_t8
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off31 (k0_t8 : Fin k0_t8_loop.trips) (c0_i32_645 : BitVec 32) : Fin 4 → Nat :=
  let c0_646 : Index := 0#32
  let c32_i32_644 : BitVec 32 := 32#32
  let c0_i32_354 : BitVec 32 := 0#32
  let c1_i32_356 : BitVec 32 := 1#32
  let arg21 : BitVec 32 := Scf.iv c0_i32_354 c1_i32_356 k0_t8
  let v900 : BitVec 32 := Scalar.muli c32_i32_644 arg21
  let v901 : BitVec 32 := Scalar.addi v900 c0_i32_645
  let v902 : Index := Scalar.indexCast v901
  let c0_647 : Index := 0#32
  ![0, v902.toNat, 0, 0]
@[reducible] def k0_t9_loop : Scf.Loop 32 :=
  let c0_i32_359 : BitVec 32 := 0#32
  let c7_i32_360 : BitVec 32 := 7#32
  let v404 : BitVec 32 := Scalar.addi c0_i32_359 c7_i32_360
  let c1_i32_361 : BitVec 32 := 1#32
  ⟨c0_i32_359, v404, c1_i32_361⟩
def k0_off32 (k0_t9 : Fin k0_t9_loop.trips) : Fin 2 → Nat :=
  let c0_i32_359 : BitVec 32 := 0#32
  let c1_i32_361 : BitVec 32 := 1#32
  let arg21 : BitVec 32 := Scf.iv c0_i32_359 c1_i32_361 k0_t9
  let v641 : Index := Scalar.indexCast arg21
  let c0_566 : Index := 0#32
  ![v641.toNat, 0]
def k0_off33 (k0_t9 : Fin k0_t9_loop.trips) : Fin 3 → Nat :=
  let c0_i32_359 : BitVec 32 := 0#32
  let c1_i32_361 : BitVec 32 := 1#32
  let arg21 : BitVec 32 := Scf.iv c0_i32_359 c1_i32_361 k0_t9
  let v645 : Index := Scalar.indexCast arg21
  let c0_571 : Index := 0#32
  ![v645.toNat, 0, 0]
def k0_off34 (k0_t3 : Fin k0_t3_loop.trips) (k0_t9 : Fin k0_t9_loop.trips) (c0_i32_579 : BitVec 32) : Fin 3 → Nat :=
  let c0_i32_358 : BitVec 32 := 0#32
  let c32_i32 : BitVec 32 := 32#32
  let c7_i32_578 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_352 : BitVec 32 := 1#32
  let v402 : BitVec 32 := Scalar.addi v167 c1_i32_352
  let v659 : BitVec 32 := Scalar.muli c7_i32_578 v402
  let c0_i32_359 : BitVec 32 := 0#32
  let c1_i32_361 : BitVec 32 := 1#32
  let arg21 : BitVec 32 := Scf.iv c0_i32_359 c1_i32_361 k0_t9
  let v660 : BitVec 32 := Scalar.addi v659 arg21
  let v661 : BitVec 32 := Scalar.muli c32_i32 v660
  let v662 : BitVec 32 := Scalar.addi v661 c0_i32_579
  let v666 : Index := Scalar.indexCast v662
  let c0_i32_581 : BitVec 32 := 0#32
  ![0, Nat.mul 2 v666.toNat, 0]
def k0_off35 (k0_t9 : Fin k0_t9_loop.trips) (c0_i32_645 : BitVec 32) : Fin 4 → Nat :=
  let c1_646 : Index := 1#32
  let c32_i32_644 : BitVec 32 := 32#32
  let c0_i32_359 : BitVec 32 := 0#32
  let c1_i32_361 : BitVec 32 := 1#32
  let arg21 : BitVec 32 := Scf.iv c0_i32_359 c1_i32_361 k0_t9
  let v900 : BitVec 32 := Scalar.muli c32_i32_644 arg21
  let v901 : BitVec 32 := Scalar.addi v900 c0_i32_645
  let v902 : Index := Scalar.indexCast v901
  let c0_647 : Index := 0#32
  ![1, v902.toNat, 0, 0]
@[reducible] def k0_t10_loop : Scf.Loop 32 :=
  let c0_i32_367 : BitVec 32 := 0#32
  let c7_i32_368 : BitVec 32 := 7#32
  let v407 : BitVec 32 := Scalar.addi c0_i32_367 c7_i32_368
  let c1_i32_369 : BitVec 32 := 1#32
  ⟨c0_i32_367, v407, c1_i32_369⟩
def k0_off36 (k0_t3 : Fin k0_t3_loop.trips) (k0_t10 : Fin k0_t10_loop.trips) (c0_i32_563 : BitVec 32) : Fin 3 → Nat :=
  let c0_i32_364 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v639 : BitVec 32 := Scalar.muli c7_i32_562 v406
  let c0_i32_367 : BitVec 32 := 0#32
  let c1_i32_369 : BitVec 32 := 1#32
  let arg21 : BitVec 32 := Scf.iv c0_i32_367 c1_i32_369 k0_t10
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off37 (k0_t10 : Fin k0_t10_loop.trips) : Fin 3 → Nat :=
  let c9_i32 : BitVec 32 := 9#32
  let c0_i32_367 : BitVec 32 := 0#32
  let c1_i32_369 : BitVec 32 := 1#32
  let arg21 : BitVec 32 := Scf.iv c0_i32_367 c1_i32_369 k0_t10
  let v687 : BitVec 32 := Scalar.muli c9_i32 arg21
  let v690 : Index := Scalar.indexCast v687
  let c0_585 : Index := 0#32
  ![v690.toNat, 0, 0]
def k0_off38 (k0_t3 : Fin k0_t3_loop.trips) : Fin 2 → Nat :=
  let c7_i32_432 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v469 : BitVec 32 := Scalar.muli c7_i32_432 v406
  let v470 : Index := Scalar.indexCast v469
  let c0_433 : Index := 0#32
  ![v470.toNat, 0]
def k0_off39 (i : grid0.Coords) (k0_t3 : Fin k0_t3_loop.trips) : Fin 2 → Nat :=
  let arg0 : BitVec 32 := BitVec.ofNat 32 (i 0).val
  let c98_i32_434 : BitVec 32 := 98#32
  let v475 : BitVec 32 := Scalar.muli arg0 c98_i32_434
  let c7_i32_435 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v476 : BitVec 32 := Scalar.muli c7_i32_435 v406
  let v477 : BitVec 32 := Scalar.addi v475 v476
  let c11_i32_436 : BitVec 32 := 11#32
  let v478 : BitVec 32 := Scalar.muli v477 c11_i32_436
  let arg1 : BitVec 32 := BitVec.ofNat 32 (i 1).val
  let v479 : BitVec 32 := Scalar.addi v478 arg1
  let v480 : Index := Scalar.indexCast v479
  let c0_437 : Index := 0#32
  ![v480.toNat, 0]
@[reducible] def k0_t11_loop : Scf.Loop 32 :=
  let c0_i32_441 : BitVec 32 := 0#32
  let c7_i32_442 : BitVec 32 := 7#32
  let v484 : BitVec 32 := Scalar.addi c0_i32_441 c7_i32_442
  let c1_i32_443 : BitVec 32 := 1#32
  ⟨c0_i32_441, v484, c1_i32_443⟩
def k0_off40 (k0_t3 : Fin k0_t3_loop.trips) (k0_t11 : Fin k0_t11_loop.trips) (c0_i32_563 : BitVec 32) : Fin 3 → Nat :=
  let c0_i32_438 : BitVec 32 := 0#32
  let c32_i32 : BitVec 32 := 32#32
  let c7_i32_562 : BitVec 32 := 7#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c2_i32_363 : BitVec 32 := 2#32
  let v405 : BitVec 32 := Scalar.addi v167 c2_i32_363
  let c13_i32 : BitVec 32 := 13#32
  let v406 : BitVec 32 := Scalar.minsi v405 c13_i32
  let v639 : BitVec 32 := Scalar.muli c7_i32_562 v406
  let c0_i32_441 : BitVec 32 := 0#32
  let c1_i32_443 : BitVec 32 := 1#32
  let arg21 : BitVec 32 := Scf.iv c0_i32_441 c1_i32_443 k0_t11
  let v640 : BitVec 32 := Scalar.addi v639 arg21
  let v641 : BitVec 32 := Scalar.muli c32_i32 v640
  let v642 : BitVec 32 := Scalar.addi v641 c0_i32_563
  let v646 : Index := Scalar.indexCast v642
  let c0_i32_565 : BitVec 32 := 0#32
  ![0, Nat.mul 2 v646.toNat, 0]
def k0_off41 (k0_t11 : Fin k0_t11_loop.trips) : Fin 3 → Nat :=
  let c9_i32 : BitVec 32 := 9#32
  let c0_i32_441 : BitVec 32 := 0#32
  let c1_i32_443 : BitVec 32 := 1#32
  let arg21 : BitVec 32 := Scf.iv c0_i32_441 c1_i32_443 k0_t11
  let v687 : BitVec 32 := Scalar.muli c9_i32 arg21
  let v690 : Index := Scalar.indexCast v687
  let c0_585 : Index := 0#32
  ![v690.toNat, 0, 0]
def k0_mult2 (k0_t3 : Fin k0_t3_loop.trips) : BitVec 32 :=
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  v562
def k0_off42 (k0_t3 : Fin k0_t3_loop.trips) : Fin 3 → Nat :=
  let c0_i32_524 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_525 : BitVec 32 := 0#32
  ![0, v563.toNat, 0]
def k0_off43 (k0_t3 : Fin k0_t3_loop.trips) : Fin 3 → Nat :=
  let c0_i32_524 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_525 : BitVec 32 := 0#32
  ![0, v563.toNat, 0]
def k0_off44 (k0_t3 : Fin k0_t3_loop.trips) : Fin 3 → Nat :=
  let c0_i32_528 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_529 : BitVec 32 := 0#32
  ![0, Nat.add v563.toNat 32, 0]
def k0_off45 (k0_t3 : Fin k0_t3_loop.trips) : Fin 3 → Nat :=
  let c0_i32_532 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_533 : BitVec 32 := 0#32
  ![0, Nat.add v563.toNat 64, 0]
def k0_off46 (k0_t3 : Fin k0_t3_loop.trips) : Fin 3 → Nat :=
  let c0_i32_536 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_537 : BitVec 32 := 0#32
  ![0, Nat.add v563.toNat 96, 0]
def k0_off47 (k0_t3 : Fin k0_t3_loop.trips) : Fin 3 → Nat :=
  let c0_i32_550 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_551 : BitVec 32 := 0#32
  ![0, Nat.add v563.toNat 128, 0]
def k0_off48 (k0_t3 : Fin k0_t3_loop.trips) : Fin 3 → Nat :=
  let c0_i32_554 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_555 : BitVec 32 := 0#32
  ![0, Nat.add v563.toNat 160, 0]
def k0_off49 (k0_t3 : Fin k0_t3_loop.trips) : Fin 3 → Nat :=
  let c0_i32_558 : BitVec 32 := 0#32
  let c224_i32_513 : BitVec 32 := 224#32
  let c2_i32 : BitVec 32 := 2#32
  let c0_i32_135 : BitVec 32 := 0#32
  let c1_i32_137 : BitVec 32 := 1#32
  let arg20 : BitVec 32 := Scf.iv c0_i32_135 c1_i32_137 k0_t3
  let v167 : BitVec 32 := Scalar.muli c2_i32 arg20
  let c1_i32_512 : BitVec 32 := 1#32
  let v561 : BitVec 32 := Scalar.addi v167 c1_i32_512
  let v562 : BitVec 32 := Scalar.muli c224_i32_513 v561
  let v563 : BitVec 32 := v562
  let c0_i32_559 : BitVec 32 := 0#32
  ![0, Nat.add v563.toNat 192, 0]
def k0_cond2 (i : grid0.Coords) : BitVec 1 :=
  let arg0 : BitVec 32 := BitVec.ofNat 32 (i 0).val
  let c11_i32_148 : BitVec 32 := 11#32
  let v162 : BitVec 1 := Scalar.cmpi .eq arg0 c11_i32_148
  let arg1 : BitVec 32 := BitVec.ofNat 32 (i 1).val
  let c10_i32 : BitVec 32 := 10#32
  let v163 : BitVec 1 := Scalar.cmpi .eq arg1 c10_i32
  let v164 : BitVec 1 := Scalar.andi v162 v163
  let v165 : BitVec 32 := Scalar.extui v164
  let c0_i32_149 : BitVec 32 := 0#32
  let v166 : BitVec 1 := Scalar.cmpi .ne v165 c0_i32_149
  v166

@[reducible] def k0_t12_loop : Scf.Loop 32 :=
  let c0_i32_151 : BitVec 32 := 0#32
  let c49_i32 : BitVec 32 := 49#32
  let v168 : BitVec 32 := Scalar.addi c0_i32_151 c49_i32
  let c1_i32_152 : BitVec 32 := 1#32
  ⟨c0_i32_151, v168, c1_i32_152⟩
def k0_mult3 (k0_t12 : Fin k0_t12_loop.trips) : BitVec 32 :=
  let c0_i32_151 : BitVec 32 := 0#32
  let c1_i32_152 : BitVec 32 := 1#32
  let arg20 : BitVec 32 := Scf.iv c0_i32_151 c1_i32_152 k0_t12
  let c264_i32 : BitVec 32 := 264#32
  let v209 : BitVec 32 := Scalar.muli arg20 c264_i32
  v209
def k0_off50 (k0_t12 : Fin k0_t12_loop.trips) : Fin 2 → Nat :=
  let c0_i32_151 : BitVec 32 := 0#32
  let c1_i32_152 : BitVec 32 := 1#32
  let arg20 : BitVec 32 := Scf.iv c0_i32_151 c1_i32_152 k0_t12
  let c264_i32 : BitVec 32 := 264#32
  let v209 : BitVec 32 := Scalar.muli arg20 c264_i32
  let v210 : BitVec 32 := v209
  let v211 : Index := Scalar.indexCast v210
  let c0_176 : Index := 0#32
  ![v211.toNat, 0]
@[reducible] def k0_t13_loop : Scf.Loop 32 :=
  let c0_i32_158 : BitVec 32 := 0#32
  let c404_i32 : BitVec 32 := 404#32
  let v176 : BitVec 32 := Scalar.addi c0_i32_158 c404_i32
  let c1_i32_159 : BitVec 32 := 1#32
  ⟨c0_i32_158, v176, c1_i32_159⟩
def k0_mult4 (k0_t13 : Fin k0_t13_loop.trips) : BitVec 32 :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  v209
def k0_off51 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v211 : Index := Scalar.indexCast v210
  let c0_176 : Index := 0#32
  ![v211.toNat, 0]
def k0_off52 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v234 : Index := Scalar.indexCast v210
  let c0_182 : Index := 0#32
  ![v234.toNat, 0]
def k0_off53 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v244 : Index := Scalar.indexCast v210
  let c128_185 : Index := 128#32
  ![v244.toNat, 128]
def k0_off54 (k0_t13 : Fin k0_t13_loop.trips) : Fin 2 → Nat :=
  let c0_i32_158 : BitVec 32 := 0#32
  let c1_i32_159 : BitVec 32 := 1#32
  let arg20 : BitVec 32 := Scf.iv c0_i32_158 c1_i32_159 k0_t13
  let c32_i32 : BitVec 32 := 32#32
  let v209 : BitVec 32 := Scalar.muli arg20 c32_i32
  let v210 : BitVec 32 := v209
  let v246 : Index := Scalar.indexCast v210
  let c0_186 : Index := 0#32
  ![v246.toNat, 0]
def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x6272x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6272x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x8x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3136x256 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x98x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S12936x256 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S12936x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S12x6272x2816 : Shape := ⟨3, ![12, 6272, 2816]⟩
abbrev S12x98x64x2816 : Shape := ⟨4, ![12, 98, 64, 2816]⟩
abbrev S_ : Shape := ⟨0, ![]⟩
abbrev S12x98x2816 : Shape := ⟨3, ![12, 98, 2816]⟩
abbrev S12x98x1x2816 : Shape := ⟨4, ![12, 98, 1, 2816]⟩
abbrev S12x3136x2x2816 : Shape := ⟨4, ![12, 3136, 2, 2816]⟩
abbrev S12x3136x1x2816 : Shape := ⟨4, ![12, 3136, 1, 2816]⟩
abbrev S12x3136x2816 : Shape := ⟨3, ![12, 3136, 2816]⟩
abbrev S12936x256 : Shape := ⟨2, ![12936, 256]⟩
abbrev S12936 : Shape := ⟨1, ![12936]⟩
abbrev S12936x1 : Shape := ⟨2, ![12936, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S12x6272x2816, .bf16⟩
  | 1 => ⟨S12x6272x2816, .f32⟩
  | 2 => ⟨S12x98x64x2816, .f32⟩
  | 3 => ⟨S12x98x64x2816, .f32⟩
  | 4 => ⟨S_, .f32⟩
  | 5 => ⟨S12x98x2816, .f32⟩
  | 6 => ⟨S_, .f32⟩
  | 7 => ⟨S12x98x2816, .f32⟩
  | 8 => ⟨S12x98x2816, .i1⟩
  | 9 => ⟨S_, .f32⟩
  | 10 => ⟨S_, .f32⟩
  | 11 => ⟨S12x98x2816, .f32⟩
  | 12 => ⟨S12x98x2816, .f32⟩
  | 13 => ⟨S_, .f32⟩
  | 14 => ⟨S12x98x2816, .f32⟩
  | 15 => ⟨S12x98x2816, .f32⟩
  | 16 => ⟨S12x98x1x2816, .f32⟩
  | 17 => ⟨S12x98x64x2816, .f32⟩
  | 18 => ⟨S12x98x64x2816, .f32⟩
  | 19 => ⟨S_, .i32⟩
  | 20 => ⟨S12x98x64x2816, .i32⟩
  | 21 => ⟨S_, .f32⟩
  | 22 => ⟨S12x98x64x2816, .f32⟩
  | 23 => ⟨S12x98x64x2816, .i1⟩
  | 24 => ⟨S12x98x64x2816, .i32⟩
  | 25 => ⟨S12x98x64x2816, .i32⟩
  | 26 => ⟨S_, .f32⟩
  | 27 => ⟨S12x98x64x2816, .f32⟩
  | 28 => ⟨S12x98x64x2816, .i1⟩
  | 29 => ⟨S12x98x64x2816, .i32⟩
  | 30 => ⟨S12x98x64x2816, .i32⟩
  | 31 => ⟨S_, .f32⟩
  | 32 => ⟨S12x98x64x2816, .f32⟩
  | 33 => ⟨S12x98x64x2816, .i1⟩
  | 34 => ⟨S12x98x64x2816, .i32⟩
  | 35 => ⟨S12x98x64x2816, .i32⟩
  | 36 => ⟨S_, .f32⟩
  | 37 => ⟨S12x98x64x2816, .f32⟩
  | 38 => ⟨S12x98x64x2816, .i1⟩
  | 39 => ⟨S12x98x64x2816, .i32⟩
  | 40 => ⟨S12x98x64x2816, .i32⟩
  | 41 => ⟨S_, .f32⟩
  | 42 => ⟨S12x98x64x2816, .f32⟩
  | 43 => ⟨S12x98x64x2816, .i1⟩
  | 44 => ⟨S12x98x64x2816, .i32⟩
  | 45 => ⟨S12x98x64x2816, .i32⟩
  | 46 => ⟨S_, .f32⟩
  | 47 => ⟨S12x98x64x2816, .f32⟩
  | 48 => ⟨S12x98x64x2816, .i1⟩
  | 49 => ⟨S12x98x64x2816, .i32⟩
  | 50 => ⟨S12x98x64x2816, .i32⟩
  | 51 => ⟨S_, .f32⟩
  | 52 => ⟨S12x98x64x2816, .f32⟩
  | 53 => ⟨S12x98x64x2816, .i1⟩
  | 54 => ⟨S12x98x64x2816, .i32⟩
  | 55 => ⟨S12x98x64x2816, .i32⟩
  | 56 => ⟨S_, .f32⟩
  | 57 => ⟨S12x98x64x2816, .f32⟩
  | 58 => ⟨S12x98x64x2816, .i1⟩
  | 59 => ⟨S12x98x64x2816, .i32⟩
  | 60 => ⟨S12x98x64x2816, .i32⟩
  | 61 => ⟨S_, .f32⟩
  | 62 => ⟨S12x98x64x2816, .f32⟩
  | 63 => ⟨S12x98x64x2816, .i1⟩
  | 64 => ⟨S12x98x64x2816, .i32⟩
  | 65 => ⟨S12x98x64x2816, .i32⟩
  | 66 => ⟨S_, .f32⟩
  | 67 => ⟨S12x98x64x2816, .f32⟩
  | 68 => ⟨S12x98x64x2816, .i1⟩
  | 69 => ⟨S12x98x64x2816, .i32⟩
  | 70 => ⟨S12x98x64x2816, .i32⟩
  | 71 => ⟨S_, .f32⟩
  | 72 => ⟨S12x98x64x2816, .f32⟩
  | 73 => ⟨S12x98x64x2816, .i1⟩
  | 74 => ⟨S12x98x64x2816, .i32⟩
  | 75 => ⟨S12x98x64x2816, .i32⟩
  | 76 => ⟨S_, .f32⟩
  | 77 => ⟨S12x98x64x2816, .f32⟩
  | 78 => ⟨S12x98x64x2816, .i1⟩
  | 79 => ⟨S12x98x64x2816, .i32⟩
  | 80 => ⟨S12x98x64x2816, .i32⟩
  | 81 => ⟨S_, .f32⟩
  | 82 => ⟨S12x98x64x2816, .f32⟩
  | 83 => ⟨S12x98x64x2816, .i1⟩
  | 84 => ⟨S12x98x64x2816, .i32⟩
  | 85 => ⟨S12x98x64x2816, .i32⟩
  | 86 => ⟨S_, .f32⟩
  | 87 => ⟨S12x98x64x2816, .f32⟩
  | 88 => ⟨S12x98x64x2816, .i1⟩
  | 89 => ⟨S12x98x64x2816, .i32⟩
  | 90 => ⟨S12x98x64x2816, .i32⟩
  | 91 => ⟨S_, .f32⟩
  | 92 => ⟨S12x98x64x2816, .f32⟩
  | 93 => ⟨S12x98x64x2816, .i1⟩
  | 94 => ⟨S12x98x64x2816, .i32⟩
  | 95 => ⟨S12x98x64x2816, .i32⟩
  | 96 => ⟨S12x3136x2x2816, .i32⟩
  | 97 => ⟨S12x3136x1x2816, .i32⟩
  | 98 => ⟨S12x3136x2816, .i32⟩
  | 99 => ⟨S_, .i32⟩
  | 100 => ⟨S12x3136x2816, .i32⟩
  | 101 => ⟨S12x3136x2816, .i32⟩
  | 102 => ⟨S12x3136x1x2816, .i32⟩
  | 103 => ⟨S12x3136x2816, .i32⟩
  | 104 => ⟨S12x3136x2816, .i32⟩
  | 105 => ⟨S12x3136x2816, .i8⟩
  | 106 => ⟨S_, .f32⟩
  | 107 => ⟨S_, .f32⟩
  | 108 => ⟨S_, .f32⟩
  | 109 => ⟨S_, .f32⟩
  | 110 => ⟨S12x98x2816, .f32⟩
  | 111 => ⟨S12x98x2816, .f32⟩
  | 112 => ⟨S12936x256, .f32⟩
  | 113 => ⟨S12936x256, .f32⟩
  | 114 => ⟨S_, .f32⟩
  | 115 => ⟨S12936, .f32⟩
  | 116 => ⟨S_, .f32⟩
  | 117 => ⟨S12936, .f32⟩
  | 118 => ⟨S12936, .f32⟩
  | 119 => ⟨S12936x1, .f32⟩
  | 120 => ⟨S12936x256, .f32⟩
  | 121 => ⟨S12936x256, .f32⟩
  | 122 => ⟨S12936x256, .f32⟩
  | 123 => ⟨S_, .f32⟩
  | 124 => ⟨S_, .f32⟩
  | 125 => ⟨S_, .f32⟩
  | 126 => ⟨S12936x256, .f32⟩
  | 127 => ⟨S12936x256, .f32⟩
  | _ => ⟨S12x6272x2816, .bf16⟩

abbrev hbmTy0_1 (i : Nat) : BufTy := match i % 128 with
  | 0 => ⟨S_, .f32⟩
  | 1 => ⟨S12936x256, .f32⟩
  | 2 => ⟨S12936x256, .f32⟩
  | 3 => ⟨S12936x256, .i32⟩
  | 4 => ⟨S12936x256, .i8⟩
  | 5 => ⟨S12936x1, .f32⟩
  | 6 => ⟨S1x1, .f32⟩
  | _ => ⟨S12x6272x2816, .bf16⟩

abbrev hbmTy (i : Nat) : BufTy := match i / 128 with
  | 0 => hbmTy0_0 i
  | 1 => hbmTy0_1 i
  | _ => ⟨S12x6272x2816, .bf16⟩

abbrev bufTy : (tb : Table) → Fin (tcTables nBuf tb) → BufTy
  | .hbm, ⟨i, _⟩ => hbmTy i
  | _, _ => ⟨S12x6272x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_12 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_15 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_17 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_c_18 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_19 : Ref sig .tc := ⟨.hbm, 106, rfl⟩
abbrev main_v82 : Ref sig .tc := ⟨.hbm, 107, rfl⟩
abbrev main_cst_20 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_21 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_23 : Ref sig .tc := ⟨.hbm, 123, rfl⟩
abbrev main_cst_24 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩

abbrev nD : Nat := 1
abbrev τ : Topo := Topo.v7x

variable {F : FTy → Type} [FloatOps F]
-- ==== Proof.BodyKernel.lean ====
/-
  The kernel body of `Kernel`, run once: its counted loops go through by invariants that hold every buffer at some contents.
-/
module

public import proofs.«01_k».proof.Proof.Gen.Kernel.Loops
public import Idealize.ShloMosaic.Lib.Exec
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]
/-- The resources of the separation logic for this kernel. -/
abbrev UU (nD : Nat) (τ : Topo) : Type := UR sig nD τ
local notation "𝕄" => MT nD τ sig Unit (Elt F) ℕ (UR sig nD τ) ℕ

/-- The memref's own elements at some contents. -/
abbrev held (F : FTy → Type) [BitOps F] (c : Dev nD) {sp : Space} {s : Shape} {e : EltTy} (a : Memref sig .tc sp s e) : sProp (MT nD τ sig Unit (Elt F) ℕ (UR sig nD τ) ℕ) :=
  iprop(∃ f : BufTy.Contents (Elt F) a.view.ty, a.view.loc (c : Thread nD τ) ↦[a.view.set]{fullShare} f)

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x128 .i32) (harg11 : arg11.IsWhole) (arg12 : Memref sig .tc .vmem S2x2x8x128 .f32) (harg12 : arg12.IsWhole) (arg13 : Memref sig .tc .vmem S2x2x8x128 .i32) (harg13 : arg13.IsWhole) (arg14 : Memref sig .tc .vmem S2x224x128 .i32) (harg14 : arg14.IsWhole) (arg15 : Memref sig .tc .vmem S2x224x128 .i32) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option sl_exec.squeezeSlice true in
/-- One trip of loop 1. -/
theorem step_t1  (k : Fin k0_t1_loop.trips) :
    iprop(held F c arg2 ∗ held F c arg11) ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k ()) (fun _ => iprop(held F c arg2 ∗ held F c arg11)) := by
  have hk : k.val < 7 := Nat.lt_of_lt_of_le k.isLt k0_t1_abs.2.1
  unfold k0_t1_body
  iintro ⟨⟨%X2, H2⟩, ⟨%X11, H11⟩⟩
  sl_exec
  sl_step
  sl_close

/-- Loop 1 keeps its buffers. -/
@[sl_loop, instance_reducible] def inv_t1  :
    LoopInvTy_k0_t1 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := fun _ _ => iprop(held F c arg2 ∗ held F c arg11)
  step := fun k _ => step_t1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k

set_option sl_exec.squeezeSlice true in
/-- One trip of loop 2. -/
theorem step_t2 (arg0 : BitVec 32) (arg1 : BitVec 32) (v52 : FVec F S8x128 .f32) (k : Fin k0_t2_loop.trips) :
    iprop(held F c arg3 ∗ held F c arg11) ⊢ wp frame (wpE (defs₀ (F := F)) 𝒱 (c : Thread nD τ) bd) E
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v52 k ()) (fun _ => iprop(held F c arg3 ∗ held F c arg11)) := by
  have hk : k.val < 7 := Nat.lt_of_lt_of_le k.isLt k0_t2_abs.2.1
  unfold k0_t2_body
  iintro ⟨⟨%X3, H3⟩, ⟨%X11, H11⟩⟩
  sl_exec
  sl_step
  sl_close

/-- Loop 2 keeps its buffers. -/
@[sl_loop, instance_reducible] def inv_t2 (arg0 : BitVec 32) (arg1 : BitVec 32) (v52 : FVec F S8x128 .f32) :
    LoopInvTy_k0_t2 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v52 where
  inv := fun _ _ => iprop(held F c arg3 ∗ held F c arg11)
  step := fun k _ => step_t2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 v52 k

set_option sl_exec.squeezeSlice true in
/-- One trip of loop 4. -/
theorem step_t4 (c0_i32_135 : BitVec 32) (c1_i32_137 : BitVec 32) (k0_t3 : Fin k0_t3_loop.trips) (v167 : BitVec 32) (k : Fin k0_t4_loop.trips) :
    iprop(held F c arg2 ∗ held F c arg4 ∗ held F c arg12 ∗ held F c arg13 ∗ held F c arg14) ⊢ wp frame (wpE (defs₀ (F := F)) 𝒱 (c : Thread nD τ) bd) E
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(held F c arg2 ∗ held F c arg4 ∗ held F c arg12 ∗ held F c arg13 ∗ held F c arg14)) := by
  have hk : k.val < 7 := Nat.lt_of_lt_of_le k.isLt k0_t4_abs.2.1
  unfold k0_t4_body
  iintro ⟨⟨%X2, H2⟩, ⟨%X4, H4⟩, ⟨%X12, H12⟩, ⟨%X13, H13⟩, ⟨%X14, H14⟩⟩
  sl_exec
  sl_step
  sl_close

/-- Loop 4 keeps its buffers. -/
@[sl_loop, instance_reducible] def inv_t4 (c0_i32_135 : BitVec 32) (c1_i32_137 : BitVec 32) (k0_t3 : Fin k0_t3_loop.trips) (v167 : BitVec 32) :
    LoopInvTy_k0_t4 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun _ _ => iprop(held F c arg2 ∗ held F c arg4 ∗ held F c arg12 ∗ held F c arg13 ∗ held F c arg14)
  step := fun k _ => step_t4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k

set_option sl_exec.squeezeSlice true in
/-- One trip of loop 5. -/
theorem step_t5 (c0_i32_135 : BitVec 32) (c1_i32_137 : BitVec 32) (k0_t3 : Fin k0_t3_loop.trips) (v167 : BitVec 32) (k : Fin k0_t5_loop.trips) :
    iprop(held F c arg3 ∗ held F c arg4 ∗ held F c arg12 ∗ held F c arg13 ∗ held F c arg14) ⊢ wp frame (wpE (defs₀ (F := F)) 𝒱 (c : Thread nD τ) bd) E
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(held F c arg3 ∗ held F c arg4 ∗ held F c arg12 ∗ held F c arg13 ∗ held F c arg14)) := by
  have hk : k.val < 7 := Nat.lt_of_lt_of_le k.isLt k0_t5_abs.2.1
  unfold k0_t5_body
  iintro ⟨⟨%X3, H3⟩, ⟨%X4, H4⟩, ⟨%X12, H12⟩, ⟨%X13, H13⟩, ⟨%X14, H14⟩⟩
  sl_exec
  sl_step
  sl_close

/-- Loop 5 keeps its buffers. -/
@[sl_loop, instance_reducible] def inv_t5 (c0_i32_135 : BitVec 32) (c1_i32_137 : BitVec 32) (k0_t3 : Fin k0_t3_loop.trips) (v167 : BitVec 32) :
    LoopInvTy_k0_t5 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun _ _ => iprop(held F c arg3 ∗ held F c arg4 ∗ held F c arg12 ∗ held F c arg13 ∗ held F c arg14)
  step := fun k _ => step_t5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k

set_option sl_exec.squeezeSlice true in
/-- One trip of loop 6. -/
theorem step_t6 (c0_i32_135 : BitVec 32) (c1_i32_137 : BitVec 32) (k0_t3 : Fin k0_t3_loop.trips) (v170 : BitVec 32) (k : Fin k0_t6_loop.trips) :
    iprop(held F c arg2 ∗ held F c arg11) ⊢ wp frame (wpE (defs₀ (F := F)) 𝒱 (c : Thread nD τ) bd) E
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 k ()) (fun _ => iprop(held F c arg2 ∗ held F c arg11)) := by
  have hk : k.val < 7 := Nat.lt_of_lt_of_le k.isLt k0_t6_abs.2.1
  unfold k0_t6_body
  iintro ⟨⟨%X2, H2⟩, ⟨%X11, H11⟩⟩
  sl_exec
  sl_step
  sl_close

/-- Loop 6 keeps its buffers. -/
@[sl_loop, instance_reducible] def inv_t6 (c0_i32_135 : BitVec 32) (c1_i32_137 : BitVec 32) (k0_t3 : Fin k0_t3_loop.trips) (v170 : BitVec 32) :
    LoopInvTy_k0_t6 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 where
  inv := fun _ _ => iprop(held F c arg2 ∗ held F c arg11)
  step := fun k _ => step_t6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 k

set_option sl_exec.squeezeSlice true in
/-- One trip of loop 7. -/
theorem step_t7 (k0_t3 : Fin k0_t3_loop.trips) (v170 : BitVec 32) (c0_i32_238 : BitVec 32) (c7_i32_239 : BitVec 32) (k : Fin k0_t7_loop.trips) :
    iprop(held F c arg3 ∗ held F c arg11) ⊢ wp frame (wpE (defs₀ (F := F)) 𝒱 (c : Thread nD τ) bd) E
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v170 c0_i32_238 c7_i32_239 k ()) (fun _ => iprop(held F c arg3 ∗ held F c arg11)) := by
  have hk : k.val < 7 := Nat.lt_of_lt_of_le k.isLt k0_t7_abs.2.1
  unfold k0_t7_body
  iintro ⟨⟨%X3, H3⟩, ⟨%X11, H11⟩⟩
  sl_exec
  sl_step
  sl_close

/-- Loop 7 keeps its buffers. -/
@[sl_loop, instance_reducible] def inv_t7 (k0_t3 : Fin k0_t3_loop.trips) (v170 : BitVec 32) (c0_i32_238 : BitVec 32) (c7_i32_239 : BitVec 32) :
    LoopInvTy_k0_t7 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v170 c0_i32_238 c7_i32_239 where
  inv := fun _ _ => iprop(held F c arg3 ∗ held F c arg11)
  step := fun k _ => step_t7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v170 c0_i32_238 c7_i32_239 k

set_option sl_exec.squeezeSlice true in
/-- One trip of loop 8. -/
theorem step_t8 (k0_t3 : Fin k0_t3_loop.trips) (v167 : BitVec 32) (v370 : FVec F S192x128 .bf16) (v372 : IVec S96x128 32) (v402 : BitVec 32) (k : Fin k0_t8_loop.trips) :
    iprop(held F c arg2 ∗ held F c arg4 ∗ held F c arg12 ∗ held F c arg13 ∗ held F c arg15) ⊢ wp frame (wpE (defs₀ (F := F)) 𝒱 (c : Thread nD τ) bd) E
      (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v370 v372 v402 k ()) (fun _ => iprop(held F c arg2 ∗ held F c arg4 ∗ held F c arg12 ∗ held F c arg13 ∗ held F c arg15)) := by
  have hk : k.val < 7 := Nat.lt_of_lt_of_le k.isLt k0_t8_abs.2.1
  unfold k0_t8_body
  iintro ⟨⟨%X2, H2⟩, ⟨%X4, H4⟩, ⟨%X12, H12⟩, ⟨%X13, H13⟩, ⟨%X15, H15⟩⟩
  sl_exec
  sl_step
  sl_close

/-- Loop 8 keeps its buffers. -/
@[sl_loop, instance_reducible] def inv_t8 (k0_t3 : Fin k0_t3_loop.trips) (v167 : BitVec 32) (v370 : FVec F S192x128 .bf16) (v372 : IVec S96x128 32) (v402 : BitVec 32) :
    LoopInvTy_k0_t8 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v370 v372 v402 where
  inv := fun _ _ => iprop(held F c arg2 ∗ held F c arg4 ∗ held F c arg12 ∗ held F c arg13 ∗ held F c arg15)
  step := fun k _ => step_t8 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v370 v372 v402 k

set_option sl_exec.squeezeSlice true in
/-- One trip of loop 9. -/
theorem step_t9 (k0_t3 : Fin k0_t3_loop.trips) (v167 : BitVec 32) (v402 : BitVec 32) (k : Fin k0_t9_loop.trips) :
    iprop(held F c arg3 ∗ held F c arg4 ∗ held F c arg12 ∗ held F c arg13 ∗ held F c arg15) ⊢ wp frame (wpE (defs₀ (F := F)) 𝒱 (c : Thread nD τ) bd) E
      (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 k ()) (fun _ => iprop(held F c arg3 ∗ held F c arg4 ∗ held F c arg12 ∗ held F c arg13 ∗ held F c arg15)) := by
  have hk : k.val < 7 := Nat.lt_of_lt_of_le k.isLt k0_t9_abs.2.1
  unfold k0_t9_body
  iintro ⟨⟨%X3, H3⟩, ⟨%X4, H4⟩, ⟨%X12, H12⟩, ⟨%X13, H13⟩, ⟨%X15, H15⟩⟩
  sl_exec
  sl_step
  sl_close

/-- Loop 9 keeps its buffers. -/
@[sl_loop, instance_reducible] def inv_t9 (k0_t3 : Fin k0_t3_loop.trips) (v167 : BitVec 32) (v402 : BitVec 32) :
    LoopInvTy_k0_t9 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 where
  inv := fun _ _ => iprop(held F c arg3 ∗ held F c arg4 ∗ held F c arg12 ∗ held F c arg13 ∗ held F c arg15)
  step := fun k _ => step_t9 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 k

set_option sl_exec.squeezeSlice true in
/-- One trip of loop 10. -/
theorem step_t10 (k0_t3 : Fin k0_t3_loop.trips) (v167 : BitVec 32) (v402 : BitVec 32) (v406 : BitVec 32) (k : Fin k0_t10_loop.trips) :
    iprop(held F c arg2 ∗ held F c arg11) ⊢ wp frame (wpE (defs₀ (F := F)) 𝒱 (c : Thread nD τ) bd) E
      (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 v406 k ()) (fun _ => iprop(held F c arg2 ∗ held F c arg11)) := by
  have hk : k.val < 7 := Nat.lt_of_lt_of_le k.isLt k0_t10_abs.2.1
  unfold k0_t10_body
  iintro ⟨⟨%X2, H2⟩, ⟨%X11, H11⟩⟩
  sl_exec
  sl_step
  sl_close

/-- Loop 10 keeps its buffers. -/
@[sl_loop, instance_reducible] def inv_t10 (k0_t3 : Fin k0_t3_loop.trips) (v167 : BitVec 32) (v402 : BitVec 32) (v406 : BitVec 32) :
    LoopInvTy_k0_t10 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 v406 where
  inv := fun _ _ => iprop(held F c arg2 ∗ held F c arg11)
  step := fun k _ => step_t10 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v402 v406 k

set_option sl_exec.squeezeSlice true in
/-- One trip of loop 11. -/
theorem step_t11 (arg0 : BitVec 32) (arg1 : BitVec 32) (k0_t3 : Fin k0_t3_loop.trips) (v406 : BitVec 32) (v454 : FVec F S8x128 .f32) (k : Fin k0_t11_loop.trips) :
    iprop(held F c arg3 ∗ held F c arg11) ⊢ wp frame (wpE (defs₀ (F := F)) 𝒱 (c : Thread nD τ) bd) E
      (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v406 v454 k ()) (fun _ => iprop(held F c arg3 ∗ held F c arg11)) := by
  have hk : k.val < 7 := Nat.lt_of_lt_of_le k.isLt k0_t11_abs.2.1
  unfold k0_t11_body
  iintro ⟨⟨%X3, H3⟩, ⟨%X11, H11⟩⟩
  sl_exec
  sl_step
  sl_close

/-- Loop 11 keeps its buffers. -/
@[sl_loop, instance_reducible] def inv_t11 (arg0 : BitVec 32) (arg1 : BitVec 32) (k0_t3 : Fin k0_t3_loop.trips) (v406 : BitVec 32) (v454 : FVec F S8x128 .f32) :
    LoopInvTy_k0_t11 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v406 v454 where
  inv := fun _ _ => iprop(held F c arg3 ∗ held F c arg11)
  step := fun k _ => step_t11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v406 v454 k

set_option sl_exec.squeezeSlice true in
/-- One trip of loop 3. -/
theorem step_t3 (arg0 : BitVec 32) (arg1 : BitVec 32) (k : Fin k0_t3_loop.trips) :
    iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19) ⊢ wp frame (wpE (defs₀ (F := F)) 𝒱 (c : Thread nD τ) bd) E
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k ()) (fun _ => iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19)) := by
  have hk : k.val < 7 := Nat.lt_of_lt_of_le k.isLt k0_t3_abs.2.1
  unfold k0_t3_body
  iintro ⟨⟨%X2, H2⟩, ⟨%X3, H3⟩, ⟨%X4, H4⟩, ⟨%X5, H5⟩, ⟨%X6, H6⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
  sl_exec
  sl_step
  sl_close

/-- Loop 3 keeps its buffers. -/
@[sl_loop, instance_reducible] def inv_t3 (arg0 : BitVec 32) (arg1 : BitVec 32) :
    LoopInvTy_k0_t3 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 where
  inv := fun _ _ => iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19)
  step := fun k _ => step_t3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k

set_option sl_exec.squeezeSlice true in
/-- The whole body keeps its buffers. -/
theorem body_run :
    iprop(held F c arg2 ∗ held F c arg3 ∗ held F c arg4 ∗ held F c arg5 ∗ held F c arg6 ∗ held F c arg7 ∗ held F c arg8 ∗ held F c arg9 ∗ held F c arg10 ∗ held F c arg11 ∗ held F c arg12 ∗ held F c arg13 ∗ held F c arg14 ∗ held F c arg15 ∗ held F c arg16 ∗ held F c arg17 ∗ held F c arg18 ∗ held F c arg19) ⊢ wp frame (wpE (defs₀ (F := F)) 𝒱 (c : Thread nD τ) bd) E
      (cc0_nf4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(held F c arg2 ∗ held F c arg3 ∗ held F c arg4 ∗ held F c arg5 ∗ held F c arg6 ∗ held F c arg7 ∗ held F c arg8 ∗ held F c arg9 ∗ held F c arg10 ∗ held F c arg11 ∗ held F c arg12 ∗ held F c arg13 ∗ held F c arg14 ∗ held F c arg15 ∗ held F c arg16 ∗ held F c arg17 ∗ held F c arg18 ∗ held F c arg19)) := by
  rw [cc0_nf4_eq_skeleton]
  unfold cc0_nf4_skel
  iintro ⟨⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
  by_cases h2 : k0_cond2 i = 1#1
  · sl_exec
    sl_step
    sl_close
  · sl_exec
    sl_step
    sl_close

end Run
end Cert.Proof.Kernel
end
-- ==== Proof.FrameKernel.lean ====
/-
  The frame of `Kernel`: the program terminates without a fault, its argument array ends as it began, and every semaphore reads zero.
-/
module

public import proofs.«01_k».proof.Defs
public import proofs.«01_k».proof.Proof.BodyKernel
public import proofs.«01_k».proof.Proof.Gen.Kernel.Frame
public import Idealize.ShloMosaic.Lib.Pipeline.FrameBody
public import Idealize.ShloMosaic.Lib.Ring
public import Idealize.ShloMosaic.Lib.Tactic

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [BitOps F] [∀ e, Nonempty (Elt F e)]
local notation "𝕄" => MT nD τ sig Unit (Elt F) ℕ (UR sig nD τ) ℕ

variable (m : (ℓ : Loc nD τ sig) → Buf (Elt F) ℓ) (ρ : Dev nD → PrngReg)

/-- Proof data that ask nothing of what the body leaves in its windows. -/
def fdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- A whole buffer held is its location held. -/
theorem held_whole (c : Dev nD) (b : Ref sig .tc) : (held F c (Memref.whole b) : sProp 𝕄)
    = iprop(∃ f : Buf (Elt F) ((c : Thread nD τ).loc b), ((c : Thread nD τ).loc b) ↦{fullShare} f) := by
  unfold held; simp only [Memref.view_whole, View.set_whole]

/-- The class invariant, buffer by buffer. -/
theorem PhiA0_eq (c : Dev nD) : (Pipeline.ΦA spec0 c : sProp 𝕄)
    = iprop((held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ ∃ r, prngReg c r) := by
  show iprop(Pipeline.scopedRest spec0 c ∗ ∃ r, prngReg c r) = _
  rw [scopedRest0_eq]
  rw [held_whole c cc0_scratch0, held_whole c cc0_scratch1, held_whole c cc0_scratch2, held_whole c cc0_scratch3, held_whole c cc0_scratch4, held_whole c cc0_scratch5, held_whole c cc0_scratch6, held_whole c cc0_scratch7, held_whole c cc0_scratch8]

/-- The body table's row at a point. -/
theorem defs₀_row (t : Fin cfg0.N) : defs₀ (F := F) .tc cfg0.body (cfg0.bodyArgs t (cfg0.slots t)) = bodyAt0 t := by
  unfold defs₀; rw [Defs.onTc_tc]

/-- The body at a point keeps every buffer. -/
theorem body_at (c : Dev nD) (t : Fin cfg0.N) :
    iprop(held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8))
      ⊢ wp frame (wpE (defs₀ (F := F)) Variants.none (c : Thread nD τ) none) Set.univ (bodyAt0 t)
        (fun _ => iprop(held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8))) :=
  body_run Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

/-- The same, beside what it does not touch. -/
theorem body_at_frame (c : Dev nD) (t : Fin cfg0.N) (R : sProp 𝕄) :
    iprop((held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ R)
      ⊢ wp frame (wpE (defs₀ (F := F)) Variants.none (c : Thread nD τ) none) Set.univ (bodyAt0 t)
        (fun _ => iprop((held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ R)) :=
  (sep_mono_l (body_at (F := F) c t)).trans (wp_frame_r _ _ _)

/-- The body obligation. -/
theorem body_obl (c : Dev nD) : (fdat m c).BodyObligation (defs₀ (F := F)) Variants.none () Set.univ := fun t Y _ => by
  rw [bigSep_W0, bigSep_W0, defs₀_row]
  show iprop(Pipeline.ΦA spec0 c ∗ (fdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8)))
    ⊢ wp frame _ Set.univ (bodyAt0 t) (fun _ => iprop(Pipeline.ΦA spec0 c ∗ (fdat m c).owesAt () t.castSucc ∗ ((∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X))))
  rw [PhiA0_eq]
  refine triple_restated (body_at_frame (F := F) c t iprop((∃ r, prngReg c r) ∗ (fdat m c).owesAt () t.castSucc)) rfl ?_ (fun _ => ?_)
  · unfold owns
    iintro ⟨⟨⟨S0, S1, S2, S3, S4, S5, S6, S7, S8⟩, Hg⟩, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩⟩
    isplitr [Hg HO]
    · isplitl [H0]
      · iexists _; iexact H0
      isplitl [H1]
      · iexists _; iexact H1
      isplitl [H2]
      · iexists _; iexact H2
      isplitl [H3]
      · iexists _; iexact H3
      isplitl [H4]
      · iexists _; iexact H4
      isplitl [H5]
      · iexists _; iexact H5
      isplitl [H6]
      · iexists _; iexact H6
      isplitl [H7]
      · iexists _; iexact H7
      isplitl [H8]
      · iexists _; iexact H8
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      iexact S8
    · isplitl [Hg]
      · iexact Hg
      · iexact HO
  · unfold owns
    iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, S0, S1, S2, S3, S4, S5, S6, S7, S8⟩, Hg, HO⟩
    isplitl [Hg S0 S1 S2 S3 S4 S5 S6 S7 S8]
    · isplitr [Hg]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexact S7
        iexact S8
      · iexact Hg
    isplitl [HO]
    · iexact HO
    isplitl [H0]
    · iexists _; isplitr; · ipureintro; trivial
      iexists f0; isplitr; · ipureintro; rfl
      iexact H0
    isplitl [H1]
    · iexists _; isplitr; · ipureintro; trivial
      iexists f1; isplitr; · ipureintro; rfl
      iexact H1
    isplitl [H2]
    · iexists _; isplitr; · ipureintro; trivial
      iexists f2; isplitr; · ipureintro; rfl
      iexact H2
    isplitl [H3]
    · iexists _; isplitr; · ipureintro; trivial
      iexists f3; isplitr; · ipureintro; rfl
      iexact H3
    isplitl [H4]
    · iexists _; isplitr; · ipureintro; trivial
      iexists f4; isplitr; · ipureintro; rfl
      iexact H4
    isplitl [H5]
    · iexists _; isplitr; · ipureintro; trivial
      iexists f5; isplitr; · ipureintro; rfl
      iexact H5
    isplitl [H6]
    · iexists _; isplitr; · ipureintro; trivial
      iexists f6; isplitr; · ipureintro; rfl
      iexact H6
    isplitl [H7]
    · iexists _; isplitr; · ipureintro; trivial
      iexists f7; isplitr; · ipureintro; rfl
      iexact H7
    iexists _; isplitr; · ipureintro; trivial
    iexists f8; isplitr; · ipureintro; rfl
    iexact H8

set_option backward.isDefEq.respectTransparency.types false in
/-- The launch: the array windows 0 and 1 both read is held by shares. -/
theorem run_frame :
    θ_run defs (onTc (τ := τ) (main (F := F))) (s₀ m ρ)
      (fun r => Pipeline.RDat.FramePost (cfgs 0) (fun c => fdat m c) (V m) r ∧ r.2.sem = fun _ => 0) :=
  Pipeline.RDat.θ_run_frame_track_shared (Q' := _) cfgs (0 : Fin 1) launch₀0 defs₀ Variants.none (fun c => fdat m c) m ρ main
    (hbody := fun c => body_obl m c) (hq := fun _ _ _ => rfl)
    (howed := fun _ _ => rfl) (V := V m) (hmain := hmain m Variants.none) (hA := fun _ _ => rfl)
    (hin := fun _ => .rfl) (hout := fun _ => .rfl)

end Cert.Proof.Kernel

namespace Cert.Proof

open Idealize.ShloMosaic Idealize.SL.Sem Idealize.ShloMosaic.TcCoe

/-- The frame claim. -/
theorem quiescent_Kernel : Cert.quiescent_Kernel := fun m ρ _ =>
  (θ_run Cert.Kernel.defs _ _).mono (fun r h => ⟨fun c =>
      (((h.1 c).1 1 |> fun e => (congrFun (Pipeline.RDat.ArrAt_in _ 1 rfl _) _).mp e)).trans (Cert.Kernel.Gen.V_main_arg0 m c), h.2⟩)
    (Kernel.run_frame (F := Bits) m ρ)

end Cert.Proof

end
-- ==== Proof.BodyKernelIdeal.lean ====
/-
  The kernel body of `KernelIdeal`, run once: its counted loops go through by invariants that hold every buffer at some contents.
-/
module

public import proofs.«01_k».proof.Proof.Gen.KernelIdeal.Loops
public import Idealize.ShloMosaic.Lib.Exec
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
/-- The resources of the separation logic for this kernel. -/
abbrev UU (nD : Nat) (τ : Topo) : Type := UR sig nD τ
local notation "𝕄" => MT nD τ sig Unit (Elt F) ℕ (UR sig nD τ) ℕ

/-- The memref's own elements at some contents. -/
abbrev held (F : FTy → Type) [FloatOps F] (c : Dev nD) {sp : Space} {s : Shape} {e : EltTy} (a : Memref sig .tc sp s e) : sProp (MT nD τ sig Unit (Elt F) ℕ (UR sig nD τ) ℕ) :=
  iprop(∃ f : BufTy.Contents (Elt F) a.view.ty, a.view.loc (c : Thread nD τ) ↦[a.view.set]{fullShare} f)

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option sl_exec.squeezeSlice true in
/-- One trip of loop 1. -/
theorem step_t1  (k : Fin k0_t1_loop.trips) :
    iprop(held F c arg2 ∗ held F c arg11) ⊢ wp frame (wpE (defs₀ (F := F)) 𝒱 (c : Thread nD τ) bd) E
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k ()) (fun _ => iprop(held F c arg2 ∗ held F c arg11)) := by
  have hk : k.val < 7 := Nat.lt_of_lt_of_le k.isLt k0_t1_abs.2.1
  unfold k0_t1_body
  iintro ⟨⟨%X2, H2⟩, ⟨%X11, H11⟩⟩
  sl_exec
  sl_step
  sl_close

/-- Loop 1 keeps its buffers. -/
@[sl_loop, instance_reducible] def inv_t1  :
    LoopInvTy_k0_t1 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := fun _ _ => iprop(held F c arg2 ∗ held F c arg11)
  step := fun k _ => step_t1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k

set_option sl_exec.squeezeSlice true in
/-- One trip of loop 2. -/
theorem step_t2 (v70 : FVec F S7x128 .f32) (k : Fin k0_t2_loop.trips) :
    iprop(held F c arg3 ∗ held F c arg11) ⊢ wp frame (wpE (defs₀ (F := F)) 𝒱 (c : Thread nD τ) bd) E
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 k ()) (fun _ => iprop(held F c arg3 ∗ held F c arg11)) := by
  have hk : k.val < 7 := Nat.lt_of_lt_of_le k.isLt k0_t2_abs.2.1
  unfold k0_t2_body
  iintro ⟨⟨%X3, H3⟩, ⟨%X11, H11⟩⟩
  sl_exec
  sl_step
  sl_close

/-- Loop 2 keeps its buffers. -/
@[sl_loop, instance_reducible] def inv_t2 (v70 : FVec F S7x128 .f32) :
    LoopInvTy_k0_t2 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 where
  inv := fun _ _ => iprop(held F c arg3 ∗ held F c arg11)
  step := fun k _ => step_t2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 k

set_option sl_exec.squeezeSlice true in
/-- One trip of loop 4. -/
theorem step_t4 (c0_i32_135 : BitVec 32) (c1_i32_137 : BitVec 32) (k0_t3 : Fin k0_t3_loop.trips) (v167 : BitVec 32) (k : Fin k0_t4_loop.trips) :
    iprop(held F c arg2 ∗ held F c arg4 ∗ held F c arg12 ∗ held F c arg13 ∗ held F c arg14) ⊢ wp frame (wpE (defs₀ (F := F)) 𝒱 (c : Thread nD τ) bd) E
      (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(held F c arg2 ∗ held F c arg4 ∗ held F c arg12 ∗ held F c arg13 ∗ held F c arg14)) := by
  have hk : k.val < 7 := Nat.lt_of_lt_of_le k.isLt k0_t4_abs.2.1
  unfold k0_t4_body
  iintro ⟨⟨%X2, H2⟩, ⟨%X4, H4⟩, ⟨%X12, H12⟩, ⟨%X13, H13⟩, ⟨%X14, H14⟩⟩
  sl_exec
  sl_step
  sl_close

/-- Loop 4 keeps its buffers. -/
@[sl_loop, instance_reducible] def inv_t4 (c0_i32_135 : BitVec 32) (c1_i32_137 : BitVec 32) (k0_t3 : Fin k0_t3_loop.trips) (v167 : BitVec 32) :
    LoopInvTy_k0_t4 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun _ _ => iprop(held F c arg2 ∗ held F c arg4 ∗ held F c arg12 ∗ held F c arg13 ∗ held F c arg14)
  step := fun k _ => step_t4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k

set_option sl_exec.squeezeSlice true in
/-- One trip of loop 5. -/
theorem step_t5 (c0_i32_135 : BitVec 32) (c1_i32_137 : BitVec 32) (k0_t3 : Fin k0_t3_loop.trips) (v167 : BitVec 32) (k : Fin k0_t5_loop.trips) :
    iprop(held F c arg3 ∗ held F c arg4 ∗ held F c arg12 ∗ held F c arg13 ∗ held F c arg14) ⊢ wp frame (wpE (defs₀ (F := F)) 𝒱 (c : Thread nD τ) bd) E
      (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(held F c arg3 ∗ held F c arg4 ∗ held F c arg12 ∗ held F c arg13 ∗ held F c arg14)) := by
  have hk : k.val < 7 := Nat.lt_of_lt_of_le k.isLt k0_t5_abs.2.1
  unfold k0_t5_body
  iintro ⟨⟨%X3, H3⟩, ⟨%X4, H4⟩, ⟨%X12, H12⟩, ⟨%X13, H13⟩, ⟨%X14, H14⟩⟩
  sl_exec
  sl_step
  sl_close

/-- Loop 5 keeps its buffers. -/
@[sl_loop, instance_reducible] def inv_t5 (c0_i32_135 : BitVec 32) (c1_i32_137 : BitVec 32) (k0_t3 : Fin k0_t3_loop.trips) (v167 : BitVec 32) :
    LoopInvTy_k0_t5 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun _ _ => iprop(held F c arg3 ∗ held F c arg4 ∗ held F c arg12 ∗ held F c arg13 ∗ held F c arg14)
  step := fun k _ => step_t5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k

set_option sl_exec.squeezeSlice true in
/-- One trip of loop 6. -/
theorem step_t6 (c0_i32_135 : BitVec 32) (c1_i32_137 : BitVec 32) (k0_t3 : Fin k0_t3_loop.trips) (v170 : BitVec 32) (k : Fin k0_t6_loop.trips) :
    iprop(held F c arg2 ∗ held F c arg11) ⊢ wp frame (wpE (defs₀ (F := F)) 𝒱 (c : Thread nD τ) bd) E
      (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 k ()) (fun _ => iprop(held F c arg2 ∗ held F c arg11)) := by
  have hk : k.val < 7 := Nat.lt_of_lt_of_le k.isLt k0_t6_abs.2.1
  unfold k0_t6_body
  iintro ⟨⟨%X2, H2⟩, ⟨%X11, H11⟩⟩
  sl_exec
  sl_step
  sl_close

/-- Loop 6 keeps its buffers. -/
@[sl_loop, instance_reducible] def inv_t6 (c0_i32_135 : BitVec 32) (c1_i32_137 : BitVec 32) (k0_t3 : Fin k0_t3_loop.trips) (v170 : BitVec 32) :
    LoopInvTy_k0_t6 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 where
  inv := fun _ _ => iprop(held F c arg2 ∗ held F c arg11)
  step := fun k _ => step_t6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 k

set_option sl_exec.squeezeSlice true in
/-- One trip of loop 7. -/
theorem step_t7 (arg0 : BitVec 32) (arg1 : BitVec 32) (k0_t3 : Fin k0_t3_loop.trips) (v170 : BitVec 32) (v218 : FVec F S8x128 .f32) (v237 : FVec F S7x128 .f32) (k : Fin k0_t7_loop.trips) :
    iprop(held F c arg3 ∗ held F c arg11) ⊢ wp frame (wpE (defs₀ (F := F)) 𝒱 (c : Thread nD τ) bd) E
      (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 k ()) (fun _ => iprop(held F c arg3 ∗ held F c arg11)) := by
  have hk : k.val < 7 := Nat.lt_of_lt_of_le k.isLt k0_t7_abs.2.1
  unfold k0_t7_body
  iintro ⟨⟨%X3, H3⟩, ⟨%X11, H11⟩⟩
  sl_exec
  sl_step
  sl_close

/-- Loop 7 keeps its buffers. -/
@[sl_loop, instance_reducible] def inv_t7 (arg0 : BitVec 32) (arg1 : BitVec 32) (k0_t3 : Fin k0_t3_loop.trips) (v170 : BitVec 32) (v218 : FVec F S8x128 .f32) (v237 : FVec F S7x128 .f32) :
    LoopInvTy_k0_t7 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 where
  inv := fun _ _ => iprop(held F c arg3 ∗ held F c arg11)
  step := fun k _ => step_t7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 k

set_option sl_exec.squeezeSlice true in
/-- One trip of loop 8. -/
theorem step_t8 (k0_t3 : Fin k0_t3_loop.trips) (v167 : BitVec 32) (v374 : FVec F S192x256 .bf16) (v376 : FVec F S48x192 .bf16) (v402 : BitVec 32) (k : Fin k0_t8_loop.trips) :
    iprop(held F c arg2 ∗ held F c arg4 ∗ held F c arg12 ∗ held F c arg13 ∗ held F c arg15) ⊢ wp frame (wpE (defs₀ (F := F)) 𝒱 (c : Thread nD τ) bd) E
      (k0_t8_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k ()) (fun _ => iprop(held F c arg2 ∗ held F c arg4 ∗ held F c arg12 ∗ held F c arg13 ∗ held F c arg15)) := by
  have hk : k.val < 7 := Nat.lt_of_lt_of_le k.isLt k0_t8_abs.2.1
  unfold k0_t8_body
  iintro ⟨⟨%X2, H2⟩, ⟨%X4, H4⟩, ⟨%X12, H12⟩, ⟨%X13, H13⟩, ⟨%X15, H15⟩⟩
  sl_exec
  sl_step
  sl_close

/-- Loop 8 keeps its buffers. -/
@[sl_loop, instance_reducible] def inv_t8 (k0_t3 : Fin k0_t3_loop.trips) (v167 : BitVec 32) (v374 : FVec F S192x256 .bf16) (v376 : FVec F S48x192 .bf16) (v402 : BitVec 32) :
    LoopInvTy_k0_t8 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 where
  inv := fun _ _ => iprop(held F c arg2 ∗ held F c arg4 ∗ held F c arg12 ∗ held F c arg13 ∗ held F c arg15)
  step := fun k _ => step_t8 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k

set_option sl_exec.squeezeSlice true in
/-- One trip of loop 9. -/
theorem step_t9 (k0_t3 : Fin k0_t3_loop.trips) (v167 : BitVec 32) (v374 : FVec F S192x256 .bf16) (v376 : FVec F S48x192 .bf16) (v402 : BitVec 32) (k : Fin k0_t9_loop.trips) :
    iprop(held F c arg3 ∗ held F c arg4 ∗ held F c arg12 ∗ held F c arg13 ∗ held F c arg15) ⊢ wp frame (wpE (defs₀ (F := F)) 𝒱 (c : Thread nD τ) bd) E
      (k0_t9_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k ()) (fun _ => iprop(held F c arg3 ∗ held F c arg4 ∗ held F c arg12 ∗ held F c arg13 ∗ held F c arg15)) := by
  have hk : k.val < 7 := Nat.lt_of_lt_of_le k.isLt k0_t9_abs.2.1
  unfold k0_t9_body
  iintro ⟨⟨%X3, H3⟩, ⟨%X4, H4⟩, ⟨%X12, H12⟩, ⟨%X13, H13⟩, ⟨%X15, H15⟩⟩
  sl_exec
  sl_step
  sl_close

/-- Loop 9 keeps its buffers. -/
@[sl_loop, instance_reducible] def inv_t9 (k0_t3 : Fin k0_t3_loop.trips) (v167 : BitVec 32) (v374 : FVec F S192x256 .bf16) (v376 : FVec F S48x192 .bf16) (v402 : BitVec 32) :
    LoopInvTy_k0_t9 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 where
  inv := fun _ _ => iprop(held F c arg3 ∗ held F c arg4 ∗ held F c arg12 ∗ held F c arg13 ∗ held F c arg15)
  step := fun k _ => step_t9 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k

set_option sl_exec.squeezeSlice true in
/-- One trip of loop 10. -/
theorem step_t10 (k0_t3 : Fin k0_t3_loop.trips) (v167 : BitVec 32) (v406 : BitVec 32) (k : Fin k0_t10_loop.trips) :
    iprop(held F c arg2 ∗ held F c arg11) ⊢ wp frame (wpE (defs₀ (F := F)) 𝒱 (c : Thread nD τ) bd) E
      (k0_t10_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 k ()) (fun _ => iprop(held F c arg2 ∗ held F c arg11)) := by
  have hk : k.val < 7 := Nat.lt_of_lt_of_le k.isLt k0_t10_abs.2.1
  unfold k0_t10_body
  iintro ⟨⟨%X2, H2⟩, ⟨%X11, H11⟩⟩
  sl_exec
  sl_step
  sl_close

/-- Loop 10 keeps its buffers. -/
@[sl_loop, instance_reducible] def inv_t10 (k0_t3 : Fin k0_t3_loop.trips) (v167 : BitVec 32) (v406 : BitVec 32) :
    LoopInvTy_k0_t10 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 where
  inv := fun _ _ => iprop(held F c arg2 ∗ held F c arg11)
  step := fun k _ => step_t10 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 k

set_option sl_exec.squeezeSlice true in
/-- One trip of loop 11. -/
theorem step_t11 (k0_t3 : Fin k0_t3_loop.trips) (v406 : BitVec 32) (v474 : FVec F S7x128 .f32) (k : Fin k0_t11_loop.trips) :
    iprop(held F c arg3 ∗ held F c arg11) ⊢ wp frame (wpE (defs₀ (F := F)) 𝒱 (c : Thread nD τ) bd) E
      (k0_t11_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 k ()) (fun _ => iprop(held F c arg3 ∗ held F c arg11)) := by
  have hk : k.val < 7 := Nat.lt_of_lt_of_le k.isLt k0_t11_abs.2.1
  unfold k0_t11_body
  iintro ⟨⟨%X3, H3⟩, ⟨%X11, H11⟩⟩
  sl_exec
  sl_step
  sl_close

/-- Loop 11 keeps its buffers. -/
@[sl_loop, instance_reducible] def inv_t11 (k0_t3 : Fin k0_t3_loop.trips) (v406 : BitVec 32) (v474 : FVec F S7x128 .f32) :
    LoopInvTy_k0_t11 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 where
  inv := fun _ _ => iprop(held F c arg3 ∗ held F c arg11)
  step := fun k _ => step_t11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 k

set_option sl_exec.squeezeSlice true in
/-- One trip of loop 3. -/
theorem step_t3 (arg0 : BitVec 32) (arg1 : BitVec 32) (c0_i32_135 : BitVec 32) (k : Fin k0_t3_loop.trips) :
    iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19) ⊢ wp frame (wpE (defs₀ (F := F)) 𝒱 (c : Thread nD τ) bd) E
      (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 k ()) (fun _ => iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19)) := by
  have hk : k.val < 7 := Nat.lt_of_lt_of_le k.isLt k0_t3_abs.2.1
  unfold k0_t3_body
  iintro ⟨⟨%X2, H2⟩, ⟨%X3, H3⟩, ⟨%X4, H4⟩, ⟨%X5, H5⟩, ⟨%X6, H6⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
  sl_exec
  sl_step
  sl_close

/-- Loop 3 keeps its buffers. -/
@[sl_loop, instance_reducible] def inv_t3 (arg0 : BitVec 32) (arg1 : BitVec 32) (c0_i32_135 : BitVec 32) :
    LoopInvTy_k0_t3 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 where
  inv := fun _ _ => iprop(held F c arg2 ∗ held F c arg3 ∗ held F c arg4 ∗ held F c arg5 ∗ held F c arg6 ∗ held F c arg11 ∗ held F c arg12 ∗ held F c arg13 ∗ held F c arg14 ∗ held F c arg15 ∗ held F c arg16 ∗ held F c arg17 ∗ held F c arg18 ∗ held F c arg19)
  step := fun k _ => step_t3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 k

set_option sl_exec.squeezeSlice true in
/-- One trip of loop 12. -/
theorem step_t12 (h2 : k0_cond2 i = 1#1) (k : Fin k0_t12_loop.trips) (acc : FVec F S8x128 .f32) :
    iprop(held F c arg18 ∗ held F c arg19) ⊢ wp frame (wpE (defs₀ (F := F)) 𝒱 (c : Thread nD τ) bd) E
      (k0_t12_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 k acc) (fun _ => iprop(held F c arg18 ∗ held F c arg19)) := by
  have hk : k.val < 49 := Nat.lt_of_lt_of_le k.isLt k0_t12_abs.2.1
  unfold k0_t12_body
  iintro ⟨⟨%X18, H18⟩, ⟨%X19, H19⟩⟩
  sl_exec
  sl_step
  sl_close

/-- Loop 12 keeps its buffers. -/
@[sl_loop, instance_reducible] def inv_t12 (h2 : k0_cond2 i = 1#1) :
    LoopInvTy_k0_t12 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 (k0_pay245 (F := F)) where
  inv := fun _ _ => iprop(held F c arg18 ∗ held F c arg19)
  step := fun k acc => step_t12 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 k acc

set_option sl_exec.squeezeSlice true in
/-- One trip of loop 13. -/
theorem step_t13 (h2 : k0_cond2 i = 1#1) (v169 : FVec F S8x128 .f32) (k : Fin k0_t13_loop.trips) :
    iprop(held F c arg8 ∗ held F c arg9 ∗ held F c arg18 ∗ held F c arg19) ⊢ wp frame (wpE (defs₀ (F := F)) 𝒱 (c : Thread nD τ) bd) E
      (k0_t13_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 v169 k ()) (fun _ => iprop(held F c arg8 ∗ held F c arg9 ∗ held F c arg18 ∗ held F c arg19)) := by
  have hk : k.val < 404 := Nat.lt_of_lt_of_le k.isLt k0_t13_abs.2.1
  unfold k0_t13_body
  iintro ⟨⟨%X8, H8⟩, ⟨%X9, H9⟩, ⟨%X18, H18⟩, ⟨%X19, H19⟩⟩
  sl_exec
  sl_step
  sl_close

/-- Loop 13 keeps its buffers. -/
@[sl_loop, instance_reducible] def inv_t13 (h2 : k0_cond2 i = 1#1) (v169 : FVec F S8x128 .f32) :
    LoopInvTy_k0_t13 (F := F) Unit ℕ (UU nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 v169 where
  inv := fun _ _ => iprop(held F c arg8 ∗ held F c arg9 ∗ held F c arg18 ∗ held F c arg19)
  step := fun k _ => step_t13 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h2 v169 k

set_option sl_exec.squeezeSlice true in
/-- The whole body keeps its buffers. -/
theorem body_run :
    iprop(held F c arg2 ∗ held F c arg3 ∗ held F c arg4 ∗ held F c arg5 ∗ held F c arg6 ∗ held F c arg7 ∗ held F c arg8 ∗ held F c arg9 ∗ held F c arg10 ∗ held F c arg11 ∗ held F c arg12 ∗ held F c arg13 ∗ held F c arg14 ∗ held F c arg15 ∗ held F c arg16 ∗ held F c arg17 ∗ held F c arg18 ∗ held F c arg19) ⊢ wp frame (wpE (defs₀ (F := F)) 𝒱 (c : Thread nD τ) bd) E
      (cc0_nf4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(held F c arg2 ∗ held F c arg3 ∗ held F c arg4 ∗ held F c arg5 ∗ held F c arg6 ∗ held F c arg7 ∗ held F c arg8 ∗ held F c arg9 ∗ held F c arg10 ∗ held F c arg11 ∗ held F c arg12 ∗ held F c arg13 ∗ held F c arg14 ∗ held F c arg15 ∗ held F c arg16 ∗ held F c arg17 ∗ held F c arg18 ∗ held F c arg19)) := by
  rw [cc0_nf4_eq_skeleton]
  unfold cc0_nf4_skel
  iintro ⟨⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩, ⟨%X15, H15⟩, ⟨%X16, H16⟩, ⟨%X17, H17⟩, ⟨%X18, H18⟩, ⟨%X19, H19⟩⟩
  by_cases h2 : k0_cond2 i = 1#1
  · sl_exec
    sl_step
    sl_close
  · sl_exec
    sl_step
    sl_close

end Run
end Cert.Proof.KernelIdeal
end
-- ==== Proof.FrameKernelIdeal.lean ====
/-
  The frame of `KernelIdeal`: the program terminates without a fault, its argument array ends as it began, and every semaphore reads zero.
-/
module

public import proofs.«01_k».proof.Defs
public import proofs.«01_k».proof.Proof.BodyKernelIdeal
public import proofs.«01_k».proof.Proof.Gen.KernelIdeal.Frame
public import Idealize.ShloMosaic.Lib.Pipeline.FrameBody
public import Idealize.ShloMosaic.Lib.Ring
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [∀ e, Nonempty (Elt F e)]
local notation "𝕄" => MT nD τ sig Unit (Elt F) ℕ (UR sig nD τ) ℕ

variable (m : (ℓ : Loc nD τ sig) → Buf (Elt F) ℓ) (ρ : Dev nD → PrngReg)

/-- Proof data that ask nothing of what the body leaves in its windows. -/
def fdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- A whole buffer held is its location held. -/
theorem held_whole (c : Dev nD) (b : Ref sig .tc) : (held F c (Memref.whole b) : sProp 𝕄)
    = iprop(∃ f : Buf (Elt F) ((c : Thread nD τ).loc b), ((c : Thread nD τ).loc b) ↦{fullShare} f) := by
  unfold held; simp only [Memref.view_whole, View.set_whole]

/-- The class invariant, buffer by buffer. -/
theorem PhiA0_eq (c : Dev nD) : (Pipeline.ΦA spec0 c : sProp 𝕄)
    = iprop((held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ ∃ r, prngReg c r) := by
  show iprop(Pipeline.scopedRest spec0 c ∗ ∃ r, prngReg c r) = _
  rw [scopedRest0_eq]
  rw [held_whole c cc0_scratch0, held_whole c cc0_scratch1, held_whole c cc0_scratch2, held_whole c cc0_scratch3, held_whole c cc0_scratch4, held_whole c cc0_scratch5, held_whole c cc0_scratch6, held_whole c cc0_scratch7, held_whole c cc0_scratch8]

/-- The body table's row at a point. -/
theorem defs₀_row (t : Fin cfg0.N) : defs₀ (F := F) .tc cfg0.body (cfg0.bodyArgs t (cfg0.slots t)) = bodyAt0 t := by
  unfold defs₀; rw [Defs.onTc_tc]

/-- The body at a point keeps every buffer. -/
theorem body_at (c : Dev nD) (t : Fin cfg0.N) :
    iprop(held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8))
      ⊢ wp frame (wpE (defs₀ (F := F)) Variants.none (c : Thread nD τ) none) Set.univ (bodyAt0 t)
        (fun _ => iprop(held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8))) :=
  body_run Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _)

/-- The same, beside what it does not touch. -/
theorem body_at_frame (c : Dev nD) (t : Fin cfg0.N) (R : sProp 𝕄) :
    iprop((held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ R)
      ⊢ wp frame (wpE (defs₀ (F := F)) Variants.none (c : Thread nD τ) none) Set.univ (bodyAt0 t)
        (fun _ => iprop((held F c (st0_0 t) ∗ held F c (st0_1 t) ∗ held F c (st0_2 t) ∗ held F c (st0_3 t) ∗ held F c (st0_4 t) ∗ held F c (st0_5 t) ∗ held F c (st0_6 t) ∗ held F c (st0_7 t) ∗ held F c (st0_8 t) ∗ held F c (Memref.whole cc0_scratch0) ∗ held F c (Memref.whole cc0_scratch1) ∗ held F c (Memref.whole cc0_scratch2) ∗ held F c (Memref.whole cc0_scratch3) ∗ held F c (Memref.whole cc0_scratch4) ∗ held F c (Memref.whole cc0_scratch5) ∗ held F c (Memref.whole cc0_scratch6) ∗ held F c (Memref.whole cc0_scratch7) ∗ held F c (Memref.whole cc0_scratch8)) ∗ R)) :=
  (sep_mono_l (body_at (F := F) c t)).trans (wp_frame_r _ _ _)

/-- The body obligation. -/
theorem body_obl (c : Dev nD) : (fdat m c).BodyObligation (defs₀ (F := F)) Variants.none () Set.univ := fun t Y _ => by
  rw [bigSep_W0, bigSep_W0, defs₀_row]
  show iprop(Pipeline.ΦA spec0 c ∗ (fdat m c).owesAt () t.castSucc ∗ (owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8)))
    ⊢ wp frame _ Set.univ (bodyAt0 t) (fun _ => iprop(Pipeline.ΦA spec0 c ∗ (fdat m c).owesAt () t.castSucc ∗ ((∃ X, ⌜True⌝ ∗ owns (c : Thread nD τ) (st0_0 t) fullShare X) ∗ (∃ X, ⌜True⌝ ∗ owns (c : Thread nD τ) (st0_1 t) fullShare X) ∗ (∃ X, ⌜True⌝ ∗ owns (c : Thread nD τ) (st0_2 t) fullShare X) ∗ (∃ X, ⌜True⌝ ∗ owns (c : Thread nD τ) (st0_3 t) fullShare X) ∗ (∃ X, ⌜True⌝ ∗ owns (c : Thread nD τ) (st0_4 t) fullShare X) ∗ (∃ X, ⌜True⌝ ∗ owns (c : Thread nD τ) (st0_5 t) fullShare X) ∗ (∃ X, ⌜True⌝ ∗ owns (c : Thread nD τ) (st0_6 t) fullShare X) ∗ (∃ X, ⌜True⌝ ∗ owns (c : Thread nD τ) (st0_7 t) fullShare X) ∗ (∃ X, ⌜True⌝ ∗ owns (c : Thread nD τ) (st0_8 t) fullShare X))))
  rw [PhiA0_eq]
  refine triple_restated (body_at_frame (F := F) c t iprop((∃ r, prngReg c r) ∗ (fdat m c).owesAt () t.castSucc)) rfl ?_ (fun _ => ?_)
  · unfold owns
    iintro ⟨⟨⟨S0, S1, S2, S3, S4, S5, S6, S7, S8⟩, Hg⟩, HO, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩⟩
    isplitr [Hg HO]
    · isplitl [H0]
      · iexists _; iexact H0
      isplitl [H1]
      · iexists _; iexact H1
      isplitl [H2]
      · iexists _; iexact H2
      isplitl [H3]
      · iexists _; iexact H3
      isplitl [H4]
      · iexists _; iexact H4
      isplitl [H5]
      · iexists _; iexact H5
      isplitl [H6]
      · iexists _; iexact H6
      isplitl [H7]
      · iexists _; iexact H7
      isplitl [H8]
      · iexists _; iexact H8
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      iexact S8
    · isplitl [Hg]
      · iexact Hg
      · iexact HO
  · unfold owns
    iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, S0, S1, S2, S3, S4, S5, S6, S7, S8⟩, Hg, HO⟩
    isplitl [Hg S0 S1 S2 S3 S4 S5 S6 S7 S8]
    · isplitr [Hg]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexact S7
        iexact S8
      · iexact Hg
    isplitl [HO]
    · iexact HO
    isplitl [H0]
    · iexists _; isplitr; · ipureintro; trivial
      iexists f0; isplitr; · ipureintro; rfl
      iexact H0
    isplitl [H1]
    · iexists _; isplitr; · ipureintro; trivial
      iexists f1; isplitr; · ipureintro; rfl
      iexact H1
    isplitl [H2]
    · iexists _; isplitr; · ipureintro; trivial
      iexists f2; isplitr; · ipureintro; rfl
      iexact H2
    isplitl [H3]
    · iexists _; isplitr; · ipureintro; trivial
      iexists f3; isplitr; · ipureintro; rfl
      iexact H3
    isplitl [H4]
    · iexists _; isplitr; · ipureintro; trivial
      iexists f4; isplitr; · ipureintro; rfl
      iexact H4
    isplitl [H5]
    · iexists _; isplitr; · ipureintro; trivial
      iexists f5; isplitr; · ipureintro; rfl
      iexact H5
    isplitl [H6]
    · iexists _; isplitr; · ipureintro; trivial
      iexists f6; isplitr; · ipureintro; rfl
      iexact H6
    isplitl [H7]
    · iexists _; isplitr; · ipureintro; trivial
      iexists f7; isplitr; · ipureintro; rfl
      iexact H7
    iexists _; isplitr; · ipureintro; trivial
    iexists f8; isplitr; · ipureintro; rfl
    iexact H8

set_option backward.isDefEq.respectTransparency.types false in
/-- The launch: the array windows 0 and 1 both read is held by shares. -/
theorem run_frame :
    θ_run defs (onTc (τ := τ) (main (F := F))) (s₀ m ρ)
      (fun r => Pipeline.RDat.FramePost (cfgs 0) (fun c => fdat m c) (V m) r ∧ r.2.sem = fun _ => 0) :=
  Pipeline.RDat.θ_run_frame_track_shared (Q' := _) cfgs (0 : Fin 1) launch₀0 defs₀ Variants.none (fun c => fdat m c) m ρ main
    (hbody := fun c => body_obl m c) (hq := fun _ _ _ => rfl)
    (howed := fun _ _ => rfl) (V := V m) (hmain := hmain m Variants.none) (hA := fun _ _ => rfl)
    (hin := fun _ => .rfl) (hout := fun _ => .rfl)

end Cert.Proof.KernelIdeal

namespace Cert.Proof

open Idealize.ShloMosaic Idealize.SL.Sem Idealize.ShloMosaic.TcCoe

/-- The frame claim. -/
theorem quiescent_KernelIdeal : Cert.quiescent_KernelIdeal := fun m ρ _ =>
  (θ_run Cert.KernelIdeal.defs _ _).mono (fun r h => ⟨fun c =>
      (((h.1 c).1 1 |> fun e => (congrFun (Pipeline.RDat.ArrAt_in _ 1 rfl _) _).mp e)).trans (Cert.KernelIdeal.Gen.V_main_arg0 m c), h.2⟩)
    (KernelIdeal.run_frame (F := Ideal) m ρ)

end Cert.Proof

end
-- ==== Proof.Preserves.lean ====
/-
  The idealized kernel is printed from the kernel by rewrites each of which the library proves at its shapes.
-/
module

public import proofs.«01_k».proof.Defs
public import Idealize.ShloMosaic.Lib.Bf16Pair
public import Idealize.ShloMosaic.Lib.Bf16PairInverse

@[expose] public section

namespace Cert.Proof

open Idealize.ShloMosaic

/-- Every rewrite's statement, at the shapes it is used at. -/
theorem preserves : Cert.preserves_Kernel_KernelIdeal :=
  open Cert.KernelIdeal IdealRules.bf16_pair in
  ⟨bufferStatement S2x2x72x2x128 S2x2x72x1x128, bufferStatement S2x2x8x2x128 S2x2x8x1x128,
    bufferStatement S2x224x2x128 S2x224x1x128, statement S2x2x72x2x128 S2x2x72x1x128,
    selectZeroStatement S2x2x72x128, statement S1x16x128 S1x8x128, statement S16x128 S8x128,
    statement S8x2x128 S8x1x128, packStatement S8x128, statement S1x1x8x2x128 S1x1x8x1x128,
    statement S1x2x128 S1x1x128, statement S2x128 S1x128, statement S1x8x2x128 S1x8x1x128,
    statement S1x128x2x128 S1x128x1x128, statement S256x128 S128x128, statement S1x96x2x128 S1x96x1x128,
    statement S192x128 S96x128⟩

end Cert.Proof

end
-- ==== Proof.FrameReference.lean ====
/-
  The frame of the reference: a sequence of host operations, none of which writes the argument.
-/
module

public import proofs.«01_k».proof.Defs
public import proofs.«01_k».proof.Proof.Gen.ReferenceIdeal
public import proofs.«01_k».proof.Proof.Gen.ReferenceIdeal.Run
public import Idealize.ShloMosaic.Lib.Quiescent

@[expose] public section

namespace Cert.Proof

open Idealize.ShloMosaic Idealize.SL.Sem

/-- The frame claim of the reference. -/
theorem quiescent_ReferenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

end Cert.Proof

end
-- ==== Proof.ValueBasic.lean ====
/-
  Readings of a buffer after stores, and the per-block quantities the kernel's facts are stated with.
-/
module

public import proofs.«01_k».proof.Proof.Gen.KernelIdeal.Loops
public import Idealize.ShloMosaic.Lib.Exec
public import Idealize.ShloMosaic.Lib.Tactic
public import Idealize.ShloMosaic.Lib.Pointwise

@[expose] public section

noncomputable section

namespace Cert.Proof.Val

open Cert.KernelIdeal Cert.KernelIdeal.Gen
open Idealize.ShloMosaic

section Read
variable {sig : RefSig} {κ : Kind} {sp : Space} {s : Shape} {e : EltTy} {Val : EltTy → Type}
  (v : View sig κ sp s e) (f : v.ty.Contents Val)

/-- An index inside the newest piece reads that piece's payload. -/
theorem rd_hit (r : Rect s) (w : r.shape.Idx → Val e) (L : List (View.Piece Val s e)) (y : s.Idx) (x : r.shape.Idx)
    (h : ∀ a, (y a).val = r.off a + r.stride a * (x a).val) :
    v.read Val (v.writes Val f (⟨r, w⟩ :: L)) y = w x := by
  have hy : r.emb x = y := funext fun a => Fin.ext (h a).symm
  rw [← hy]
  exact View.read_writes_cons_emb v f r w L x

/-- An index that misses the newest piece on one axis reads what the earlier stores left. -/
theorem rd_miss (r : Rect s) (w : r.shape.Idx → Val e) (L : List (View.Piece Val s e)) (y : s.Idx) (a : Fin s.rank)
    (h : ∀ j < r.size a, (y a).val ≠ r.off a + r.stride a * j) :
    v.read Val (v.writes Val f (⟨r, w⟩ :: L)) y = v.read Val (v.writes Val f L) y := by
  refine View.read_slice_write_of_not_mem _ _ _ _ fun hm => ?_
  obtain ⟨x, -, hx⟩ := Finset.mem_map.mp hm
  exact h (x a).val (x a).isLt (by rw [← hx]; rfl)

end Read

/-- A payload of a squeezed block, carried to the block with its two leading unit axes, read at an index. -/
theorem along5 {V : Type} {a b c : ℕ} (w : (⟨3, ![a, b, c]⟩ : Shape).Idx → V)
    (hR : (⟨5, ![1, 1, a, b, c]⟩ : Shape).numel = (⟨3, ![a, b, c]⟩ : Shape).numel)
    (i : Fin a) (j : Fin b) (k : Fin c) :
    w (Shape.reshapeEquiv hR (ix5 0 0 i j k)) = w (ix3 i j k) := by
  have := shapeCast_apply (t := ⟨5, ![1, 1, a, b, c]⟩) w hR (ix5 0 0 i j k) (ix3 i j k) (by
    rw [Shape.rowMajor_val_three, Shape.rowMajor_val_five]; simp)
  exact this

/-- Row `r`, lane `l` of a staged block of the weights. -/
def row (X : S1x6272x128.Idx → EReal) (r : ℕ) (l : Fin 128) : EReal :=
  if h : r < 6272 then X (ix3 0 ⟨r, h⟩ l) else 0

/-- A row number in range reads the block. -/
theorem row_eq (X : S1x6272x128.Idx → EReal) (r : ℕ) (h : r < 6272) (l : Fin 128) : X (ix3 0 ⟨r, h⟩ l) = row X r l := by
  rw [row, dif_pos h]

/-- The absolute value, as the programs compute it. -/
def av (x : EReal) : EReal := max x (-x)

/-- The greatest absolute value among rows `j`, `j + 16`, `j + 32`, `j + 48`. -/
def mx4 (X : S1x6272x128.Idx → EReal) (j : ℕ) (l : Fin 128) : EReal :=
  max (max (av (row X j l)) (av (row X (j + 16) l))) (max (av (row X (j + 32) l)) (av (row X (j + 48) l)))

/-- The greatest absolute value of block `q`, the 64 rows from `64 q` on. -/
def amax (X : S1x6272x128.Idx → EReal) (q : ℕ) (l : Fin 128) : EReal :=
  Finset.univ.sup fun r : Fin 64 => av (row X (64 * q + r.val) l)

/-- Each magnitude of a block of 64 rows is at most the block's maximum. -/
theorem av_le_amax (X : S1x6272x128.Idx → EReal) (q : ℕ) (l : Fin 128) (r : ℕ) (h : 64 * q ≤ r) (h' : r < 64 * q + 64) :
    av (row X r l) ≤ amax X q l := by
  have := Finset.le_sup (f := fun r : Fin 64 => av (row X (64 * q + r.val) l)) (Finset.mem_univ ⟨r - 64 * q, by omega⟩)
  simp only [Nat.add_sub_cancel' h] at this
  exact this

/-- The maximum of four of a block's rows is at most the block's maximum. -/
theorem mx4_le_amax (X : S1x6272x128.Idx → EReal) (q : ℕ) (l : Fin 128) (j : ℕ) (h : 64 * q ≤ j) (h' : j < 64 * q + 16) :
    mx4 X j l ≤ amax X q l := by
  refine max_le (max_le ?_ ?_) (max_le ?_ ?_) <;> exact av_le_amax X q l _ (by omega) (by omega)

/-- The greatest of the two row parities over eight row pairs. -/
def tree (g : ℕ → ℕ → EReal) (p : ℕ) : EReal :=
  max (max (max (g 0 p) (g 1 p)) (max (g 2 p) (g 3 p))) (max (max (g 4 p) (g 5 p)) (max (g 6 p) (g 7 p)))

/-- Each of the eight leaves is at most the tree of maxima over them. -/
theorem le_tree (g : ℕ → ℕ → EReal) (p s : ℕ) (hs : s < 8) : g s p ≤ tree g p := by
  unfold tree
  have : s = 0 ∨ s = 1 ∨ s = 2 ∨ s = 3 ∨ s = 4 ∨ s = 5 ∨ s = 6 ∨ s = 7 := by omega
  rcases this with h | h | h | h | h | h | h | h <;> subst h <;> simp [le_max_iff]

/-- The kernel's tree of maxima over a block is the greatest absolute value. -/
theorem tree_eq (X : S1x6272x128.Idx → EReal) (q : ℕ) (l : Fin 128) (g : ℕ → ℕ → EReal)
    (hg : ∀ s p, s < 8 → p < 2 → g s p = mx4 X (64 * q + 2 * s + p) l) :
    max (tree g 1) (tree g 0) = amax X q l := by
  apply le_antisymm
  · have hs : ∀ s p, s < 8 → p < 2 → g s p ≤ amax X q l := fun s p h h' => by
      rw [hg s p h h']; exact mx4_le_amax X q l _ (by omega) (by omega)
    have ht : ∀ p, p < 2 → tree g p ≤ amax X q l := fun p hp => by
      unfold tree
      refine max_le (max_le (max_le ?_ ?_) (max_le ?_ ?_)) (max_le (max_le ?_ ?_) (max_le ?_ ?_)) <;> exact hs _ _ (by omega) hp
    exact max_le (ht 1 (by omega)) (ht 0 (by omega))
  · refine Finset.sup_le fun r _ => ?_
    have hp : tree g (r.val % 2) ≤ max (tree g 1) (tree g 0) := by
      rcases Nat.mod_two_eq_zero_or_one r.val with h | h <;> rw [h]
      · exact le_max_right _ _
      · exact le_max_left _ _
    refine le_trans ?_ hp
    refine le_trans ?_ (le_tree g (r.val % 2) (r.val % 16 / 2) (by omega))
    rw [hg _ _ (by omega) (by omega)]
    have hr := r.isLt
    have e : 64 * q + 2 * (r.val % 16 / 2) + r.val % 2 = 64 * q + r.val % 16 := by omega
    rw [e]
    have : r.val / 16 = 0 ∨ r.val / 16 = 1 ∨ r.val / 16 = 2 ∨ r.val / 16 = 3 := by omega
    unfold mx4
    rcases this with h | h | h | h
    · have : 64 * q + r.val = 64 * q + r.val % 16 := by omega
      rw [this]; simp [le_max_iff]
    · have : 64 * q + r.val = 64 * q + r.val % 16 + 16 := by omega
      rw [this]; simp [le_max_iff]
    · have : 64 * q + r.val = 64 * q + r.val % 16 + 32 := by omega
      rw [this]; simp [le_max_iff]
    · have : 64 * q + r.val = 64 * q + r.val % 16 + 48 := by omega
      rw [this]; simp [le_max_iff]

end Cert.Proof.Val
-- ==== Proof.ValueAbs.lean ====
/-
  The six loops of pairwise maxima: what each leaves in the scratch rows.
-/
module

public import proofs.«01_k».proof.Proof.ValueBasic

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The pairwise maxima of the first `n` blocks from `q0` on stand in the scratch rows of parity `par`, half `h`. -/
def MF (par h : Fin 2) (X : S1x6272x128.Idx → EReal) (q0 n : ℕ) (R : S2x2x72x2x128.Idx → EReal) : Prop :=
  ∀ (b s : ℕ) (hn : 9 * b + s < 72), b < n → s < 8 → ∀ (p : Fin 2) (l : Fin 128),
    R (ix5 par h ⟨9 * b + s, hn⟩ p l) = mx4 X (64 * (q0 + b) + 2 * s + p.val) l

/-- `MF`, trivially true before the first trip. -/
def MFT (par h : Fin 2) (X : S1x6272x128.Idx → EReal) (q0 n : ℕ) (R : S2x2x72x2x128.Idx → EReal) : Prop :=
  match n with
  | 0 => True
  | n + 1 => MF par h X q0 (n + 1) R

/-- `MFT` gives `MF`. -/
theorem MFT_MF {par h : Fin 2} {X : S1x6272x128.Idx → EReal} {q0 n : ℕ} {R : S2x2x72x2x128.Idx → EReal}
    (hm : MFT par h X q0 n R = True) : MF par h X q0 n R := by
  cases n with
  | zero => intro b s hn hb; omega
  | succ n => exact of_eq_true hm

/-- A buffer is owned whole and holds `f`. -/
abbrev pt (c : Dev nD) {sp : Space} {s : Shape} {e : EltTy} (a : Memref sig .tc sp s e) (f : BufTy.Contents (Elt Ideal) a.view.ty) : sProp 𝕄 :=
  a.view.loc (c : Thread nD τ) ↦[a.view.set]{fullShare} f

/-- The contents `f` of a buffer, read at the indices of the buffer's view. -/
abbrev rd {sp : Space} {s : Shape} {e : EltTy} (a : Memref sig .tc sp s e) (f : BufTy.Contents (Elt Ideal) a.view.ty) : s.Idx → Elt Ideal e :=
  a.view.read (Elt Ideal) f

/-- Sixteen rows loaded from row `j0` of a staged block. -/
theorem ld16 (v : View sig .tc .vmem S1x6272x128 .bf16) (f : v.ty.Contents (Elt Ideal)) (off : Fin 3 → ℕ) (j0 : ℕ)
    (hin : ∀ a, off a + S1x16x128.size a ≤ S1x6272x128.size a) (j : ℕ) (hoff : off = ![0, j, 0]) (hj : j = j0) (r : Fin 16) (l : Fin 128) :
    v.readAt (Elt Ideal) (Rect.unit (s := S1x6272x128) off S1x16x128.size hin).toLoadRect f (ix3 0 r l)
      = row (v.read (Elt Ideal) f) (j0 + r.val) l := by
  subst hj hoff
  have h1 := hin 1
  have h1' : j + 16 ≤ 6272 := h1
  have hr := r.isLt
  rw [← row_eq _ _ (by omega : j + r.val < 6272)]
  rw [View.readAt_apply]
  refine congrArg _ (funext fun a => Fin.ext ?_)
  fin_cases a
  · rfl
  · show j + 1 * r.val = j + r.val; omega
  · show 0 + 1 * l.val = l.val; omega

/-- The absolute value over the reals. -/
theorem absf_av (φ : FTy) (x : Ideal φ) : FloatOps.absf (F := Ideal) x = av x := rfl

/-- What one trip of an absmax loop stores, at an index. -/
theorem pay258_apply (X : S1x6272x128.Idx → EReal) (j0 : ℕ) (a b c d : Vec Ideal S1x16x128 .bf16)
    (ha : ∀ (r : Fin 16) (l : Fin 128), a (ix3 0 r l) = row X (j0 + r.val) l)
    (hb : ∀ (r : Fin 16) (l : Fin 128), b (ix3 0 r l) = row X (j0 + 16 + r.val) l)
    (hc : ∀ (r : Fin 16) (l : Fin 128), c (ix3 0 r l) = row X (j0 + 32 + r.val) l)
    (hd : ∀ (r : Fin 16) (l : Fin 128), d (ix3 0 r l) = row X (j0 + 48 + r.val) l) (s : Fin 8) (p : Fin 2) (l : Fin 128) :
    k0_pay258 (F := Ideal) (k0_pay7 a) (k0_pay8 b) (k0_pay9 c) (k0_pay10 d) (ix3 s p l) = mx4 X (j0 + 2 * s.val + p.val) l := by
  pointwise [k0_pay258, k0_pay7, k0_pay8, k0_pay9, k0_pay10]
  simp only [ha, hb, hc, hd, absf_av]
  have hs := s.isLt
  have key : ∀ n m, n = m → av (row X n l) = av (row X m l) := fun n m e => by rw [e]
  unfold mx4
  have hp := p.isLt
  by_cases e : p.val % 2 = 0
  · rw [if_pos e]
    simp only [if_pos (show 2 * s.val % 2 = 0 by omega)]
    refine congrArg₂ max (congrArg₂ max (key _ _ ?_) (key _ _ ?_)) (congrArg₂ max (key _ _ ?_) (key _ _ ?_)) <;> omega
  · rw [if_neg e]
    simp only [if_neg (show ¬ (2 * s.val + 1) % 2 = 0 by omega)]
    refine congrArg₂ max (congrArg₂ max (key _ _ ?_) (key _ _ ?_)) (congrArg₂ max (key _ _ ?_) (key _ _ ?_)) <;> omega

/-- A trip's store keeps the maxima of the earlier blocks and adds those of block `q0 + k`. -/
theorem MF_store (v : View sig .tc .vmem S2x2x72x2x128 .bf16) (f : v.ty.Contents (Elt Ideal)) (par h : Fin 2)
    (X : S1x6272x128.Idx → EReal) (q0 k : ℕ) (hk : k < 7) (hm : MFT par h X q0 k (v.read (Elt Ideal) f) = True)
    (off : Fin 3 → ℕ) (hoff : off = ![9 * k, 0, 0])
    (h0 : ∀ a, (![par.val, h.val, 0, 0, 0] : Fin 5 → ℕ) a + S1x1x72x2x128.size a ≤ S2x2x72x2x128.size a)
    (h1 : ∀ a, off a + S8x2x128.size a ≤ S72x2x128.size a) (h2 h3 h4 h5 h6) (hR)
    (w : S8x2x128.Idx → EReal)
    (hw : ∀ (s : Fin 8) (p : Fin 2) (l : Fin 128), w (ix3 s p l) = mx4 X (64 * (q0 + k) + 2 * s.val + p.val) l) :
    MFT par h X q0 (k + 1) (v.read (Elt Ideal) (v.writes (Elt Ideal) f
      [⟨(Rect.unit (s := S2x2x72x2x128) ![par.val, h.val, 0, 0, 0] S1x1x72x2x128.size h0).within
          (((Rect.unit (s := S72x2x128) off S8x2x128.size h1).consLift ![1, 72, 2, 128] h2 h3).consLift ![1, 1, 72, 2, 128] h4 h5) h6,
        Rect.payAlong (r := Rect.unit (s := S72x2x128) off S8x2x128.size h1) (V := EReal) hR w⟩])) = True := by
  subst hoff
  refine eq_true ?_
  intro b s hn hb hs p l
  by_cases e : b = k
  · subst e
    refine (rd_hit v f _ _ _ _ (ix5 (n0 := 1) (n1 := 1) (n2 := 8) (n3 := 2) (n4 := 128) 0 0 ⟨s, hs⟩ p l) ?_).trans ?_
    · intro a
      fin_cases a
      · show par.val = par.val + 0 + 1 * 0; omega
      · show h.val = h.val + 0 + 1 * 0; omega
      · show 9 * b + s = 0 + 9 * b + 1 * s; omega
      · show p.val = 0 + 0 + 1 * p.val; omega
      · show l.val = 0 + 0 + 1 * l.val; omega
    · exact (along5 w hR ⟨s, hs⟩ p l).trans (hw ⟨s, hs⟩ p l)
  · refine (rd_miss v f _ _ _ _ 2 ?_).trans (MFT_MF hm b s hn (by omega) hs p l)
    intro j hj
    have hj' : j < 8 := hj
    show 9 * b + s ≠ 0 + 9 * k + 1 * j
    omega

/-- The number of the second of four. -/
theorem fin4_val_one : ((1 : Fin 4) : ℕ) = 1 := rfl

/-- The number of the third of four. -/
theorem fin4_val_two : ((2 : Fin 4) : ℕ) = 2 := rfl

/-- The number of the fourth of four. -/
theorem fin4_val_three : ((3 : Fin 4) : ℕ) = 3 := rfl

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option sl_exec.squeezeSlice true in
/-- One trip of loop 1 adds the maxima of one block. -/
theorem step_t1  (X : BufTy.Contents (Elt Ideal) arg2.view.ty) (k : Fin k0_t1_loop.trips) :
    iprop(pt c arg2 X ∗ ∃ f, pt c arg11 f ∗ ⌜MFT 0 0 (rd arg2 X) 0 k.val (rd arg11 f) = True⌝) ⊢ wp frame (wpE (defs₀ (F := Ideal)) 𝒱 (c : Thread nD τ) bd) E
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  k ()) (fun _ => iprop(pt c arg2 X ∗ ∃ f, pt c arg11 f ∗ ⌜MFT 0 0 (rd arg2 X) 0 (k.val + 1) (rd arg11 f) = True⌝)) := by
  have hk : k.val < 7 := Nat.lt_of_lt_of_le k.isLt k0_t1_abs.2.1
  unfold k0_t1_body
  iintro ⟨H2, ⟨%X11, H11, %hm⟩⟩
  sl_exec
  sl_step
  isplitl [H2]
  · iexact H2
  iexists _
  isplitl [H11]
  · iexact H11
  ipureintro
  refine MF_store arg11.view X11 0 0 _ _ k.val hk hm _ (k0_off2_eq k) _ _ _ _ _ _ _ _ _ ?_
  intro s p l
  exact pay258_apply _ _ _ _ _ _ (ld16 _ _ _ _ _ _ (k0_off1_eq k 0) (by simp only [Fin.val_zero, fin4_val_one, fin4_val_two, fin4_val_three]; omega)) (ld16 _ _ _ _ _ _ (k0_off1_eq k 1) (by simp only [Fin.val_zero, fin4_val_one, fin4_val_two, fin4_val_three]; omega)) (ld16 _ _ _ _ _ _ (k0_off1_eq k 2) (by simp only [Fin.val_zero, fin4_val_one, fin4_val_two, fin4_val_three]; omega)) (ld16 _ _ _ _ _ _ (k0_off1_eq k 3) (by simp only [Fin.val_zero, fin4_val_one, fin4_val_two, fin4_val_three]; omega)) s p l

/-- Loop 1's invariant. -/
@[sl_loop, instance_reducible] def inv_t1  (X : BufTy.Contents (Elt Ideal) arg2.view.ty) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  where
  inv := fun k _ => iprop(pt c arg2 X ∗ ∃ f, pt c arg11 f ∗ ⌜MFT 0 0 (rd arg2 X) 0 k (rd arg11 f) = True⌝)
  step := fun k _ => step_t1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19  X k

set_option sl_exec.squeezeSlice true in
/-- One trip of loop 2 adds the maxima of one block. -/
theorem step_t2 (v70 : FVec Ideal S7x128 .f32) (X : BufTy.Contents (Elt Ideal) arg3.view.ty) (k : Fin k0_t2_loop.trips) :
    iprop(pt c arg3 X ∗ ∃ f, pt c arg11 f ∗ ⌜MFT 0 1 (rd arg3 X) 0 k.val (rd arg11 f) = True⌝) ⊢ wp frame (wpE (defs₀ (F := Ideal)) 𝒱 (c : Thread nD τ) bd) E
      (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 k ()) (fun _ => iprop(pt c arg3 X ∗ ∃ f, pt c arg11 f ∗ ⌜MFT 0 1 (rd arg3 X) 0 (k.val + 1) (rd arg11 f) = True⌝)) := by
  have hk : k.val < 7 := Nat.lt_of_lt_of_le k.isLt k0_t2_abs.2.1
  unfold k0_t2_body
  iintro ⟨H2, ⟨%X11, H11, %hm⟩⟩
  sl_exec
  sl_step
  isplitl [H2]
  · iexact H2
  iexists _
  isplitl [H11]
  · iexact H11
  ipureintro
  refine MF_store arg11.view X11 0 1 _ _ k.val hk hm _ (k0_off5_eq k) _ _ _ _ _ _ _ _ _ ?_
  intro s p l
  exact pay258_apply _ _ _ _ _ _ (ld16 _ _ _ _ _ _ (k0_off4_eq k 0) (by simp only [Fin.val_zero, fin4_val_one, fin4_val_two, fin4_val_three]; omega)) (ld16 _ _ _ _ _ _ (k0_off4_eq k 1) (by simp only [Fin.val_zero, fin4_val_one, fin4_val_two, fin4_val_three]; omega)) (ld16 _ _ _ _ _ _ (k0_off4_eq k 2) (by simp only [Fin.val_zero, fin4_val_one, fin4_val_two, fin4_val_three]; omega)) (ld16 _ _ _ _ _ _ (k0_off4_eq k 3) (by simp only [Fin.val_zero, fin4_val_one, fin4_val_two, fin4_val_three]; omega)) s p l

/-- Loop 2's invariant. -/
@[sl_loop, instance_reducible] def inv_t2 (v70 : FVec Ideal S7x128 .f32) (X : BufTy.Contents (Elt Ideal) arg3.view.ty) :
    LoopInvTy_k0_t2 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 where
  inv := fun k _ => iprop(pt c arg3 X ∗ ∃ f, pt c arg11 f ∗ ⌜MFT 0 1 (rd arg3 X) 0 k (rd arg11 f) = True⌝)
  step := fun k _ => step_t2 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v70 X k

set_option sl_exec.squeezeSlice true in
/-- One trip of loop 6 adds the maxima of one block. -/
theorem step_t6 (c0_i32_135 : BitVec 32) (c1_i32_137 : BitVec 32) (k0_t3 : Fin k0_t3_loop.trips) (v170 : BitVec 32) (X : BufTy.Contents (Elt Ideal) arg2.view.ty) (k : Fin k0_t6_loop.trips) :
    iprop(pt c arg2 X ∗ ∃ f, pt c arg11 f ∗ ⌜MFT 1 0 (rd arg2 X) (7 * (2 * k0_t3.val + 1)) k.val (rd arg11 f) = True⌝) ⊢ wp frame (wpE (defs₀ (F := Ideal)) 𝒱 (c : Thread nD τ) bd) E
      (k0_t6_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 k ()) (fun _ => iprop(pt c arg2 X ∗ ∃ f, pt c arg11 f ∗ ⌜MFT 1 0 (rd arg2 X) (7 * (2 * k0_t3.val + 1)) (k.val + 1) (rd arg11 f) = True⌝)) := by
  have hk : k.val < 7 := Nat.lt_of_lt_of_le k.isLt k0_t6_abs.2.1
  have hk3 : k0_t3.val < 7 := Nat.lt_of_lt_of_le k0_t3.isLt k0_t3_abs.2.1
  unfold k0_t6_body
  iintro ⟨H2, ⟨%X11, H11, %hm⟩⟩
  sl_exec
  sl_step
  isplitl [H2]
  · iexact H2
  iexists _
  isplitl [H11]
  · iexact H11
  ipureintro
  refine MF_store arg11.view X11 1 0 _ _ k.val hk hm _ (k0_off15_eq k) _ _ _ _ _ _ _ _ _ ?_
  intro s p l
  exact pay258_apply _ _ _ _ _ _ (ld16 _ _ _ _ _ _ (k0_off14_eq k0_t3 k 0) (by simp only [Fin.val_zero, fin4_val_one, fin4_val_two, fin4_val_three]; omega)) (ld16 _ _ _ _ _ _ (k0_off14_eq k0_t3 k 1) (by simp only [Fin.val_zero, fin4_val_one, fin4_val_two, fin4_val_three]; omega)) (ld16 _ _ _ _ _ _ (k0_off14_eq k0_t3 k 2) (by simp only [Fin.val_zero, fin4_val_one, fin4_val_two, fin4_val_three]; omega)) (ld16 _ _ _ _ _ _ (k0_off14_eq k0_t3 k 3) (by simp only [Fin.val_zero, fin4_val_one, fin4_val_two, fin4_val_three]; omega)) s p l

/-- Loop 6's invariant. -/
@[sl_loop, instance_reducible] def inv_t6 (c0_i32_135 : BitVec 32) (c1_i32_137 : BitVec 32) (k0_t3 : Fin k0_t3_loop.trips) (v170 : BitVec 32) (X : BufTy.Contents (Elt Ideal) arg2.view.ty) :
    LoopInvTy_k0_t6 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 where
  inv := fun k _ => iprop(pt c arg2 X ∗ ∃ f, pt c arg11 f ∗ ⌜MFT 1 0 (rd arg2 X) (7 * (2 * k0_t3.val + 1)) k (rd arg11 f) = True⌝)
  step := fun k _ => step_t6 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v170 X k

set_option sl_exec.squeezeSlice true in
/-- One trip of loop 7 adds the maxima of one block. -/
theorem step_t7 (arg0 : BitVec 32) (arg1 : BitVec 32) (k0_t3 : Fin k0_t3_loop.trips) (v170 : BitVec 32) (v218 : FVec Ideal S8x128 .f32) (v237 : FVec Ideal S7x128 .f32) (X : BufTy.Contents (Elt Ideal) arg3.view.ty) (k : Fin k0_t7_loop.trips) :
    iprop(pt c arg3 X ∗ ∃ f, pt c arg11 f ∗ ⌜MFT 1 1 (rd arg3 X) (7 * (2 * k0_t3.val + 1)) k.val (rd arg11 f) = True⌝) ⊢ wp frame (wpE (defs₀ (F := Ideal)) 𝒱 (c : Thread nD τ) bd) E
      (k0_t7_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 k ()) (fun _ => iprop(pt c arg3 X ∗ ∃ f, pt c arg11 f ∗ ⌜MFT 1 1 (rd arg3 X) (7 * (2 * k0_t3.val + 1)) (k.val + 1) (rd arg11 f) = True⌝)) := by
  have hk : k.val < 7 := Nat.lt_of_lt_of_le k.isLt k0_t7_abs.2.1
  have hk3 : k0_t3.val < 7 := Nat.lt_of_lt_of_le k0_t3.isLt k0_t3_abs.2.1
  unfold k0_t7_body
  iintro ⟨H2, ⟨%X11, H11, %hm⟩⟩
  sl_exec
  sl_step
  isplitl [H2]
  · iexact H2
  iexists _
  isplitl [H11]
  · iexact H11
  ipureintro
  refine MF_store arg11.view X11 1 1 _ _ k.val hk hm _ (k0_off19_eq k) _ _ _ _ _ _ _ _ _ ?_
  intro s p l
  exact pay258_apply _ _ _ _ _ _ (ld16 _ _ _ _ _ _ (k0_off18_eq k0_t3 k 0) (by simp only [Fin.val_zero, fin4_val_one, fin4_val_two, fin4_val_three]; omega)) (ld16 _ _ _ _ _ _ (k0_off18_eq k0_t3 k 1) (by simp only [Fin.val_zero, fin4_val_one, fin4_val_two, fin4_val_three]; omega)) (ld16 _ _ _ _ _ _ (k0_off18_eq k0_t3 k 2) (by simp only [Fin.val_zero, fin4_val_one, fin4_val_two, fin4_val_three]; omega)) (ld16 _ _ _ _ _ _ (k0_off18_eq k0_t3 k 3) (by simp only [Fin.val_zero, fin4_val_one, fin4_val_two, fin4_val_three]; omega)) s p l

/-- Loop 7's invariant. -/
@[sl_loop, instance_reducible] def inv_t7 (arg0 : BitVec 32) (arg1 : BitVec 32) (k0_t3 : Fin k0_t3_loop.trips) (v170 : BitVec 32) (v218 : FVec Ideal S8x128 .f32) (v237 : FVec Ideal S7x128 .f32) (X : BufTy.Contents (Elt Ideal) arg3.view.ty) :
    LoopInvTy_k0_t7 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 where
  inv := fun k _ => iprop(pt c arg3 X ∗ ∃ f, pt c arg11 f ∗ ⌜MFT 1 1 (rd arg3 X) (7 * (2 * k0_t3.val + 1)) k (rd arg11 f) = True⌝)
  step := fun k _ => step_t7 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 k0_t3 v170 v218 v237 X k

set_option sl_exec.squeezeSlice true in
/-- One trip of loop 10 adds the maxima of one block. -/
theorem step_t10 (k0_t3 : Fin k0_t3_loop.trips) (v167 : BitVec 32) (v406 : BitVec 32) (X : BufTy.Contents (Elt Ideal) arg2.view.ty) (k : Fin k0_t10_loop.trips) :
    iprop(pt c arg2 X ∗ ∃ f, pt c arg11 f ∗ ⌜MFT 0 0 (rd arg2 X) (7 * min (2 * k0_t3.val + 2) 13) k.val (rd arg11 f) = True⌝) ⊢ wp frame (wpE (defs₀ (F := Ideal)) 𝒱 (c : Thread nD τ) bd) E
      (k0_t10_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 k ()) (fun _ => iprop(pt c arg2 X ∗ ∃ f, pt c arg11 f ∗ ⌜MFT 0 0 (rd arg2 X) (7 * min (2 * k0_t3.val + 2) 13) (k.val + 1) (rd arg11 f) = True⌝)) := by
  have hk : k.val < 7 := Nat.lt_of_lt_of_le k.isLt k0_t10_abs.2.1
  have hk3 : k0_t3.val < 7 := Nat.lt_of_lt_of_le k0_t3.isLt k0_t3_abs.2.1
  unfold k0_t10_body
  iintro ⟨H2, ⟨%X11, H11, %hm⟩⟩
  sl_exec
  sl_step
  isplitl [H2]
  · iexact H2
  iexists _
  isplitl [H11]
  · iexact H11
  ipureintro
  refine MF_store arg11.view X11 0 0 _ _ k.val hk hm _ (k0_off37_eq k) _ _ _ _ _ _ _ _ _ ?_
  intro s p l
  exact pay258_apply _ _ _ _ _ _ (ld16 _ _ _ _ _ _ (k0_off36_eq k0_t3 k 0) (by simp only [Fin.val_zero, fin4_val_one, fin4_val_two, fin4_val_three]; omega)) (ld16 _ _ _ _ _ _ (k0_off36_eq k0_t3 k 1) (by simp only [Fin.val_zero, fin4_val_one, fin4_val_two, fin4_val_three]; omega)) (ld16 _ _ _ _ _ _ (k0_off36_eq k0_t3 k 2) (by simp only [Fin.val_zero, fin4_val_one, fin4_val_two, fin4_val_three]; omega)) (ld16 _ _ _ _ _ _ (k0_off36_eq k0_t3 k 3) (by simp only [Fin.val_zero, fin4_val_one, fin4_val_two, fin4_val_three]; omega)) s p l

/-- Loop 10's invariant. -/
@[sl_loop, instance_reducible] def inv_t10 (k0_t3 : Fin k0_t3_loop.trips) (v167 : BitVec 32) (v406 : BitVec 32) (X : BufTy.Contents (Elt Ideal) arg2.view.ty) :
    LoopInvTy_k0_t10 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 where
  inv := fun k _ => iprop(pt c arg2 X ∗ ∃ f, pt c arg11 f ∗ ⌜MFT 0 0 (rd arg2 X) (7 * min (2 * k0_t3.val + 2) 13) k (rd arg11 f) = True⌝)
  step := fun k _ => step_t10 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v406 X k

set_option sl_exec.squeezeSlice true in
/-- One trip of loop 11 adds the maxima of one block. -/
theorem step_t11 (k0_t3 : Fin k0_t3_loop.trips) (v406 : BitVec 32) (v474 : FVec Ideal S7x128 .f32) (X : BufTy.Contents (Elt Ideal) arg3.view.ty) (k : Fin k0_t11_loop.trips) :
    iprop(pt c arg3 X ∗ ∃ f, pt c arg11 f ∗ ⌜MFT 0 1 (rd arg3 X) (7 * min (2 * k0_t3.val + 2) 13) k.val (rd arg11 f) = True⌝) ⊢ wp frame (wpE (defs₀ (F := Ideal)) 𝒱 (c : Thread nD τ) bd) E
      (k0_t11_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 k ()) (fun _ => iprop(pt c arg3 X ∗ ∃ f, pt c arg11 f ∗ ⌜MFT 0 1 (rd arg3 X) (7 * min (2 * k0_t3.val + 2) 13) (k.val + 1) (rd arg11 f) = True⌝)) := by
  have hk : k.val < 7 := Nat.lt_of_lt_of_le k.isLt k0_t11_abs.2.1
  have hk3 : k0_t3.val < 7 := Nat.lt_of_lt_of_le k0_t3.isLt k0_t3_abs.2.1
  unfold k0_t11_body
  iintro ⟨H2, ⟨%X11, H11, %hm⟩⟩
  sl_exec
  sl_step
  isplitl [H2]
  · iexact H2
  iexists _
  isplitl [H11]
  · iexact H11
  ipureintro
  refine MF_store arg11.view X11 0 1 _ _ k.val hk hm _ (k0_off41_eq k) _ _ _ _ _ _ _ _ _ ?_
  intro s p l
  exact pay258_apply _ _ _ _ _ _ (ld16 _ _ _ _ _ _ (k0_off40_eq k0_t3 k 0) (by simp only [Fin.val_zero, fin4_val_one, fin4_val_two, fin4_val_three]; omega)) (ld16 _ _ _ _ _ _ (k0_off40_eq k0_t3 k 1) (by simp only [Fin.val_zero, fin4_val_one, fin4_val_two, fin4_val_three]; omega)) (ld16 _ _ _ _ _ _ (k0_off40_eq k0_t3 k 2) (by simp only [Fin.val_zero, fin4_val_one, fin4_val_two, fin4_val_three]; omega)) (ld16 _ _ _ _ _ _ (k0_off40_eq k0_t3 k 3) (by simp only [Fin.val_zero, fin4_val_one, fin4_val_two, fin4_val_three]; omega)) s p l

/-- Loop 11's invariant. -/
@[sl_loop, instance_reducible] def inv_t11 (k0_t3 : Fin k0_t3_loop.trips) (v406 : BitVec 32) (v474 : FVec Ideal S7x128 .f32) (X : BufTy.Contents (Elt Ideal) arg3.view.ty) :
    LoopInvTy_k0_t11 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 where
  inv := fun k _ => iprop(pt c arg3 X ∗ ∃ f, pt c arg11 f ∗ ⌜MFT 0 1 (rd arg3 X) (7 * min (2 * k0_t3.val + 2) 13) k (rd arg11 f) = True⌝)
  step := fun k _ => step_t11 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v406 v474 X k

end Run
end Cert.Proof.Val
-- ==== Proof.ValueRed.lean ====
/-
  The reductions over the loaded maxima, and the stores of the block maxima
-/
module

public import proofs.«01_k».proof.Proof.ValueAbs

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A value of a block with two leading unit axes, carried back to the squeezed block, read at an index. -/
theorem back5 {a b c : ℕ} (hR : (⟨3, ![a, b, c]⟩ : Shape).numel = (⟨5, ![1, 1, a, b, c]⟩ : Shape).numel)
    (i : Fin a) (j : Fin b) (k : Fin c) :
    Shape.reshapeEquiv hR (ix3 i j k) = ix5 0 0 i j k :=
  shapeCast_apply (s := ⟨5, ![1, 1, a, b, c]⟩) (t := ⟨3, ![a, b, c]⟩) (fun x => x) hR (ix3 i j k) (ix5 0 0 i j k) (by
    rw [Shape.rowMajor_val_three, Shape.rowMajor_val_five]; simp)

/-- The partial maxima of one parity and one half lie within their buffer. -/
theorem inb_m (par h : Fin 2) : ∀ a, (![par.val, h.val, 0, 0, 0] : Fin 5 → ℕ) a + S1x1x72x2x128.size a ≤ S2x2x72x2x128.size a := by
  have := par.isLt
  have := h.isLt
  intro a
  fin_cases a
  · show par.val + 1 ≤ 2; omega
  · show h.val + 1 ≤ 2; omega
  · show 0 + 72 ≤ 72; omega
  · show 0 + 2 ≤ 2; omega
  · show 0 + 128 ≤ 128; omega

/-- A strided load of partial maxima lies within its buffer. -/
theorem inb_s (s : Fin 8) : ∀ a, S8x2x128.size a = 0 ∨ (![s.val, 0, 0] : Fin 3 → ℕ) a + (![9, 1, 1] : Fin 3 → ℕ) a * (S8x2x128.size a - 1) < S72x2x128.size a := by
  have := s.isLt
  intro a
  refine .inr ?_
  fin_cases a
  · show s.val + 9 * 7 < 72; omega
  · show 0 + 1 * 1 < 2; omega
  · show 0 + 1 * 127 < 128; omega

/-- The load of row pair `s` of every block: a stride of nine row pairs from one half of the maxima scratch. -/
abbrev mrect (s : Fin 8) : LoadRect S72x2x128 := ⟨![s.val, 0, 0], S8x2x128.size, ![9, 1, 1], inb_s s⟩

/-- A strided load from one parity and one half, as a load from the whole buffer. -/
abbrev mlift (s : Fin 8) : LoadRect S1x1x72x2x128 :=
  ((mrect s).consLift ![1, 72, 2, 128] (by decide) (by decide)).consLift ![1, 1, 72, 2, 128] (by decide) (by decide)

/-- The load keeps its number of elements. -/
theorem mnumel (s : Fin 8) (par h : Fin 2) : (mrect s).shape.numel =
    ((Rect.unit (s := S2x2x72x2x128) ![par.val, h.val, 0, 0, 0] S1x1x72x2x128.size (inb_m par h)).withinL (mlift s) (fun _ => rfl)).shape.numel :=
  ((mrect s).numel_consLift ![1, 72, 2, 128] (by decide) (by decide)).trans
    (((mrect s).consLift ![1, 72, 2, 128] (by decide) (by decide)).numel_consLift ![1, 1, 72, 2, 128] (by decide) (by decide))

/-- What a strided load of partial maxima reads. -/
abbrev mraw (v : View sig .tc .vmem S2x2x72x2x128 .bf16) (f : v.ty.Contents (Elt Ideal)) (par h : Fin 2) (s : Fin 8) : Vec Ideal S8x2x128 .bf16 :=
  LoadRect.valAlong (V := EReal) (mnumel s par h)
    (v.readAt (Elt Ideal) ((Rect.unit (s := S2x2x72x2x128) ![par.val, h.val, 0, 0, 0] S1x1x72x2x128.size (inb_m par h)).withinL (mlift s) (fun _ => rfl)) f)

/-- The loaded row pair `s` of block `b` is row pair `9 b + s` of the scratch. -/
theorem mraw_apply (v : View sig .tc .vmem S2x2x72x2x128 .bf16) (f : v.ty.Contents (Elt Ideal)) (par h : Fin 2) (s : Fin 8)
    (b : Fin 8) (p : Fin 2) (l : Fin 128) :
    mraw v f par h s (ix3 b p l) = v.read (Elt Ideal) f (ix5 par h ⟨9 * b.val + s.val, by omega⟩ p l) := by
  have e := back5 (a := 8) (b := 2) (c := 128) (mnumel s par h) b p l
  refine (congrArg (v.readAt (Elt Ideal) _ f) e).trans ?_
  refine congrArg (v.read (Elt Ideal) f) (funext fun a => Fin.ext ?_)
  fin_cases a
  · show par.val + 0 + 1 * 0 = par.val; omega
  · show h.val + 0 + 1 * 0 = h.val; omega
  · show 0 + s.val + 9 * b.val = 9 * b.val + s.val; omega
  · show 0 + 0 + 1 * p.val = p.val; omega
  · show 0 + 0 + 1 * l.val = l.val; omega

/-- The loaded row pair `s` of block `b` holds maxima of four rows. -/
theorem mraw_mx4 (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 8) (hb7 : b.val < 7) (l : Fin 128) (s : Fin 8) (p : Fin 2) :
    mraw v f par h s (ix3 b p l) = mx4 X (64 * (q0 + b.val) + 2 * s.val + p.val) l :=
  (mraw_apply v f par h s b p l).trans (MFT_MF hm b.val s.val _ (by omega) s.isLt p l)

/-- Eight loaded row pairs reduced to one row are the block's greatest absolute value. -/
theorem red_apply (X : S1x6272x128.Idx → EReal) (q : ℕ) (b : Fin 8) (l : Fin 128) (r0 r1 r2 r3 r4 r5 r6 r7 : Vec Ideal S8x2x128 .bf16)
    (h0 : ∀ p : Fin 2, r0 (ix3 b p l) = mx4 X (64 * q + 2 * 0 + p.val) l)
    (h1 : ∀ p : Fin 2, r1 (ix3 b p l) = mx4 X (64 * q + 2 * 1 + p.val) l)
    (h2 : ∀ p : Fin 2, r2 (ix3 b p l) = mx4 X (64 * q + 2 * 2 + p.val) l)
    (h3 : ∀ p : Fin 2, r3 (ix3 b p l) = mx4 X (64 * q + 2 * 3 + p.val) l)
    (h4 : ∀ p : Fin 2, r4 (ix3 b p l) = mx4 X (64 * q + 2 * 4 + p.val) l)
    (h5 : ∀ p : Fin 2, r5 (ix3 b p l) = mx4 X (64 * q + 2 * 5 + p.val) l)
    (h6 : ∀ p : Fin 2, r6 (ix3 b p l) = mx4 X (64 * q + 2 * 6 + p.val) l)
    (h7 : ∀ p : Fin 2, r7 (ix3 b p l) = mx4 X (64 * q + 2 * 7 + p.val) l) :
    k0_pay266 (F := Ideal) (k0_pay262 (k0_pay259 r0) (k0_pay260 r1)) (k0_pay263 (k0_pay261 r2) r3) (k0_pay264 r4 r5)
      (k0_pay265 r6 r7) (ix2 b l) = amax X q l := by
  rw [← tree_eq X q l (fun s p => mx4 X (64 * q + 2 * s + p) l) (fun _ _ _ _ => rfl)]
  pointwise [k0_pay266, k0_pay262, k0_pay263, k0_pay264, k0_pay265, k0_pay259, k0_pay260, k0_pay261]
  have e0 : ∀ h, (⟨2 * b.val / 2, h⟩ : Fin 8) = b := fun h => Fin.ext (by show 2 * b.val / 2 = b.val; omega)
  have e1 : ∀ h, (⟨(2 * b.val + 1) / 2, h⟩ : Fin 8) = b := fun h => Fin.ext (by show (2 * b.val + 1) / 2 = b.val; omega)
  simp only [if_neg (show ¬ (2 * b.val + 1) % 2 = 0 by omega), if_pos (show 2 * b.val % 2 = 0 by omega), e0, e1,
    h0, h1, h2, h3, h4, h5, h6, h7]
  rfl

/-- The four partial maxima of a half's blocks, from the eight loads. -/
abbrev mA (v : View sig .tc .vmem S2x2x72x2x128 .bf16) (f : v.ty.Contents (Elt Ideal)) (par h : Fin 2) : FVec Ideal S16x128 .bf16 :=
  k0_pay262 (F := Ideal) (k0_pay259 (mraw v f par h 0)) (k0_pay260 (mraw v f par h 1))

/-- The maximum of the second pair of loads. -/
abbrev mB (v : View sig .tc .vmem S2x2x72x2x128 .bf16) (f : v.ty.Contents (Elt Ideal)) (par h : Fin 2) : FVec Ideal S16x128 .bf16 :=
  k0_pay263 (F := Ideal) (k0_pay261 (mraw v f par h 2)) (mraw v f par h 3)

/-- The maximum of the third pair of loads. -/
abbrev mC (v : View sig .tc .vmem S2x2x72x2x128 .bf16) (f : v.ty.Contents (Elt Ideal)) (par h : Fin 2) : FVec Ideal S16x128 .bf16 :=
  k0_pay264 (F := Ideal) (mraw v f par h 4) (mraw v f par h 5)

/-- The maximum of the fourth pair of loads. -/
abbrev mD (v : View sig .tc .vmem S2x2x72x2x128 .bf16) (f : v.ty.Contents (Elt Ideal)) (par h : Fin 2) : FVec Ideal S16x128 .bf16 :=
  k0_pay265 (F := Ideal) (mraw v f par h 6) (mraw v f par h 7)

/-- The reduced maxima of a half are its blocks' greatest absolute values. -/
theorem red_val (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 8) (hb7 : b.val < 7) (l : Fin 128) :
    k0_pay266 (F := Ideal) (mA v f par h) (mB v f par h) (mC v f par h) (mD v f par h) (ix2 b l) = amax X (q0 + b.val) l :=
  red_apply X (q0 + b.val) b l _ _ _ _ _ _ _ _ (mraw_mx4 v f par h X q0 hm hn b hb7 l 0) (mraw_mx4 v f par h X q0 hm hn b hb7 l 1)
    (mraw_mx4 v f par h X q0 hm hn b hb7 l 2) (mraw_mx4 v f par h X q0 hm hn b hb7 l 3) (mraw_mx4 v f par h X q0 hm hn b hb7 l 4)
    (mraw_mx4 v f par h X q0 hm hn b hb7 l 5) (mraw_mx4 v f par h X q0 hm hn b hb7 l 6) (mraw_mx4 v f par h X q0 hm hn b hb7 l 7)

/-- The scale factor kept for a block whose greatest absolute value is `a`. -/
def cK (a : EReal) : EReal := Ideal.div (Ideal.ofBits .f32 0x3FBCCCCD#32) (if a = 0 then 1 else a)

/-- The stored maxima are the reduced maxima. -/
theorem pay267_apply (v38 v39 v40 v41 : FVec Ideal S16x128 .bf16) (b : Fin 8) (l : Fin 128) :
    k0_pay267 (F := Ideal) v38 v39 v40 v41 (ix4 0 0 b l) = k0_pay266 v38 v39 v40 v41 (ix2 b l) := by
  pointwise [k0_pay267]

/-- The maxima of a group, as they are kept for the result. -/
theorem pay269_apply (v38 v39 v40 v41 : FVec Ideal S16x128 .bf16) (b : Fin 7) (l : Fin 128) :
    k0_pay269 (F := Ideal) v38 v39 v40 v41 (ix2 b l) = k0_pay266 v38 v39 v40 v41 (ix2 ⟨b.val, by omega⟩ l) := by
  pointwise [k0_pay269]

/-- The maxima of a group, as they are kept for the second level. -/
theorem pay271_apply (v38 v39 v40 v41 : FVec Ideal S16x128 .bf16) (b : Fin 7) (l : Fin 128) :
    k0_pay271 (F := Ideal) (k0_pay270 v38 v39 v40 v41) (ix2 b l) = k0_pay266 v38 v39 v40 v41 (ix2 ⟨b.val, by omega⟩ l) := by
  pointwise [k0_pay271, k0_pay270]

/-- The stored factor is that of the maximum. -/
theorem pay268_apply (v38 v39 v40 v41 : FVec Ideal S16x128 .bf16) (b : Fin 8) (p : Fin 2) (l : Fin 128) :
    k0_pay268 (F := Ideal) v38 v39 v40 v41 (ix5 0 0 b p l) = cK (k0_pay266 v38 v39 v40 v41 (ix2 b l)) := by
  pointwise [k0_pay268]
  exact ite_self _

/-- What is stored from the reduced maxima, at an index. -/
theorem val267 (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 8) (hb7 : b.val < 7) (l : Fin 128) :
    k0_pay267 (F := Ideal) (mA v f par h) (mB v f par h) (mC v f par h) (mD v f par h) (ix4 0 0 b l) = amax X (q0 + b.val) l :=
  (pay267_apply _ _ _ _ b l).trans (red_val v f par h X q0 hm hn b hb7 l)

/-- The stored factors are those of the blocks' absolute maxima. -/
theorem val268 (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 8) (hb7 : b.val < 7) (p : Fin 2) (l : Fin 128) :
    k0_pay268 (F := Ideal) (mA v f par h) (mB v f par h) (mC v f par h) (mD v f par h) (ix5 0 0 b p l) = cK (amax X (q0 + b.val) l) :=
  (pay268_apply _ _ _ _ b p l).trans (congrArg cK (red_val v f par h X q0 hm hn b hb7 l))

/-- The maxima kept for the result are the absolute maxima of the blocks. -/
theorem val269 (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 7) (l : Fin 128) :
    k0_pay269 (F := Ideal) (mA v f par h) (mB v f par h) (mC v f par h) (mD v f par h) (ix2 b l) = amax X (q0 + b.val) l :=
  (pay269_apply _ _ _ _ b l).trans (red_val v f par h X q0 hm hn ⟨b.val, by omega⟩ b.isLt l)

/-- The maxima kept for the second level are the absolute maxima of the blocks. -/
theorem val271 (v : View sig .tc .vmem S2x2x72x2x128 .bf16) (f : v.ty.Contents (Elt Ideal)) (par h : Fin 2)
    (X : S1x6272x128.Idx → EReal) (q0 : ℕ) {n : ℕ} (hm : MFT par h X q0 n (v.read (Elt Ideal) f) = True) (hn : n = 7)
    (b : Fin 7) (l : Fin 128) :
    k0_pay271 (F := Ideal) (k0_pay270 (mA v f par h) (mB v f par h) (mC v f par h) (mD v f par h)) (ix2 b l) = amax X (q0 + b.val) l :=
  (pay271_apply _ _ _ _ b l).trans (red_val v f par h X q0 hm hn ⟨b.val, by omega⟩ b.isLt l)

/-- The block maxima kept for one half of a group: row `b` holds block `q0 + b`'s. -/
def AF (par h : Fin 2) (X : S1x6272x128.Idx → EReal) (q0 : ℕ) (R : S2x2x8x128.Idx → EReal) : Prop :=
  ∀ b : Fin 8, b.val < 7 → ∀ l : Fin 128, R (ix4 par h b l) = amax X (q0 + b.val) l

/-- The scale factors kept for one half of a group. -/
def CF (par h : Fin 2) (X : S1x6272x128.Idx → EReal) (q0 : ℕ) (R : S2x2x8x2x128.Idx → EReal) : Prop :=
  ∀ b : Fin 8, b.val < 7 → ∀ (p : Fin 2) (l : Fin 128), R (ix5 par h b p l) = cK (amax X (q0 + b.val) l)

/-- The first `n` block maxima of a half. -/
def SF (X : S1x6272x128.Idx → EReal) (n : ℕ) (R : S98x128.Idx → EReal) : Prop :=
  ∀ q : Fin 98, q.val < n → ∀ l : Fin 128, R (ix2 q l) = amax X q.val l

/-- The grid point that owns a row of the second level. -/
def owner (r : ℕ) : ℕ := 11 * (r / 1078) + r % 11

/-- The rows of the points before `t` and the first `n` of point `t` hold the maxima `HS`. -/
def HF (HS : ℕ → Fin 128 → EReal) (t n : ℕ) (R : S12936x128.Idx → EReal) : Prop :=
  ∀ r : Fin 12936, (owner r.val < t ∨ (owner r.val = t ∧ r.val % 1078 / 11 < n)) → ∀ l : Fin 128, R (ix2 r l) = HS r.val l

/-- Storing the seven rows of group `g` extends the kept maxima. -/
theorem SF_store (v : View sig .tc .vmem S98x128 .f32) (f : v.ty.Contents (Elt Ideal)) (L : List (View.Piece (Elt Ideal) S98x128 .f32))
    (X : S1x6272x128.Idx → EReal) (n m g : ℕ)
    (off : Fin 2 → ℕ) (o : ℕ) (hoff : off = ![o, 0]) (ho : o = 7 * g) (hin) (w : S7x128.Idx → EReal)
    (hw : ∀ (b : Fin 7) (l : Fin 128), w (ix2 b l) = amax X (7 * g + b.val) l)
    (hf : SF X n (v.read (Elt Ideal) (v.writes (Elt Ideal) f L)))
    (hm : ∀ q, q < 98 → q < m → q < n ∨ (7 * g ≤ q ∧ q < 7 * g + 7)) :
    SF X m (v.read (Elt Ideal) (v.writes (Elt Ideal) f (⟨Rect.unit (s := S98x128) off S7x128.size hin, w⟩ :: L))) := by
  subst ho hoff
  intro q hq l
  by_cases e : 7 * g ≤ q.val ∧ q.val < 7 * g + 7
  · refine (rd_hit v f _ _ _ _ (ix2 (n0 := 7) (n1 := 128) ⟨q.val - 7 * g, by omega⟩ l) ?_).trans ((hw _ l).trans ?_)
    · intro a
      fin_cases a
      · show q.val = 7 * g + 1 * (q.val - 7 * g); omega
      · show l.val = 0 + 1 * l.val; omega
    · show amax X (7 * g + (q.val - 7 * g)) l = _
      rw [Nat.add_sub_cancel' e.1]
  · refine (rd_miss v f _ _ _ _ 0 ?_).trans (hf q ?_ l)
    · intro j hj
      have hj' : j < 7 := hj
      show q.val ≠ 7 * g + 1 * j
      omega
    · rcases hm q.val q.isLt hq with h | h
      · exact h
      · exact absurd h e

/-- The table's rows of point `(x, y)` are the maxima of the staged block `X`. -/
def HSF (HS : ℕ → Fin 128 → EReal) (X : S1x6272x128.Idx → EReal) (x y : ℕ) : Prop :=
  ∀ q, q < 98 → ∀ l, HS (1078 * x + 11 * q + y) l = amax X q l

/-- Storing the seven rows of group `g` of point `11 x + y` in the second level's rows. -/
theorem HF_store (v : View sig .tc .vmem S12936x128 .f32) (f : v.ty.Contents (Elt Ideal)) (L : List (View.Piece (Elt Ideal) S12936x128 .f32))
    (HS : ℕ → Fin 128 → EReal) (X : S1x6272x128.Idx → EReal) (x y n m g : ℕ) (hx : x < 12) (hy : y < 11) (hg : g < 14)
    (hHS : HSF HS X x y)
    (off : Fin 2 → ℕ) (o : ℕ) (hoff : off = ![o, 0]) (ho : o = 1078 * x + 77 * g + y) (hin) (hpos) (w : S7x128.Idx → EReal)
    (hw : ∀ (b : Fin 7) (l : Fin 128), w (ix2 b l) = amax X (7 * g + b.val) l)
    (hf : HF HS (11 * x + y) n (v.read (Elt Ideal) (v.writes (Elt Ideal) f L)))
    (hm : ∀ q, q < 98 → q < m → q < n ∨ (7 * g ≤ q ∧ q < 7 * g + 7)) :
    HF HS (11 * x + y) m (v.read (Elt Ideal) (v.writes (Elt Ideal) f
      (⟨(⟨(⟨off, S7x128.size, ![11, 1], hin⟩ : LoadRect S12936x128), hpos⟩ : Rect S12936x128), w⟩ :: L))) := by
  subst ho hoff
  intro r hr l
  by_cases e : ∃ b : ℕ, b < 7 ∧ r.val = 1078 * x + 77 * g + y + 11 * b
  · obtain ⟨b, hb, e⟩ := e
    refine (rd_hit v f _ _ _ _ (ix2 (n0 := 7) (n1 := 128) ⟨b, hb⟩ l) ?_).trans ((hw _ l).trans ?_)
    · intro a
      fin_cases a
      · exact e
      · show l.val = 0 + 1 * l.val; omega
    · rw [← hHS (7 * g + b) (by omega) l, e]
      congr 1
      omega
  · refine (rd_miss v f _ _ _ _ 0 ?_).trans (hf r ?_ l)
    · intro j hj he
      exact e ⟨j, hj, he⟩
    · rcases hr with h | ⟨h, h'⟩
      · exact .inl h
      · rcases hm _ (by omega) h' with h'' | h''
        · exact .inr ⟨h, h''⟩
        · exfalso
          refine e ⟨r.val % 1078 / 11 - 7 * g, by omega, ?_⟩
          unfold owner at h
          have := r.isLt
          omega

/-- Storing the block maxima of one half of a group. -/
theorem AF_hit (v : View sig .tc .vmem S2x2x8x128 .f32) (f : v.ty.Contents (Elt Ideal)) (L : List (View.Piece (Elt Ideal) S2x2x8x128 .f32))
    (par h : Fin 2) (X : S1x6272x128.Idx → EReal) (q0 : ℕ) (hin) (w : S1x1x8x128.Idx → EReal)
    (hw : ∀ (b : Fin 8) (_ : b.val < 7) (l : Fin 128), w (ix4 0 0 b l) = amax X (q0 + b.val) l) :
    AF par h X q0 (v.read (Elt Ideal) (v.writes (Elt Ideal) f
      (⟨Rect.unit (s := S2x2x8x128) ![par.val, h.val, 0, 0] S1x1x8x128.size hin, w⟩ :: L))) := by
  intro b hb l
  refine (rd_hit v f _ _ _ _ (ix4 (n0 := 1) (n1 := 1) (n2 := 8) (n3 := 128) 0 0 b l) ?_).trans (hw b hb l)
  intro a
  fin_cases a
  · show par.val = par.val + 1 * 0; omega
  · show h.val = h.val + 1 * 0; omega
  · show b.val = 0 + 1 * b.val; omega
  · show l.val = 0 + 1 * l.val; omega

/-- A store of another half keeps the block maxima. -/
theorem AF_miss (v : View sig .tc .vmem S2x2x8x128 .f32) (f : v.ty.Contents (Elt Ideal)) (L : List (View.Piece (Elt Ideal) S2x2x8x128 .f32))
    (par h par' h' : Fin 2) (X : S1x6272x128.Idx → EReal) (q0 : ℕ) (hin) (w : S1x1x8x128.Idx → EReal)
    (hne : par ≠ par' ∨ h ≠ h') (hf : AF par h X q0 (v.read (Elt Ideal) (v.writes (Elt Ideal) f L))) :
    AF par h X q0 (v.read (Elt Ideal) (v.writes (Elt Ideal) f
      (⟨Rect.unit (s := S2x2x8x128) ![par'.val, h'.val, 0, 0] S1x1x8x128.size hin, w⟩ :: L))) := by
  intro b hb l
  rcases hne with e | e
  · refine (rd_miss v f _ _ _ _ 0 fun j hj => ?_).trans (hf b hb l)
    have hj' : j < 1 := hj
    show par.val ≠ par'.val + 1 * j
    have := Fin.val_ne_of_ne e
    omega
  · refine (rd_miss v f _ _ _ _ 1 fun j hj => ?_).trans (hf b hb l)
    have hj' : j < 1 := hj
    show h.val ≠ h'.val + 1 * j
    have := Fin.val_ne_of_ne e
    omega

/-- Storing the scale factors of one half of a group. -/
theorem CF_hit (v : View sig .tc .vmem S2x2x8x2x128 .bf16) (f : v.ty.Contents (Elt Ideal)) (L : List (View.Piece (Elt Ideal) S2x2x8x2x128 .bf16))
    (par h : Fin 2) (X : S1x6272x128.Idx → EReal) (q0 : ℕ) (hin) (w : S1x1x8x2x128.Idx → EReal)
    (hw : ∀ (b : Fin 8) (_ : b.val < 7) (p : Fin 2) (l : Fin 128), w (ix5 0 0 b p l) = cK (amax X (q0 + b.val) l)) :
    CF par h X q0 (v.read (Elt Ideal) (v.writes (Elt Ideal) f
      (⟨Rect.unit (s := S2x2x8x2x128) ![par.val, h.val, 0, 0, 0] S1x1x8x2x128.size hin, w⟩ :: L))) := by
  intro b hb p l
  refine (rd_hit v f _ _ _ _ (ix5 (n0 := 1) (n1 := 1) (n2 := 8) (n3 := 2) (n4 := 128) 0 0 b p l) ?_).trans (hw b hb p l)
  intro a
  fin_cases a
  · show par.val = par.val + 1 * 0; omega
  · show h.val = h.val + 1 * 0; omega
  · show b.val = 0 + 1 * b.val; omega
  · show p.val = 0 + 1 * p.val; omega
  · show l.val = 0 + 1 * l.val; omega

/-- A store of another half keeps the scale factors. -/
theorem CF_miss (v : View sig .tc .vmem S2x2x8x2x128 .bf16) (f : v.ty.Contents (Elt Ideal)) (L : List (View.Piece (Elt Ideal) S2x2x8x2x128 .bf16))
    (par h par' h' : Fin 2) (X : S1x6272x128.Idx → EReal) (q0 : ℕ) (hin) (w : S1x1x8x2x128.Idx → EReal)
    (hne : par ≠ par' ∨ h ≠ h') (hf : CF par h X q0 (v.read (Elt Ideal) (v.writes (Elt Ideal) f L))) :
    CF par h X q0 (v.read (Elt Ideal) (v.writes (Elt Ideal) f
      (⟨Rect.unit (s := S2x2x8x2x128) ![par'.val, h'.val, 0, 0, 0] S1x1x8x2x128.size hin, w⟩ :: L))) := by
  intro b hb p l
  rcases hne with e | e
  · refine (rd_miss v f _ _ _ _ 0 fun j hj => ?_).trans (hf b hb p l)
    have hj' : j < 1 := hj
    show par.val ≠ par'.val + 1 * j
    have := Fin.val_ne_of_ne e
    omega
  · refine (rd_miss v f _ _ _ _ 1 fun j hj => ?_).trans (hf b hb p l)
    have hj' : j < 1 := hj
    show h.val ≠ h'.val + 1 * j
    have := Fin.val_ne_of_ne e
    omega

end Cert.Proof.Val
-- ==== Proof.ValueCode.lean ====
/-
  The encoding of sixteen rows, at an element.
-/
module

public import proofs.«01_k».proof.Proof.ValueRed

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The index that the rounded tanh gives, before its base of 128 is taken off. -/
def encIdx (c x : EReal) : BitVec 32 :=
  Ideal.fptosi 32 (Ideal.liftRound Ideal.roundHalfEven ((Ideal.tanh (x * c) + Ideal.ofBits .bf16 0x4188#16) * Ideal.ofBits .f32 0x41000000#32))

/-- The threshold at index `v`: the even ones in `lo`, the odd ones in `hi`. -/
def slotv (lo hi : Fin 8 → EReal) (v : BitVec 32) : EReal :=
  Scalar.select (IntOp.cmpi .eq (IntOp.andi v 1#32) 0#32)
    (lo ⟨(IntOp.shrui .vector (IntOp.andi v 15#32) 1#32).toNat % 8, Nat.mod_lt _ (by decide)⟩)
    (hi ⟨(IntOp.shrui .vector (IntOp.andi v 15#32) 1#32).toNat % 8, Nat.mod_lt _ (by decide)⟩)

/-- The encoded element: the index, less one if the element is not above the threshold there, as the bits of a float. -/
def encv (lo hi : Fin 8 → EReal) (c x : EReal) : EReal :=
  Ideal.ofBits .bf16 (IntOp.addi (BitVec.setWidth 16 (encIdx c x)) (if slotv lo hi (encIdx c x) < x then 17024#16 else 17023#16))

/-- Sixteen rows encoded: the composition of the payloads of one of the loop's four passes. -/
def encPay (v650 : FVec Ideal S16x128 .bf16) (v654 v658 : FVec Ideal S8x128 .f32) (raw : Vec Ideal S1x16x128 .bf16) : FVec Ideal S16x128 .bf16 :=
  k0_pay34 v654 v658 (k0_pay30 raw) (k0_pay31 v650 raw) (k0_pay32 v650 v654 v658 raw) (k0_pay33 v650 raw)

/-- The loaded elements, at an index. -/
theorem pay30_apply (raw : Vec Ideal S1x16x128 .bf16) (r : Fin 16) (l : Fin 128) :
    k0_pay30 (F := Ideal) raw (ix2 r l) = raw (ix3 0 r l) := by
  pointwise [k0_pay30]
  split <;> refine congrArg raw (congrArg (fun k => ix3 0 k l) (Fin.ext ?_))
  · show 2 * (r.val / 2) = r.val; omega
  · show 2 * (r.val / 2) + 1 = r.val; omega

/-- The guessed index of each loaded element. -/
theorem pay31_apply (v650 : FVec Ideal S16x128 .bf16) (raw : Vec Ideal S1x16x128 .bf16) (r : Fin 16) (l : Fin 128) :
    k0_pay31 v650 raw (ix2 r l) = encIdx (v650 (ix2 r l)) (raw (ix3 0 r l)) := by
  rw [← pay30_apply raw r l]
  pointwise [k0_pay31, encIdx]
  rfl

/-- The threshold that the guess picks, for the first eight rows. -/
theorem pay32_apply (v650 : FVec Ideal S16x128 .bf16) (v654 v658 : FVec Ideal S8x128 .f32) (raw : Vec Ideal S1x16x128 .bf16) (r : Fin 8) (l : Fin 128) :
    k0_pay32 v650 v654 v658 raw (ix2 r l) =
      slotv (fun s => v654 (ix2 s l)) (fun s => v658 (ix2 s l)) (k0_pay31 v650 raw (ix2 ⟨r.val, by omega⟩ l)) := by
  pointwise [k0_pay32]
  rfl

/-- The guesses of the last eight rows. -/
theorem pay33_apply (v650 : FVec Ideal S16x128 .bf16) (raw : Vec Ideal S1x16x128 .bf16) (r : Fin 8) (l : Fin 128) :
    k0_pay33 v650 raw (ix2 r l) = k0_pay31 v650 raw (ix2 ⟨8 + r.val, by omega⟩ l) := by
  pointwise [k0_pay33]

/-- The codes: the guess, corrected by one comparison with the threshold it picks. -/
theorem pay34_apply (v654 v658 : FVec Ideal S8x128 .f32) (v788 : FVec Ideal S16x128 .bf16) (v797 : IVec S16x128 32) (v813 : FVec Ideal S8x128 .f32) (v814 : IVec S8x128 32) (r : Fin 16) (l : Fin 128) :
    k0_pay34 v654 v658 v788 v797 v813 v814 (ix2 r l) =
      Ideal.ofBits .bf16 (IntOp.addi (BitVec.setWidth 16 (v797 (ix2 r l)))
        (if (if h : r.val < 8 then v813 (ix2 ⟨r.val, h⟩ l) else
          slotv (fun s => v654 (ix2 s l)) (fun s => v658 (ix2 s l)) (v814 (ix2 ⟨r.val - 8, by omega⟩ l))) < v788 (ix2 r l) then 17024#16 else 17023#16)) := by
  pointwise [k0_pay34]
  rfl

/-- The encoded rows, at an element. -/
theorem encPay_apply (v650 : FVec Ideal S16x128 .bf16) (v654 v658 : FVec Ideal S8x128 .f32) (raw : Vec Ideal S1x16x128 .bf16) (r : Fin 16) (l : Fin 128) :
    encPay v650 v654 v658 raw (ix2 r l) =
      encv (fun s => v654 (ix2 s l)) (fun s => v658 (ix2 s l)) (v650 (ix2 r l)) (raw (ix3 0 r l)) := by
  unfold encPay
  rw [pay34_apply, pay30_apply]
  have e : (if h : r.val < 8 then k0_pay32 v650 v654 v658 raw (ix2 ⟨r.val, h⟩ l) else
          slotv (fun s => v654 (ix2 s l)) (fun s => v658 (ix2 s l)) (k0_pay33 v650 raw (ix2 ⟨r.val - 8, by omega⟩ l)))
      = slotv (fun s => v654 (ix2 s l)) (fun s => v658 (ix2 s l)) (k0_pay31 v650 raw (ix2 r l)) := by
    split
    · rw [pay32_apply]
    · rename_i h
      rw [pay33_apply]
      have : (⟨8 + (r.val - 8), by omega⟩ : Fin 16) = r := Fin.ext (by show 8 + (r.val - 8) = r.val; omega)
      rw [this]
  rw [e, pay31_apply]
  rfl

/-- One row of factors, spread over sixteen rows. -/
theorem pay15_apply (raw : Vec Ideal S1x2x128 .bf16) (r : Fin 16) (l : Fin 128) :
    k0_pay15 (F := Ideal) raw (ix2 r l) = raw (ix3 0 0 l) := by
  pointwise [k0_pay15]

/-- The thresholds of one plane of the table, times the maximum. -/
theorem pay16_apply (v642 : Vec Ideal S8x128 .f32) (v651 : Vec Ideal S1x8x128 .i32) (s : Fin 8) (l : Fin 128) :
    k0_pay16 (F := Ideal) v642 v651 (ix2 s l) = v642 (ix2 s l) * Ideal.ofBits .f32 (v651 (ix3 0 s l)) := by
  pointwise [k0_pay16]

/-- The stored rows of an encoded block. -/
theorem pay44_apply (y : FVec Ideal S16x128 .bf16) (s : Fin 8) (p : Fin 2) (l : Fin 128) :
    k0_pay44 (F := Ideal) y (ix4 0 s p l) = y (ix2 ⟨2 * s.val + p.val, by omega⟩ l) := by
  pointwise [k0_pay44]
  split <;> refine congrArg y (congrArg (fun k => ix2 k l) (Fin.ext ?_))
  · show 2 * s.val = 2 * s.val + p.val; omega
  · show 2 * s.val + 1 = 2 * s.val + p.val; omega

/-- The bits of the lowest thresholds, below each of the sixteen codes. -/
def slotW : Fin 16 → BitVec 32 := ![0xC0000000#32, 0xBF591CD8#32, 0xBF1C5270#32, 0xBEEB8480#32, 0xBEADEA76#32, 0xBE703CEC#32, 0xBE0D38BC#32, 0xBD3A7871#32, 0x3D22FAFF#32, 0x3DF64862#32, 0x3E5067E0#32, 0x3E9582D4#32, 0x3EC753F9#32, 0x3F006D04#32, 0x3F248DAF#32, 0x3F5C89DA#32]

/-- The threshold below code `m`. -/
def sl (m : Fin 16) : EReal := Ideal.ofBits .f32 (slotW m)

/-- The staged table holds the thresholds, the even ones in its first plane and the odd ones in its second. -/
def TF (R : S3x8x128.Idx → BitVec 32) : Prop :=
  ∀ (s : Fin 8) (l : Fin 128), R (ix3 0 s l) = slotW ⟨2 * s.val, by omega⟩ ∧ R (ix3 1 s l) = slotW ⟨2 * s.val + 1, by omega⟩

/-- An element `x` of a block whose greatest absolute value is `a`, encoded. -/
def kv (a x : EReal) : EReal :=
  encv (fun s => a * sl ⟨2 * s.val, by omega⟩) (fun s => a * sl ⟨2 * s.val + 1, by omega⟩) (cK a) x

/-- Row `r`, lane `l` of the staged block `X`, encoded. -/
def krow (X : S1x6272x128.Idx → EReal) (r : ℕ) (l : Fin 128) : EReal := kv (amax X (r / 64) l) (row X r l)

/-- The maxima of one parity and one half lie within their buffer. -/
theorem inb_a (par h : Fin 2) : ∀ a, (![par.val, h.val, 0, 0] : Fin 4 → ℕ) a + S1x1x8x128.size a ≤ S2x2x8x128.size a := by
  have := par.isLt
  have := h.isLt
  intro a
  fin_cases a
  · show par.val + 1 ≤ 2; omega
  · show h.val + 1 ≤ 2; omega
  · show 0 + 8 ≤ 8; omega
  · show 0 + 128 ≤ 128; omega

/-- The factors of one parity and one half lie within their buffer. -/
theorem inb_c (par h : Fin 2) : ∀ a, (![par.val, h.val, 0, 0, 0] : Fin 5 → ℕ) a + S1x1x8x2x128.size a ≤ S2x2x8x2x128.size a := by
  have := par.isLt
  have := h.isLt
  intro a
  fin_cases a
  · show par.val + 1 ≤ 2; omega
  · show h.val + 1 ≤ 2; omega
  · show 0 + 8 ≤ 8; omega
  · show 0 + 2 ≤ 2; omega
  · show 0 + 128 ≤ 128; omega

/-- A value of a block with two leading unit axes, carried back to the squeezed block of rank two, read at an index. -/
theorem back4 {a b : ℕ} (hR : (⟨2, ![a, b]⟩ : Shape).numel = (⟨4, ![1, 1, a, b]⟩ : Shape).numel) (i : Fin a) (j : Fin b) :
    Shape.reshapeEquiv hR (ix2 i j) = ix4 0 0 i j :=
  shapeCast_apply (s := ⟨4, ![1, 1, a, b]⟩) (t := ⟨2, ![a, b]⟩) (fun x => x) hR (ix2 i j) (ix4 0 0 i j) (by
    rw [Shape.rowMajor_val_two, Shape.rowMajor_val_four]; simp)

/-- A load from the maxima of one parity and one half, as a load from the whole buffer. -/
abbrev alift (r : LoadRect S8x128) : LoadRect S1x1x8x128 :=
  (r.consLift ![1, 8, 128] (by decide) (by decide)).consLift ![1, 1, 8, 128] (by decide) (by decide)

/-- The load keeps its number of elements. -/
theorem anumel (r : LoadRect S8x128) (par h : Fin 2) : r.shape.numel =
    ((Rect.unit (s := S2x2x8x128) ![par.val, h.val, 0, 0] S1x1x8x128.size (inb_a par h)).withinL (alift r) (fun _ => rfl)).shape.numel :=
  (r.numel_consLift ![1, 8, 128] (by decide) (by decide)).trans
    ((r.consLift ![1, 8, 128] (by decide) (by decide)).numel_consLift ![1, 1, 8, 128] (by decide) (by decide))

/-- One row of a half's block maxima, loaded eight times. -/
abbrev araw (v : View sig .tc .vmem S2x2x8x128 .f32) (f : v.ty.Contents (Elt Ideal)) (par h : Fin 2) (off : Fin 2 → ℕ)
    (hin : ∀ a : Fin S8x128.rank, S8x128.size a = 0 ∨ off a + ![0, 1] a * (S8x128.size a - 1) < S8x128.size a) : Vec Ideal S8x128 .f32 :=
  LoadRect.valAlong (V := EReal) (anumel ⟨off, S8x128.size, ![0, 1], hin⟩ par h)
    (v.readAt (Elt Ideal) ((Rect.unit (s := S2x2x8x128) ![par.val, h.val, 0, 0] S1x1x8x128.size (inb_a par h)).withinL
      (alift ⟨off, S8x128.size, ![0, 1], hin⟩) (fun _ => rfl)) f)

/-- A load of one row of maxima, repeated, at an index. -/
theorem araw_apply (v : View sig .tc .vmem S2x2x8x128 .f32) (f : v.ty.Contents (Elt Ideal)) (par h : Fin 2) (b : Fin 8)
    (off : Fin 2 → ℕ) (hoff : off = ![b.val, 0]) (hin) (s : Fin 8) (l : Fin 128) :
    araw v f par h off hin (ix2 s l) = v.read (Elt Ideal) f (ix4 par h b l) := by
  subst hoff
  have e := back4 (a := 8) (b := 128) (anumel ⟨![b.val, 0], S8x128.size, ![0, 1], hin⟩ par h) s l
  refine (congrArg (v.readAt (Elt Ideal) _ f) e).trans ?_
  refine congrArg (v.read (Elt Ideal) f) (funext fun a => Fin.ext ?_)
  fin_cases a
  · show par.val + 0 + 1 * 0 = par.val; omega
  · show h.val + 0 + 1 * 0 = h.val; omega
  · show 0 + b.val + 0 * s.val = b.val; omega
  · show 0 + 0 + 1 * l.val = l.val; omega

/-- A load from the factors of one parity and one half, as a load from the whole buffer. -/
abbrev clift (r : LoadRect S8x2x128) : LoadRect S1x1x8x2x128 :=
  (r.consLift ![1, 8, 2, 128] (by decide) (by decide)).consLift ![1, 1, 8, 2, 128] (by decide) (by decide)

/-- The load keeps its number of elements. -/
theorem cnumel (r : LoadRect S8x2x128) (par h : Fin 2) : r.shape.numel =
    ((Rect.unit (s := S2x2x8x2x128) ![par.val, h.val, 0, 0, 0] S1x1x8x2x128.size (inb_c par h)).withinL (clift r) (fun _ => rfl)).shape.numel :=
  (r.numel_consLift ![1, 8, 2, 128] (by decide) (by decide)).trans
    ((r.consLift ![1, 8, 2, 128] (by decide) (by decide)).numel_consLift ![1, 1, 8, 2, 128] (by decide) (by decide))

/-- One row of a half's scale factors. -/
abbrev craw (v : View sig .tc .vmem S2x2x8x2x128 .bf16) (f : v.ty.Contents (Elt Ideal)) (par h : Fin 2) (off : Fin 3 → ℕ)
    (hin : ∀ a : Fin S8x2x128.rank, off a + S1x2x128.size a ≤ S8x2x128.size a) : Vec Ideal S1x2x128 .bf16 :=
  LoadRect.valAlong (V := EReal) (cnumel (Rect.unit (s := S8x2x128) off S1x2x128.size hin).toLoadRect par h)
    (v.readAt (Elt Ideal) ((Rect.unit (s := S2x2x8x2x128) ![par.val, h.val, 0, 0, 0] S1x1x8x2x128.size (inb_c par h)).withinL
      (clift (Rect.unit (s := S8x2x128) off S1x2x128.size hin).toLoadRect) (fun _ => rfl)) f)

/-- A load of one row of factors, at an index. -/
theorem craw_apply (v : View sig .tc .vmem S2x2x8x2x128 .bf16) (f : v.ty.Contents (Elt Ideal)) (par h : Fin 2) (b : Fin 8)
    (off : Fin 3 → ℕ) (hoff : off = ![b.val, 0, 0]) (hin) (p : Fin 2) (l : Fin 128) :
    craw v f par h off hin (ix3 0 p l) = v.read (Elt Ideal) f (ix5 par h b p l) := by
  subst hoff
  have e := back5 (a := 1) (b := 2) (c := 128) (cnumel (Rect.unit (s := S8x2x128) ![b.val, 0, 0] S1x2x128.size hin).toLoadRect par h) 0 p l
  refine (congrArg (v.readAt (Elt Ideal) _ f) e).trans ?_
  refine congrArg (v.read (Elt Ideal) f) (funext fun a => Fin.ext ?_)
  fin_cases a
  · show par.val + 0 + 1 * 0 = par.val; omega
  · show h.val + 0 + 1 * 0 = h.val; omega
  · show 0 + b.val + 1 * 0 = b.val; omega
  · show 0 + 0 + 1 * p.val = p.val; omega
  · show 0 + 0 + 1 * l.val = l.val; omega

/-- A plane of the table lies within the table. -/
theorem inb_t (i : Fin 3) : ∀ a, (![i.val, 0, 0] : Fin 3 → ℕ) a + S1x8x128.size a ≤ S3x8x128.size a := by
  have := i.isLt
  intro a
  fin_cases a
  · show i.val + 1 ≤ 3; omega
  · show 0 + 8 ≤ 8; omega
  · show 0 + 128 ≤ 128; omega

/-- A plane of the table. -/
abbrev traw (v : View sig .tc .vmem S3x8x128 .i32) (f : v.ty.Contents (Elt Ideal)) (i : Fin 3) : Vec Ideal S1x8x128 .i32 :=
  v.readAt (Elt Ideal) (Rect.unit (s := S3x8x128) ![i.val, 0, 0] S1x8x128.size (inb_t i)).toLoadRect f

/-- A load of one plane of the table, at an index. -/
theorem traw_apply (v : View sig .tc .vmem S3x8x128 .i32) (f : v.ty.Contents (Elt Ideal)) (i : Fin 3) (s : Fin 8) (l : Fin 128) :
    traw v f i (ix3 0 s l) = v.read (Elt Ideal) f (ix3 i s l) := by
  refine (View.readAt_apply ..).trans ?_
  refine congrArg (v.read (Elt Ideal) f) (funext fun a => Fin.ext ?_)
  fin_cases a
  · show i.val + 1 * 0 = i.val; omega
  · show 0 + 1 * s.val = s.val; omega
  · show 0 + 1 * l.val = l.val; omega

/-- Sixteen rows of a staged block. -/
abbrev xraw (v : View sig .tc .vmem S1x6272x128 .bf16) (f : v.ty.Contents (Elt Ideal)) (off : Fin 3 → ℕ)
    (hin : ∀ a : Fin S1x6272x128.rank, off a + S1x16x128.size a ≤ S1x6272x128.size a) : Vec Ideal S1x16x128 .bf16 :=
  v.readAt (Elt Ideal) (Rect.unit (s := S1x6272x128) off S1x16x128.size hin).toLoadRect f

/-- The value stored by one pass over block `b` of group `g`. -/
theorem enc_val (vx : View sig .tc .vmem S1x6272x128 .bf16) (fx : vx.ty.Contents (Elt Ideal))
    (vt : View sig .tc .vmem S3x8x128 .i32) (ft : vt.ty.Contents (Elt Ideal))
    (va : View sig .tc .vmem S2x2x8x128 .f32) (fa : va.ty.Contents (Elt Ideal))
    (vc : View sig .tc .vmem S2x2x8x2x128 .bf16) (fc : vc.ty.Contents (Elt Ideal)) (par h : Fin 2) (g b : ℕ) (hb : b < 7)
    (ht : TF (vt.read (Elt Ideal) ft)) (ha : AF par h (vx.read (Elt Ideal) fx) (7 * g) (va.read (Elt Ideal) fa))
    (hc : CF par h (vx.read (Elt Ideal) fx) (7 * g) (vc.read (Elt Ideal) fc))
    (offa : Fin 2 → ℕ) (hoffa : offa = ![b, 0]) (hina) (offc : Fin 3 → ℕ) (hoffc : offc = ![b, 0, 0]) (hinc)
    (k : ℕ) (hk : k < 4) (offx : Fin 3 → ℕ) (jx : ℕ) (hoffx : offx = ![0, jx, 0]) (hjx : jx = 448 * g + 64 * b + 16 * k) (hinx)
    (s : Fin 8) (p : Fin 2) (l : Fin 128) :
    k0_pay44 (encPay (k0_pay15 (craw vc fc par h offc hinc)) (k0_pay16 (araw va fa par h offa hina) (traw vt ft 0))
      (k0_pay16 (araw va fa par h offa hina) (traw vt ft 1)) (xraw vx fx offx hinx)) (ix4 0 s p l)
      = krow (vx.read (Elt Ideal) fx) (448 * g + 64 * b + 16 * k + 2 * s.val + p.val) l := by
  have hA : ∀ s, araw va fa par h offa hina (ix2 s l) = amax (vx.read (Elt Ideal) fx) (7 * g + b) l := fun s =>
    (araw_apply va fa par h ⟨b, by omega⟩ offa hoffa hina s l).trans (ha ⟨b, by omega⟩ hb l)
  have hC : craw vc fc par h offc hinc (ix3 0 0 l) = cK (amax (vx.read (Elt Ideal) fx) (7 * g + b) l) :=
    (craw_apply vc fc par h ⟨b, by omega⟩ offc hoffc hinc 0 l).trans (hc ⟨b, by omega⟩ hb 0 l)
  have hX : xraw vx fx offx hinx (ix3 0 ⟨2 * s.val + p.val, by omega⟩ l) = row (vx.read (Elt Ideal) fx) (448 * g + 64 * b + 16 * k + (2 * s.val + p.val)) l :=
    ld16 vx fx offx (448 * g + 64 * b + 16 * k) hinx jx hoffx hjx ⟨2 * s.val + p.val, by omega⟩ l
  have hq : (448 * g + 64 * b + 16 * k + 2 * s.val + p.val) / 64 = 7 * g + b := by omega
  have hr : 448 * g + 64 * b + 16 * k + 2 * s.val + p.val = 448 * g + 64 * b + 16 * k + (2 * s.val + p.val) := by omega
  rw [pay44_apply, encPay_apply, pay15_apply, hC, hX]
  unfold krow kv
  rw [hq, hr]
  congr 1
  · funext t
    rw [pay16_apply, hA, traw_apply, (ht t l).1]
    rfl
  · funext t
    rw [pay16_apply, hA, traw_apply, (ht t l).2]
    rfl

/-- The first `m` row pairs of half `h` of the code scratch hold the codes of group `g`. -/
def KH (h : Fin 2) (X : S1x6272x128.Idx → EReal) (g m : ℕ) (K : S2x224x2x128.Idx → EReal) : Prop :=
  ∀ j : Fin 224, j.val < m → ∀ (p : Fin 2) (l : Fin 128), K (ix4 h j p l) = krow X (448 * g + 2 * j.val + p.val) l

/-- The first `m0` row pairs of the first half and the first `m1` of the second hold the codes of group `g`. -/
def KF (X0 X1 : S1x6272x128.Idx → EReal) (g m0 m1 : ℕ) (K : S2x224x2x128.Idx → EReal) : Prop :=
  KH 0 X0 g m0 K ∧ KH 1 X1 g m1 K

/-- Storing eight row pairs of codes. -/
theorem KH_store (v : View sig .tc .vmem S2x224x2x128 .bf16) (f : v.ty.Contents (Elt Ideal)) (L : List (View.Piece (Elt Ideal) S2x224x2x128 .bf16))
    (h : Fin 2) (X : S1x6272x128.Idx → EReal) (g m : ℕ) (off : Fin 4 → ℕ) (hoff : off = ![h.val, m, 0, 0]) (hin) (w : S1x8x2x128.Idx → EReal)
    (hw : ∀ (s : Fin 8) (p : Fin 2) (l : Fin 128), w (ix4 0 s p l) = krow X (448 * g + 2 * (m + s.val) + p.val) l)
    (hf : KH h X g m (v.read (Elt Ideal) (v.writes (Elt Ideal) f L))) :
    KH h X g (m + 8) (v.read (Elt Ideal) (v.writes (Elt Ideal) f (⟨Rect.unit (s := S2x224x2x128) off S1x8x2x128.size hin, w⟩ :: L))) := by
  subst hoff
  intro j hj p l
  by_cases e : m ≤ j.val
  · refine (rd_hit v f _ _ _ _ (ix4 (n0 := 1) (n1 := 8) (n2 := 2) (n3 := 128) 0 ⟨j.val - m, by omega⟩ p l) ?_).trans ((hw _ p l).trans ?_)
    · intro a
      fin_cases a
      · show h.val = h.val + 1 * 0; omega
      · show j.val = m + 1 * (j.val - m); omega
      · show p.val = 0 + 1 * p.val; omega
      · show l.val = 0 + 1 * l.val; omega
    · show krow X (448 * g + 2 * (m + (j.val - m)) + p.val) l = _
      rw [Nat.add_sub_cancel' e]
  · refine (rd_miss v f _ _ _ _ 1 fun i hi => ?_).trans (hf j (by omega) p l)
    show j.val ≠ m + 1 * i
    omega

/-- A store of the other half keeps the codes. -/
theorem KH_miss (v : View sig .tc .vmem S2x224x2x128 .bf16) (f : v.ty.Contents (Elt Ideal)) (L : List (View.Piece (Elt Ideal) S2x224x2x128 .bf16))
    (h h' : Fin 2) (hne : h ≠ h') (X : S1x6272x128.Idx → EReal) (g m n : ℕ) (off : Fin 4 → ℕ) (hoff : off = ![h'.val, n, 0, 0]) (hin) (w : S1x8x2x128.Idx → EReal)
    (hf : KH h X g m (v.read (Elt Ideal) (v.writes (Elt Ideal) f L))) :
    KH h X g m (v.read (Elt Ideal) (v.writes (Elt Ideal) f (⟨Rect.unit (s := S2x224x2x128) off S1x8x2x128.size hin, w⟩ :: L))) := by
  subst hoff
  intro j hj p l
  refine (rd_miss v f _ _ _ _ 0 fun i hi => ?_).trans (hf j hj p l)
  have hi' : i < 1 := hi
  have := Fin.val_ne_of_ne hne
  show h.val ≠ h'.val + 1 * i
  omega

/-- The four stores of one trip of an encoding loop: the codes of block `b` of group `g`. -/
theorem KH_trip (v : View sig .tc .vmem S2x224x2x128 .bf16) (f : v.ty.Contents (Elt Ideal)) (h h' : Fin 2) (hne : h' ≠ h)
    (X X' : S1x6272x128.Idx → EReal) (g b m : ℕ)
    (o0 o1 o2 o3 : Fin 4 → ℕ) (ho0 : o0 = ![h.val, 32 * b + 8 * 0, 0, 0]) (ho1 : o1 = ![h.val, 32 * b + 8 * 1, 0, 0])
    (ho2 : o2 = ![h.val, 32 * b + 8 * 2, 0, 0]) (ho3 : o3 = ![h.val, 32 * b + 8 * 3, 0, 0]) (i0) (i1) (i2) (i3) (w0 w1 w2 w3 : S1x8x2x128.Idx → EReal)
    (hw0 : ∀ (s : Fin 8) (p : Fin 2) (l : Fin 128), w0 (ix4 0 s p l) = krow X (448 * g + 64 * b + 16 * 0 + 2 * s.val + p.val) l)
    (hw1 : ∀ (s : Fin 8) (p : Fin 2) (l : Fin 128), w1 (ix4 0 s p l) = krow X (448 * g + 64 * b + 16 * 1 + 2 * s.val + p.val) l)
    (hw2 : ∀ (s : Fin 8) (p : Fin 2) (l : Fin 128), w2 (ix4 0 s p l) = krow X (448 * g + 64 * b + 16 * 2 + 2 * s.val + p.val) l)
    (hw3 : ∀ (s : Fin 8) (p : Fin 2) (l : Fin 128), w3 (ix4 0 s p l) = krow X (448 * g + 64 * b + 16 * 3 + 2 * s.val + p.val) l)
    (hf : KH h X g (32 * b) (v.read (Elt Ideal) f)) (hf' : KH h' X' g m (v.read (Elt Ideal) f)) :
    KH h X g (32 * (b + 1)) (v.read (Elt Ideal) (v.writes (Elt Ideal) f
      [⟨Rect.unit (s := S2x224x2x128) o3 S1x8x2x128.size i3, w3⟩, ⟨Rect.unit (s := S2x224x2x128) o2 S1x8x2x128.size i2, w2⟩,
       ⟨Rect.unit (s := S2x224x2x128) o1 S1x8x2x128.size i1, w1⟩, ⟨Rect.unit (s := S2x224x2x128) o0 S1x8x2x128.size i0, w0⟩])) ∧
    KH h' X' g m (v.read (Elt Ideal) (v.writes (Elt Ideal) f
      [⟨Rect.unit (s := S2x224x2x128) o3 S1x8x2x128.size i3, w3⟩, ⟨Rect.unit (s := S2x224x2x128) o2 S1x8x2x128.size i2, w2⟩,
       ⟨Rect.unit (s := S2x224x2x128) o1 S1x8x2x128.size i1, w1⟩, ⟨Rect.unit (s := S2x224x2x128) o0 S1x8x2x128.size i0, w0⟩])) := by
  constructor
  · refine KH_store v f _ h X g (32 * b + 8 * 3) o3 ho3 i3 w3 (fun s p l => (hw3 s p l).trans (congrArg (fun r => krow X r l) (by omega))) ?_
    refine KH_store v f _ h X g (32 * b + 8 * 2) o2 ho2 i2 w2 (fun s p l => (hw2 s p l).trans (congrArg (fun r => krow X r l) (by omega))) ?_
    refine KH_store v f _ h X g (32 * b + 8 * 1) o1 ho1 i1 w1 (fun s p l => (hw1 s p l).trans (congrArg (fun r => krow X r l) (by omega))) ?_
    exact KH_store v f [] h X g (32 * b + 8 * 0) o0 ho0 i0 w0 (fun s p l => (hw0 s p l).trans (congrArg (fun r => krow X r l) (by omega))) hf
  · exact KH_miss v f _ h' h hne X' g m _ o3 ho3 i3 w3 (KH_miss v f _ h' h hne X' g m _ o2 ho2 i2 w2
      (KH_miss v f _ h' h hne X' g m _ o1 ho1 i1 w1 (KH_miss v f [] h' h hne X' g m _ o0 ho0 i0 w0 hf')))

end Cert.Proof.Val
-- ==== Proof.ValueEnc.lean ====
/-
  The four encoding loops: trip `k` stores the codes of block `k` of its group.
-/
module

public import proofs.«01_k».proof.Proof.ValueCode

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A mark that says the second group's absmax rows are in place. -/
@[irreducible] def Tok : sProp 𝕄 := iprop(⌜True⌝)

/-- The token can always be had. -/
theorem Tok_intro : ⊢ (Tok : sProp 𝕄) := by
  unfold Tok
  exact BI.pure_intro trivial

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option sl_exec.squeezeSlice true in
/-- One trip of loop 4 stores the codes of one more block. -/
theorem step_t4 (c0_i32_135 : BitVec 32) (c1_i32_137 : BitVec 32) (k0_t3 : Fin k0_t3_loop.trips) (v167 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) (k : Fin k0_t4_loop.trips) :
    iprop(⌜TF (rd arg4 X4) ∧ AF 0 0 (rd arg2 X2) (7 * (2 * k0_t3.val)) (rd arg12 X12) ∧ CF 0 0 (rd arg2 X2) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * k.val) (32 * 0) (rd arg14 f)⌝) ⊢ wp frame (wpE (defs₀ (F := Ideal)) 𝒱 (c : Thread nD τ) bd) E
      (k0_t4_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(⌜TF (rd arg4 X4) ∧ AF 0 0 (rd arg2 X2) (7 * (2 * k0_t3.val)) (rd arg12 X12) ∧ CF 0 0 (rd arg2 X2) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * (k.val + 1)) (32 * 0) (rd arg14 f)⌝)) := by
  have hk : k.val < 7 := Nat.lt_of_lt_of_le k.isLt k0_t4_abs.2.1
  unfold k0_t4_body
  iintro ⟨%hF, H2, H3, H4, H12, H13, ⟨%XK, HK, %hK⟩⟩
  sl_exec
  sl_step
  isplitr
  · ipureintro; exact hF
  isplitl [H2]
  · iexact H2
  isplitl [H3]
  · iexact H3
  isplitl [H4]
  · iexact H4
  isplitl [H12]
  · iexact H12
  isplitl [H13]
  · iexact H13
  iexists _
  isplitl [HK]
  · iexact HK
  ipureintro
  exact KH_trip arg14.view XK 0 1 (by decide) (rd arg2 X2) (rd arg3 X3) (2 * k0_t3.val) k.val _ _ _ _ _ (k0_off9_eq k 0) (k0_off9_eq k 1) (k0_off9_eq k 2) (k0_off9_eq k 3) (k0_off9_inb k 0) (k0_off9_inb k 1) (k0_off9_inb k 2) (k0_off9_inb k 3) _ _ _ _ (fun s p l => enc_val arg2.view X2 arg4.view X4 arg12.view X12 arg13.view X13 0 0 (2 * k0_t3.val) k.val hk hF.1 hF.2.1 hF.2.2 _ (k0_off6_eq k) (k0_off6_inb k) _ (k0_off7_eq k) (k0_off7_inb k) 0 (by decide) _ _ (k0_off8_eq k0_t3 k 0) (by simp only [Fin.val_zero, fin4_val_one, fin4_val_two, fin4_val_three]; omega) (k0_off8_inb k0_t3 k 0) s p l) (fun s p l => enc_val arg2.view X2 arg4.view X4 arg12.view X12 arg13.view X13 0 0 (2 * k0_t3.val) k.val hk hF.1 hF.2.1 hF.2.2 _ (k0_off6_eq k) (k0_off6_inb k) _ (k0_off7_eq k) (k0_off7_inb k) 1 (by decide) _ _ (k0_off8_eq k0_t3 k 1) (by simp only [Fin.val_zero, fin4_val_one, fin4_val_two, fin4_val_three]; omega) (k0_off8_inb k0_t3 k 1) s p l) (fun s p l => enc_val arg2.view X2 arg4.view X4 arg12.view X12 arg13.view X13 0 0 (2 * k0_t3.val) k.val hk hF.1 hF.2.1 hF.2.2 _ (k0_off6_eq k) (k0_off6_inb k) _ (k0_off7_eq k) (k0_off7_inb k) 2 (by decide) _ _ (k0_off8_eq k0_t3 k 2) (by simp only [Fin.val_zero, fin4_val_one, fin4_val_two, fin4_val_three]; omega) (k0_off8_inb k0_t3 k 2) s p l) (fun s p l => enc_val arg2.view X2 arg4.view X4 arg12.view X12 arg13.view X13 0 0 (2 * k0_t3.val) k.val hk hF.1 hF.2.1 hF.2.2 _ (k0_off6_eq k) (k0_off6_inb k) _ (k0_off7_eq k) (k0_off7_inb k) 3 (by decide) _ _ (k0_off8_eq k0_t3 k 3) (by simp only [Fin.val_zero, fin4_val_one, fin4_val_two, fin4_val_three]; omega) (k0_off8_inb k0_t3 k 3) s p l) hK.1 hK.2

/-- Loop 4's invariant. -/
@[sl_loop, instance_reducible] def inv_t4 (c0_i32_135 : BitVec 32) (c1_i32_137 : BitVec 32) (k0_t3 : Fin k0_t3_loop.trips) (v167 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) :
    LoopInvTy_k0_t4 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun k _ => iprop(⌜TF (rd arg4 X4) ∧ AF 0 0 (rd arg2 X2) (7 * (2 * k0_t3.val)) (rd arg12 X12) ∧ CF 0 0 (rd arg2 X2) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * k) (32 * 0) (rd arg14 f)⌝)
  step := fun k _ => step_t4 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 X2 X3 X4 X12 X13 k

set_option sl_exec.squeezeSlice true in
/-- One trip of loop 5 stores the codes of one more block. -/
theorem step_t5 (c0_i32_135 : BitVec 32) (c1_i32_137 : BitVec 32) (k0_t3 : Fin k0_t3_loop.trips) (v167 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) (k : Fin k0_t5_loop.trips) :
    iprop(⌜TF (rd arg4 X4) ∧ AF 0 1 (rd arg3 X3) (7 * (2 * k0_t3.val)) (rd arg12 X12) ∧ CF 0 1 (rd arg3 X3) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * Scf.trips k0_t4_loop.lb k0_t4_loop.ub k0_t4_loop.st) (32 * k.val) (rd arg14 f)⌝) ⊢ wp frame (wpE (defs₀ (F := Ideal)) 𝒱 (c : Thread nD τ) bd) E
      (k0_t5_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 k ()) (fun _ => iprop(⌜TF (rd arg4 X4) ∧ AF 0 1 (rd arg3 X3) (7 * (2 * k0_t3.val)) (rd arg12 X12) ∧ CF 0 1 (rd arg3 X3) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * Scf.trips k0_t4_loop.lb k0_t4_loop.ub k0_t4_loop.st) (32 * (k.val + 1)) (rd arg14 f)⌝)) := by
  have hk : k.val < 7 := Nat.lt_of_lt_of_le k.isLt k0_t5_abs.2.1
  unfold k0_t5_body
  iintro ⟨%hF, H2, H3, H4, H12, H13, ⟨%XK, HK, %hK⟩⟩
  sl_exec
  sl_step
  isplitr
  · ipureintro; exact hF
  isplitl [H2]
  · iexact H2
  isplitl [H3]
  · iexact H3
  isplitl [H4]
  · iexact H4
  isplitl [H12]
  · iexact H12
  isplitl [H13]
  · iexact H13
  iexists _
  isplitl [HK]
  · iexact HK
  ipureintro
  exact (KH_trip arg14.view XK 1 0 (by decide) (rd arg3 X3) (rd arg2 X2) (2 * k0_t3.val) k.val _ _ _ _ _ (k0_off13_eq k 0) (k0_off13_eq k 1) (k0_off13_eq k 2) (k0_off13_eq k 3) (k0_off13_inb k 0) (k0_off13_inb k 1) (k0_off13_inb k 2) (k0_off13_inb k 3) _ _ _ _ (fun s p l => enc_val arg3.view X3 arg4.view X4 arg12.view X12 arg13.view X13 0 1 (2 * k0_t3.val) k.val hk hF.1 hF.2.1 hF.2.2 _ (k0_off10_eq k) (k0_off10_inb k) _ (k0_off11_eq k) (k0_off11_inb k) 0 (by decide) _ _ (k0_off12_eq k0_t3 k 0) (by simp only [Fin.val_zero, fin4_val_one, fin4_val_two, fin4_val_three]; omega) (k0_off12_inb k0_t3 k 0) s p l) (fun s p l => enc_val arg3.view X3 arg4.view X4 arg12.view X12 arg13.view X13 0 1 (2 * k0_t3.val) k.val hk hF.1 hF.2.1 hF.2.2 _ (k0_off10_eq k) (k0_off10_inb k) _ (k0_off11_eq k) (k0_off11_inb k) 1 (by decide) _ _ (k0_off12_eq k0_t3 k 1) (by simp only [Fin.val_zero, fin4_val_one, fin4_val_two, fin4_val_three]; omega) (k0_off12_inb k0_t3 k 1) s p l) (fun s p l => enc_val arg3.view X3 arg4.view X4 arg12.view X12 arg13.view X13 0 1 (2 * k0_t3.val) k.val hk hF.1 hF.2.1 hF.2.2 _ (k0_off10_eq k) (k0_off10_inb k) _ (k0_off11_eq k) (k0_off11_inb k) 2 (by decide) _ _ (k0_off12_eq k0_t3 k 2) (by simp only [Fin.val_zero, fin4_val_one, fin4_val_two, fin4_val_three]; omega) (k0_off12_inb k0_t3 k 2) s p l) (fun s p l => enc_val arg3.view X3 arg4.view X4 arg12.view X12 arg13.view X13 0 1 (2 * k0_t3.val) k.val hk hF.1 hF.2.1 hF.2.2 _ (k0_off10_eq k) (k0_off10_inb k) _ (k0_off11_eq k) (k0_off11_inb k) 3 (by decide) _ _ (k0_off12_eq k0_t3 k 3) (by simp only [Fin.val_zero, fin4_val_one, fin4_val_two, fin4_val_three]; omega) (k0_off12_inb k0_t3 k 3) s p l) hK.2 hK.1).symm

/-- Loop 5's invariant. -/
@[sl_loop, instance_reducible] def inv_t5 (c0_i32_135 : BitVec 32) (c1_i32_137 : BitVec 32) (k0_t3 : Fin k0_t3_loop.trips) (v167 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) :
    LoopInvTy_k0_t5 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 where
  inv := fun k _ => iprop(⌜TF (rd arg4 X4) ∧ AF 0 1 (rd arg3 X3) (7 * (2 * k0_t3.val)) (rd arg12 X12) ∧ CF 0 1 (rd arg3 X3) (7 * (2 * k0_t3.val)) (rd arg13 X13)⌝ ∗ pt c arg2 X2 ∗ pt c arg3 X3 ∗ pt c arg4 X4 ∗ pt c arg12 X12 ∗ pt c arg13 X13 ∗ ∃ f, pt c arg14 f ∗ ⌜KF (rd arg2 X2) (rd arg3 X3) (2 * k0_t3.val) (32 * Scf.trips k0_t4_loop.lb k0_t4_loop.ub k0_t4_loop.st) (32 * k) (rd arg14 f)⌝)
  step := fun k _ => step_t5 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 c0_i32_135 c1_i32_137 k0_t3 v167 X2 X3 X4 X12 X13 k

set_option sl_exec.squeezeSlice true in
/-- One trip of loop 8 stores the codes of one more block. -/
theorem step_t8 (k0_t3 : Fin k0_t3_loop.trips) (v167 : BitVec 32) (v374 : FVec Ideal S192x256 .bf16) (v376 : FVec Ideal S48x192 .bf16) (v402 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) (k : Fin k0_t8_loop.trips) :
    iprop(⌜TF (rd arg4 X4) ∧ AF 1 0 (rd arg2 X2) (7 * (2 * k0_t3.val + 1)) (rd arg12 X12) ∧ CF 1 0 (rd arg2 X2) (7 * (2 * k0_t3.val + 1)) (rd arg13 X13)⌝ ∗ Tok ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * k.val) (32 * 0) (rd arg15 f)⌝) ⊢ wp frame (wpE (defs₀ (F := Ideal)) 𝒱 (c : Thread nD τ) bd) E
      (k0_t8_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k ()) (fun _ => iprop(⌜TF (rd arg4 X4) ∧ AF 1 0 (rd arg2 X2) (7 * (2 * k0_t3.val + 1)) (rd arg12 X12) ∧ CF 1 0 (rd arg2 X2) (7 * (2 * k0_t3.val + 1)) (rd arg13 X13)⌝ ∗ Tok ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * (k.val + 1)) (32 * 0) (rd arg15 f)⌝)) := by
  have hk : k.val < 7 := Nat.lt_of_lt_of_le k.isLt k0_t8_abs.2.1
  unfold k0_t8_body
  iintro ⟨%hF, HT, H2, H3, H4, H12, H13, ⟨%XK, HK, %hK⟩⟩
  sl_exec
  sl_step
  isplitr
  · ipureintro; exact hF
  isplitl [HT]
  · iexact HT
  isplitl [H2]
  · iexact H2
  isplitl [H3]
  · iexact H3
  isplitl [H4]
  · iexact H4
  isplitl [H12]
  · iexact H12
  isplitl [H13]
  · iexact H13
  iexists _
  isplitl [HK]
  · iexact HK
  ipureintro
  exact KH_trip arg15.view XK 0 1 (by decide) (rd arg2 X2) (rd arg3 X3) (2 * k0_t3.val + 1) k.val _ _ _ _ _ (k0_off31_eq k 0) (k0_off31_eq k 1) (k0_off31_eq k 2) (k0_off31_eq k 3) (k0_off31_inb k 0) (k0_off31_inb k 1) (k0_off31_inb k 2) (k0_off31_inb k 3) _ _ _ _ (fun s p l => enc_val arg2.view X2 arg4.view X4 arg12.view X12 arg13.view X13 1 0 (2 * k0_t3.val + 1) k.val hk hF.1 hF.2.1 hF.2.2 _ (k0_off28_eq k) (k0_off28_inb k) _ (k0_off29_eq k) (k0_off29_inb k) 0 (by decide) _ _ (k0_off30_eq k0_t3 k 0) (by simp only [Fin.val_zero, fin4_val_one, fin4_val_two, fin4_val_three]; omega) (k0_off30_inb k0_t3 k 0) s p l) (fun s p l => enc_val arg2.view X2 arg4.view X4 arg12.view X12 arg13.view X13 1 0 (2 * k0_t3.val + 1) k.val hk hF.1 hF.2.1 hF.2.2 _ (k0_off28_eq k) (k0_off28_inb k) _ (k0_off29_eq k) (k0_off29_inb k) 1 (by decide) _ _ (k0_off30_eq k0_t3 k 1) (by simp only [Fin.val_zero, fin4_val_one, fin4_val_two, fin4_val_three]; omega) (k0_off30_inb k0_t3 k 1) s p l) (fun s p l => enc_val arg2.view X2 arg4.view X4 arg12.view X12 arg13.view X13 1 0 (2 * k0_t3.val + 1) k.val hk hF.1 hF.2.1 hF.2.2 _ (k0_off28_eq k) (k0_off28_inb k) _ (k0_off29_eq k) (k0_off29_inb k) 2 (by decide) _ _ (k0_off30_eq k0_t3 k 2) (by simp only [Fin.val_zero, fin4_val_one, fin4_val_two, fin4_val_three]; omega) (k0_off30_inb k0_t3 k 2) s p l) (fun s p l => enc_val arg2.view X2 arg4.view X4 arg12.view X12 arg13.view X13 1 0 (2 * k0_t3.val + 1) k.val hk hF.1 hF.2.1 hF.2.2 _ (k0_off28_eq k) (k0_off28_inb k) _ (k0_off29_eq k) (k0_off29_inb k) 3 (by decide) _ _ (k0_off30_eq k0_t3 k 3) (by simp only [Fin.val_zero, fin4_val_one, fin4_val_two, fin4_val_three]; omega) (k0_off30_inb k0_t3 k 3) s p l) hK.1 hK.2

/-- Loop 8's invariant. -/
@[sl_loop, instance_reducible] def inv_t8 (k0_t3 : Fin k0_t3_loop.trips) (v167 : BitVec 32) (v374 : FVec Ideal S192x256 .bf16) (v376 : FVec Ideal S48x192 .bf16) (v402 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) :
    LoopInvTy_k0_t8 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 where
  inv := fun k _ => iprop(⌜TF (rd arg4 X4) ∧ AF 1 0 (rd arg2 X2) (7 * (2 * k0_t3.val + 1)) (rd arg12 X12) ∧ CF 1 0 (rd arg2 X2) (7 * (2 * k0_t3.val + 1)) (rd arg13 X13)⌝ ∗ Tok ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * k) (32 * 0) (rd arg15 f)⌝)
  step := fun k _ => step_t8 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 X2 X3 X4 X12 X13 k

set_option sl_exec.squeezeSlice true in
/-- One trip of loop 9 stores the codes of one more block. -/
theorem step_t9 (k0_t3 : Fin k0_t3_loop.trips) (v167 : BitVec 32) (v374 : FVec Ideal S192x256 .bf16) (v376 : FVec Ideal S48x192 .bf16) (v402 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) (k : Fin k0_t9_loop.trips) :
    iprop(⌜TF (rd arg4 X4) ∧ AF 1 1 (rd arg3 X3) (7 * (2 * k0_t3.val + 1)) (rd arg12 X12) ∧ CF 1 1 (rd arg3 X3) (7 * (2 * k0_t3.val + 1)) (rd arg13 X13)⌝ ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * Scf.trips k0_t8_loop.lb k0_t8_loop.ub k0_t8_loop.st) (32 * k.val) (rd arg15 f)⌝) ⊢ wp frame (wpE (defs₀ (F := Ideal)) 𝒱 (c : Thread nD τ) bd) E
      (k0_t9_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 k ()) (fun _ => iprop(⌜TF (rd arg4 X4) ∧ AF 1 1 (rd arg3 X3) (7 * (2 * k0_t3.val + 1)) (rd arg12 X12) ∧ CF 1 1 (rd arg3 X3) (7 * (2 * k0_t3.val + 1)) (rd arg13 X13)⌝ ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * Scf.trips k0_t8_loop.lb k0_t8_loop.ub k0_t8_loop.st) (32 * (k.val + 1)) (rd arg15 f)⌝)) := by
  have hk : k.val < 7 := Nat.lt_of_lt_of_le k.isLt k0_t9_abs.2.1
  unfold k0_t9_body
  iintro ⟨%hF, H2, H3, H4, H12, H13, ⟨%XK, HK, %hK⟩⟩
  sl_exec
  sl_step
  isplitr
  · ipureintro; exact hF
  isplitl [H2]
  · iexact H2
  isplitl [H3]
  · iexact H3
  isplitl [H4]
  · iexact H4
  isplitl [H12]
  · iexact H12
  isplitl [H13]
  · iexact H13
  iexists _
  isplitl [HK]
  · iexact HK
  ipureintro
  exact (KH_trip arg15.view XK 1 0 (by decide) (rd arg3 X3) (rd arg2 X2) (2 * k0_t3.val + 1) k.val _ _ _ _ _ (k0_off35_eq k 0) (k0_off35_eq k 1) (k0_off35_eq k 2) (k0_off35_eq k 3) (k0_off35_inb k 0) (k0_off35_inb k 1) (k0_off35_inb k 2) (k0_off35_inb k 3) _ _ _ _ (fun s p l => enc_val arg3.view X3 arg4.view X4 arg12.view X12 arg13.view X13 1 1 (2 * k0_t3.val + 1) k.val hk hF.1 hF.2.1 hF.2.2 _ (k0_off32_eq k) (k0_off32_inb k) _ (k0_off33_eq k) (k0_off33_inb k) 0 (by decide) _ _ (k0_off34_eq k0_t3 k 0) (by simp only [Fin.val_zero, fin4_val_one, fin4_val_two, fin4_val_three]; omega) (k0_off34_inb k0_t3 k 0) s p l) (fun s p l => enc_val arg3.view X3 arg4.view X4 arg12.view X12 arg13.view X13 1 1 (2 * k0_t3.val + 1) k.val hk hF.1 hF.2.1 hF.2.2 _ (k0_off32_eq k) (k0_off32_inb k) _ (k0_off33_eq k) (k0_off33_inb k) 1 (by decide) _ _ (k0_off34_eq k0_t3 k 1) (by simp only [Fin.val_zero, fin4_val_one, fin4_val_two, fin4_val_three]; omega) (k0_off34_inb k0_t3 k 1) s p l) (fun s p l => enc_val arg3.view X3 arg4.view X4 arg12.view X12 arg13.view X13 1 1 (2 * k0_t3.val + 1) k.val hk hF.1 hF.2.1 hF.2.2 _ (k0_off32_eq k) (k0_off32_inb k) _ (k0_off33_eq k) (k0_off33_inb k) 2 (by decide) _ _ (k0_off34_eq k0_t3 k 2) (by simp only [Fin.val_zero, fin4_val_one, fin4_val_two, fin4_val_three]; omega) (k0_off34_inb k0_t3 k 2) s p l) (fun s p l => enc_val arg3.view X3 arg4.view X4 arg12.view X12 arg13.view X13 1 1 (2 * k0_t3.val + 1) k.val hk hF.1 hF.2.1 hF.2.2 _ (k0_off32_eq k) (k0_off32_inb k) _ (k0_off33_eq k) (k0_off33_inb k) 3 (by decide) _ _ (k0_off34_eq k0_t3 k 3) (by simp only [Fin.val_zero, fin4_val_one, fin4_val_two, fin4_val_three]; omega) (k0_off34_inb k0_t3 k 3) s p l) hK.2 hK.1).symm

/-- Loop 9's invariant. -/
@[sl_loop, instance_reducible] def inv_t9 (k0_t3 : Fin k0_t3_loop.trips) (v167 : BitVec 32) (v374 : FVec Ideal S192x256 .bf16) (v376 : FVec Ideal S48x192 .bf16) (v402 : BitVec 32) (X2 : BufTy.Contents (Elt Ideal) arg2.view.ty) (X3 : BufTy.Contents (Elt Ideal) arg3.view.ty) (X4 : BufTy.Contents (Elt Ideal) arg4.view.ty) (X12 : BufTy.Contents (Elt Ideal) arg12.view.ty) (X13 : BufTy.Contents (Elt Ideal) arg13.view.ty) :
    LoopInvTy_k0_t9 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 where
  inv := fun k _ => iprop(⌜TF (rd arg4 X4) ∧ AF 1 1 (rd arg3 X3) (7 * (2 * k0_t3.val + 1)) (rd arg12 X12) ∧ CF 1 1 (rd arg3 X3) (7 * (2 * k0_t3.val + 1)) (rd arg13 X13)⌝ ∗ pt c arg2 X2 ∗ pt c arg3 X3 ∗ pt c arg4 X4 ∗ pt c arg12 X12 ∗ pt c arg13 X13 ∗ ∃ f, pt c arg15 f ∗ ⌜KF (rd arg2 X2) (rd arg3 X3) (2 * k0_t3.val + 1) (32 * Scf.trips k0_t8_loop.lb k0_t8_loop.ub k0_t8_loop.st) (32 * k) (rd arg15 f)⌝)
  step := fun k _ => step_t9 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_t3 v167 v374 v376 v402 X2 X3 X4 X12 X13 k

end Run
end Cert.Proof.Val
-- ==== Proof.ValueTanh.lean ====
/-
  The thresholds lie where the rounded tanh changes its index.
-/
module

public import proofs.«01_k».proof.Proof.ValueCode

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The thresholds as whole multiples of 2⁻²⁸. -/
def tn : Fin 16 → ℤ := ![-536870912, -227659136, -163915520, -123479040, -91182000, -62976944, -37020400, -12220529, 10681087, 32280772, 54632320, 78386848, 104505288, 134664256, 172546800, 231251360]

/-- The thresholds as real numbers. -/
def tau (m : Fin 16) : ℝ := (tn m : ℝ) / 268435456

/-- The factor inside the tanh. -/
def tC : ℝ := 12373197 / 8388608

/-- The factor is positive. -/
theorem tC_pos : 0 < tC := by norm_num [tC]

/-- The factor's bits. -/
theorem tC_eq : Ideal.ofBits .f32 0x3FBCCCCD#32 = (tC : EReal) := by
  simp [Ideal.ofBits, Ideal.ieee, tC]
  rw [← EReal.coe_mul]
  congr 1
  norm_num

/-- The bits of a threshold are its number. -/
theorem sl_eq (m : Fin 16) : sl m = (tau m : EReal) := by
  fin_cases m <;> simp [sl, slotW, tau, tn, Ideal.ofBits, Ideal.ieee] <;> norm_num <;> (try rw [← EReal.coe_mul]) <;> (try congr 1) <;> norm_num

/-- Eight and eight times the tanh. -/
def wt (y : ℝ) : ℝ := 8 + 8 * Real.tanh y

/-- The scaled tanh by the exponential. -/
theorem wt_eq (y : ℝ) : wt y = 16 - 16 / (Real.exp (2 * y) + 1) := by
  have h1 := Real.exp_pos y
  have e1 : Real.exp (2 * y) = Real.exp y * Real.exp y := by rw [← Real.exp_add]; congr 1; ring
  have e2 : Real.exp (-y) = (Real.exp y)⁻¹ := Real.exp_neg y
  rw [wt, Real.tanh_eq, e1, e2]
  have : Real.exp y * Real.exp y + 1 ≠ 0 := by positivity
  field_simp
  ring

/-- The scaled tanh does not decrease. -/
theorem wt_mono {x y : ℝ} (h : x ≤ y) : wt x ≤ wt y := by
  rw [wt_eq, wt_eq]
  have h1 := Real.exp_pos (2 * x)
  have h2 : Real.exp (2 * x) ≤ Real.exp (2 * y) := Real.exp_le_exp.mpr (by linarith)
  have : 16 / (Real.exp (2 * y) + 1) ≤ 16 / (Real.exp (2 * x) + 1) := div_le_div_of_nonneg_left (by norm_num) (by positivity) (by linarith)
  linarith

/-- A bound from above, by the exponential. -/
theorem wt_lt (y B : ℝ) (h : Real.exp (2 * y) * (16 - B) < B) : wt y < B := by
  have h1 := Real.exp_pos (2 * y)
  rw [wt_eq]
  have : 16 - B < 16 / (Real.exp (2 * y) + 1) := by rw [lt_div_iff₀ (by positivity)]; linarith
  linarith

/-- A bound from below, by the exponential. -/
theorem lt_wt (y B : ℝ) (h : B < Real.exp (2 * y) * (16 - B)) : B < wt y := by
  have h1 := Real.exp_pos (2 * y)
  rw [wt_eq]
  have : 16 / (Real.exp (2 * y) + 1) < 16 - B := by rw [div_lt_iff₀ (by positivity)]; linarith
  linarith

/-- The exponential series to its fifth power. -/
def es (s : ℝ) : ℝ := 1 + s + s ^ 2 / 2 + s ^ 3 / 6 + s ^ 4 / 24 + s ^ 5 / 120

/-- The series is a bound of the exponential from below. -/
theorem es_le (z : ℝ) (h : 0 ≤ z) : es (z / 4) ^ 4 ≤ Real.exp z := by
  have h1 := Real.sum_le_exp_of_nonneg (x := z / 4) (by linarith) 6
  have e : Real.exp z = Real.exp (z / 4) ^ 4 := by rw [← Real.exp_nat_mul]; congr 1; push_cast; ring
  rw [e]
  refine pow_le_pow_left₀ (by unfold es; positivity) (le_trans (le_of_eq ?_) h1) 4
  simp [es, Finset.sum_range_succ, Nat.factorial]

/-- With the rest of the series, it is a bound from above. -/
theorem le_es (z : ℝ) (h : 0 ≤ z) (h' : z ≤ 4) : Real.exp z ≤ (es (z / 4) + (z / 4) ^ 6 * 7 / 4320) ^ 4 := by
  have h1 := Real.exp_bound' (x := z / 4) (by linarith) (by linarith) (n := 6) (by norm_num)
  have e : Real.exp z = Real.exp (z / 4) ^ 4 := by rw [← Real.exp_nat_mul]; congr 1; push_cast; ring
  rw [e]
  refine pow_le_pow_left₀ (Real.exp_pos _).le (h1.trans (le_of_eq ?_)) 4
  simp [es, Finset.sum_range_succ, Nat.factorial]
  norm_num

/-- Bounds of the exponential of twice a positive number give bounds of the tanh there, and of its negative. -/
theorem wt_pos (y A B : ℝ) (h : 0 ≤ y) (h' : y ≤ 2) (hA : A < 16) (hB : B < 16)
    (h1 : A < es (y / 2) ^ 4 * (16 - A)) (h2 : (es (y / 2) + (y / 2) ^ 6 * 7 / 4320) ^ 4 * (16 - B) < B) : A < wt y ∧ wt y < B := by
  have e : 2 * y / 4 = y / 2 := by ring
  have l := es_le (2 * y) (by linarith)
  have u := le_es (2 * y) (by linarith) (by linarith)
  rw [e] at l u
  refine ⟨lt_wt y A (h1.trans_le (mul_le_mul_of_nonneg_right l (by linarith))), wt_lt y B (lt_of_le_of_lt (mul_le_mul_of_nonneg_right u (by linarith)) h2)⟩

/-- The scaled tanh of a negative. -/
theorem wt_neg (y : ℝ) : wt (-y) = 16 - wt y := by
  rw [wt, wt, Real.tanh_neg]; ring

/-- Bounds of the scaled tanh at a positive number of at most one. -/
theorem wt_key (t : ℝ) (hs : 0 ≤ t) (hs' : t ≤ 1) (A B : ℝ) (hA : A < 16) (hB : B < 16)
    (h1 : A < es (tC * t / 2) ^ 4 * (16 - A)) (h2 : (es (tC * t / 2) + (tC * t / 2) ^ 6 * 7 / 4320) ^ 4 * (16 - B) < B) :
    A < wt (tC * t) ∧ wt (tC * t) < B :=
  wt_pos (tC * t) A B (mul_nonneg tC_pos.le hs) (by have : tC ≤ 2 := by norm_num [tC]
                                                    nlinarith) hA hB h1 h2

/-- Bounds of the scaled tanh at its negative. -/
theorem wt_keyn (t : ℝ) (hs : 0 ≤ t) (hs' : t ≤ 1) (A B : ℝ) (hA : 0 < A) (hB : 0 < B)
    (h1 : 16 - B < es (tC * t / 2) ^ 4 * B) (h2 : (es (tC * t / 2) + (tC * t / 2) ^ 6 * 7 / 4320) ^ 4 * A < 16 - A) :
    A < wt (tC * -t) ∧ wt (tC * -t) < B := by
  have h := wt_key t hs hs' (16 - B) (16 - A) (by linarith) (by linarith)
    (by rw [sub_sub_cancel]; exact h1) (by rw [sub_sub_cancel]; exact h2)
  rw [mul_neg, wt_neg]
  constructor <;> linarith [h.1, h.2]

/-- At each threshold the tanh lies within the step of its index. -/
theorem wt_tau (m : Fin 15) : (m.val : ℝ) + 1 / 2 < wt (tC * tau m.succ) ∧ wt (tC * tau m.succ) < (m.val : ℝ) + 3 / 2 := by
  have t2 : tn 2 = -163915520 := rfl
  by_cases hm : 7 ≤ m.val
  · refine wt_key (tau m.succ) ?_ ?_ _ _ ?_ ?_ ?_ ?_ <;> revert hm <;> fin_cases m <;> first | (norm_num [tau, tn, tC, es]; done) | norm_num [tau, t2, tC, es]
  · have e : tau m.succ = - (- tau m.succ) := (neg_neg _).symm
    rw [e]
    refine wt_keyn (-tau m.succ) ?_ ?_ _ _ ?_ ?_ ?_ ?_ <;> revert hm <;> fin_cases m <;> first | (norm_num [tau, tn, tC, es]; done) | norm_num [tau, t2, tC, es]

/-- At one, the scaled tanh stays below the last step. -/
theorem wt_one : wt tC < 31 / 2 :=
  (wt_pos tC 0 (31 / 2) tC_pos.le (by norm_num [tC]) (by norm_num) (by norm_num) (by norm_num [tC, es]) (by norm_num [tC, es])).2

end Cert.Proof.Val
-- ==== Proof.ValueLevels.lean ====
/-
  The encoded element is the number of thresholds below it.
-/
module

public import proofs.«01_k».proof.Proof.ValueTanh

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The number of thresholds below an element `x` of a block whose greatest absolute value is `a`. -/
def rcode (a x : EReal) : ℕ :=
  ∑ k : Fin 15, if sl k.succ < x * Ideal.div 1 (if a = 0 then 1 else a) then 1 else 0

/-- A code is at most fifteen. -/
theorem rcode_le (a x : EReal) : rcode a x ≤ 15 := by
  refine (Finset.sum_le_card_nsmul Finset.univ _ 1 fun k _ => ?_).trans (by simp)
  show (if _ then 1 else 0 : ℕ) ≤ 1
  generalize Ideal.div 1 (if a = 0 then 1 else a) = z
  split <;> omega

/-- The integer part of a natural number. -/
theorem fptosi_nat (n : ℕ) (h : n < 2 ^ 31) : Ideal.fptosi 32 (((n : ℝ)) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast]
  have e1 : max (-((2 ^ (32 - 1) : ℕ) : ℤ)) (min (((2 ^ (32 - 1) : ℕ) : ℤ) - 1) n) = n := by norm_num; omega
  rw [e1, BitVec.ofInt_natCast]

/-- Rounding to the nearest whole number, at most a half away. -/
theorem roundHalfEven_near (r : ℝ) : |r - (Ideal.roundHalfEven r : ℝ)| ≤ 1 / 2 := by
  have h1 := Int.floor_le r
  have h2 := Int.lt_floor_add_one r
  rw [abs_le]
  unfold Ideal.roundHalfEven
  dsimp only
  split
  · constructor <;> linarith
  · split
    · push_cast; constructor <;> linarith
    · split
      · constructor <;> linarith
      · push_cast; constructor <;> linarith

/-- The index at a tanh whose eightfold lies within 7.5 is 128 and a number from 1 to 15 nearest to `8 + 8 t`. -/
theorem encIdx_eq (c x : EReal) (t : ℝ) (ht : Ideal.tanh (x * c) = (t : EReal)) (h1 : 1 / 2 < 8 + 8 * t) (h2 : 8 + 8 * t < 31 / 2) :
    ∃ m : ℕ, 1 ≤ m ∧ m ≤ 15 ∧ encIdx c x = BitVec.ofNat 32 (128 + m) ∧ (m : ℝ) - 1 / 2 ≤ 8 + 8 * t ∧ 8 + 8 * t ≤ (m : ℝ) + 1 / 2 := by
  have e1 : Ideal.ofBits .bf16 0x4188#16 = ((17 : ℝ) : EReal) := by simp [Ideal.ofBits, Ideal.ieee]; rw [← EReal.coe_mul]; congr 1; norm_num
  have e2 : Ideal.ofBits .f32 0x41000000#32 = ((8 : ℝ) : EReal) := by simp [Ideal.ofBits, Ideal.ieee]; rw [← EReal.coe_mul]; congr 1; norm_num
  have ew : (Ideal.tanh (x * c) + Ideal.ofBits .bf16 0x4188#16) * Ideal.ofBits .f32 0x41000000#32 = (((t + 17) * 8 : ℝ) : EReal) := by
    rw [ht, e1, e2, ← EReal.coe_add, ← EReal.coe_mul]
  have hn := roundHalfEven_near ((t + 17) * 8)
  generalize hN : Ideal.roundHalfEven ((t + 17) * 8) = N at hn
  rw [abs_le] at hn
  have l1 : (128 : ℝ) < N := by linarith
  have l2 : (N : ℝ) < 144 := by linarith
  have l1' : 128 < N := by exact_mod_cast l1
  have l2' : N < 144 := by exact_mod_cast l2
  obtain ⟨m, rfl⟩ : ∃ m : ℕ, N = ((128 + m : ℕ) : ℤ) := ⟨(N - 128).toNat, by omega⟩
  refine ⟨m, by omega, by omega, ?_, ?_, ?_⟩
  · unfold encIdx
    rw [ew]
    show Ideal.fptosi 32 (((Ideal.roundHalfEven ((t + 17) * 8) : ℤ) : ℝ) : EReal) = _
    rw [hN, ← fptosi_nat _ (by omega)]
    simp
  · push_cast at hn; linarith
  · push_cast at hn; linarith

/-- The encoded element at index `128 + m`. -/
theorem encv_eq (lo hi : Fin 8 → EReal) (f : Fin 16 → EReal) (hlo : ∀ s : Fin 8, lo s = f ⟨2 * s.val, by omega⟩) (hhi : ∀ s : Fin 8, hi s = f ⟨2 * s.val + 1, by omega⟩)
    (c x : EReal) (m : ℕ) (h1 : 1 ≤ m) (h2 : m ≤ 15) (h : encIdx c x = BitVec.ofNat 32 (128 + m)) :
    encv lo hi c x = (((128 + (m - 1 + if f ⟨m, by omega⟩ < x then 1 else 0) : ℕ) : ℝ) : EReal) := by
  unfold encv
  rw [h]
  have hs : slotv lo hi (BitVec.ofNat 32 (128 + m)) = f ⟨m, by omega⟩ := by
    interval_cases m <;> first | exact hlo _ | exact hhi _
  rw [hs]
  by_cases hc : f ⟨m, by omega⟩ < x
  · rw [if_pos hc, if_pos hc]
    clear hs h hc
    interval_cases m <;> simp [Ideal.ofBits, Ideal.ieee, IntOp.addi] <;> rw [← EReal.coe_mul] <;> norm_num
  · rw [if_neg hc, if_neg hc]
    clear hs h hc
    interval_cases m <;> simp [Ideal.ofBits, Ideal.ieee, IntOp.addi] <;> rw [← EReal.coe_mul] <;> norm_num

/-- The encoded element when the threshold at its index decides. -/
theorem kv_of (a x : EReal) (t : ℝ) (ht : Ideal.tanh (x * cK a) = (t : EReal)) (h1 : 1 / 2 < 8 + 8 * t) (h2 : 8 + 8 * t < 31 / 2)
    (hlo : ∀ k : Fin 15, (k.val : ℝ) + 3 / 2 ≤ 8 + 8 * t → sl k.succ < x * Ideal.div 1 (if a = 0 then 1 else a))
    (hhi : ∀ k : Fin 15, 8 + 8 * t ≤ (k.val : ℝ) + 1 / 2 → ¬ sl k.succ < x * Ideal.div 1 (if a = 0 then 1 else a))
    (hm : ∀ k : Fin 15, (k.val : ℝ) + 1 / 2 ≤ 8 + 8 * t → 8 + 8 * t ≤ (k.val : ℝ) + 3 / 2 → (a * sl k.succ < x ↔ sl k.succ < x * Ideal.div 1 (if a = 0 then 1 else a))) :
    kv a x = (((128 + rcode a x : ℕ) : ℝ) : EReal) := by
  obtain ⟨m, m1, m2, hi, l, u⟩ := encIdx_eq (cK a) x t ht h1 h2
  unfold kv
  rw [encv_eq _ _ (fun m => a * sl m) (fun _ => rfl) (fun _ => rfl) _ _ m m1 m2 hi]
  suffices h : (m - 1 + if a * sl ⟨m, by omega⟩ < x then 1 else 0) = rcode a x by rw [h]
  obtain ⟨k, rfl⟩ : ∃ k, m = k + 1 := ⟨m - 1, by omega⟩
  have hk : k < 15 := by omega
  have hm' : (a * sl ⟨k + 1, by omega⟩ < x) = (sl (⟨k, hk⟩ : Fin 15).succ < x * Ideal.div 1 (if a = 0 then 1 else a)) := by
    push_cast at l u
    exact propext (hm ⟨k, hk⟩ (by show (k : ℝ) + 1 / 2 ≤ _; linarith) (by show _ ≤ (k : ℝ) + 3 / 2; linarith))
  unfold rcode
  simp only [hm']
  generalize x * Ideal.div 1 (if a = 0 then 1 else a) = z at *
  have h (j : Fin 15) : (if sl j.succ < z then 1 else 0 : ℕ) = (if j.val < k then 1 else 0) + (if j = ⟨k, hk⟩ then (if sl (⟨k, hk⟩ : Fin 15).succ < z then 1 else 0) else 0) := by
    push_cast at l u
    rcases lt_trichotomy j.val k with hj | hj | hj
    · have : (j.val : ℝ) + 1 ≤ k := by exact_mod_cast hj
      rw [if_pos (hlo j (by linarith)), if_pos hj, if_neg (by rintro rfl; exact absurd hj (lt_irrefl _))]
    · obtain rfl : j = ⟨k, hk⟩ := Fin.ext hj
      rw [if_neg (lt_irrefl _), if_pos rfl, Nat.zero_add]
    · have : (k : ℝ) + 1 ≤ j.val := by exact_mod_cast hj
      rw [if_neg (hhi j (by linarith)), if_neg (by omega), if_neg (by rintro rfl; exact absurd hj (lt_irrefl _))]
  rw [Finset.sum_congr rfl fun j _ => h j, Finset.sum_add_distrib, Finset.sum_ite_eq' Finset.univ]
  have hc : (∑ j : Fin 15, if j.val < k then 1 else 0) = k := by
    clear * - hk
    interval_cases k <;> decide
  rw [hc, if_pos (Finset.mem_univ _)]
  rfl

/-- The scaled tanh of zero is eight. -/
theorem wt_zero : 8 + 8 * (0 : ℝ) = 8 := by norm_num

/-- At zero, where the tanh vanishes and neither side is above the threshold there, the element is 135. -/
theorem kv_zero (a x : EReal) (hc : x * cK a = 0) (hz : x * Ideal.div 1 (if a = 0 then 1 else a) = 0) (h7 : ¬ a * sl 8 < x) :
    kv a x = (((128 + rcode a x : ℕ) : ℝ) : EReal) := by
  refine kv_of a x 0 ?_ (by norm_num) (by norm_num) ?_ ?_ ?_
  · rw [hc]
    show ((Real.tanh 0 : ℝ) : EReal) = _
    rw [Real.tanh_zero]
  · intro k hk
    rw [hz, sl_eq, ← EReal.coe_zero, EReal.coe_lt_coe_iff]
    have hk' : k.val ≤ 6 := by
      by_contra hn
      have : (7 : ℝ) ≤ k.val := by exact_mod_cast (show 7 ≤ k.val by omega)
      linarith
    have ht : tn k.succ < 0 := by
      fin_cases k <;> first | decide | (exfalso; revert hk'; decide)
    exact div_neg_of_neg_of_pos (by exact_mod_cast ht) (by norm_num)
  · intro k hk
    rw [hz, sl_eq, ← EReal.coe_zero, EReal.coe_lt_coe_iff, not_lt]
    have hk' : 7 ≤ k.val := by
      by_contra hn
      have : (k.val : ℝ) ≤ 6 := by exact_mod_cast (show k.val ≤ 6 by omega)
      linarith
    have ht : 0 ≤ tn k.succ := by
      fin_cases k <;> first | decide | (exfalso; revert hk'; decide)
    exact div_nonneg (by exact_mod_cast ht) (by norm_num)
  · intro k k1 k2
    have hk' : k = 7 := by
      have h1 : (k.val : ℝ) < 8 := by linarith
      have h2 : (6 : ℝ) < k.val := by linarith
      have h1' : k.val < 8 := by exact_mod_cast h1
      have h2' : 6 < k.val := by exact_mod_cast h2
      exact Fin.ext (by show k.val = 7; omega)
    subst hk'
    refine iff_of_false h7 ?_
    rw [hz, sl_eq, ← EReal.coe_zero, EReal.coe_lt_coe_iff, not_lt]
    exact div_nonneg (by exact_mod_cast (show (0 : ℤ) ≤ tn 8 by decide)) (by norm_num)

/-- The eighth threshold is positive. -/
theorem sl8_pos : 0 < sl 8 := by
  rw [sl_eq, ← EReal.coe_zero, EReal.coe_lt_coe_iff]
  exact div_pos (by exact_mod_cast (show (0 : ℤ) < tn 8 by decide)) (by norm_num)

/-- The encoded element of a block whose greatest absolute value is a positive number. -/
theorem kv_real (a x : ℝ) (ha : 0 < a) (h : |x| ≤ a) : kv (a : EReal) (x : EReal) = (((128 + rcode (a : EReal) (x : EReal) : ℕ) : ℝ) : EReal) := by
  have ha0 : (a : EReal) ≠ 0 := by exact_mod_cast ha.ne'
  have hu : (x : EReal) * Ideal.div 1 (if (a : EReal) = 0 then 1 else a) = ((x / a : ℝ) : EReal) := by
    rw [if_neg ha0, Ideal.div, if_neg ha0, one_mul, ← EReal.coe_inv, ← EReal.coe_mul, div_eq_mul_inv]
  have hc : (x : EReal) * cK a = ((tC * (x / a) : ℝ) : EReal) := by
    rw [cK, if_neg ha0, Ideal.div, if_neg ha0, tC_eq, ← EReal.coe_inv, ← EReal.coe_mul, ← EReal.coe_mul]
    congr 1
    field_simp
  rw [abs_le] at h
  have u1 : x / a ≤ 1 := (div_le_one ha).mpr h.2
  have u2 : -1 ≤ x / a := by rw [le_div_iff₀ ha]; linarith
  have hmul (s : ℝ) : a * s < x ↔ s < x / a := by rw [lt_div_iff₀ ha, mul_comm]
  have w1 : 8 + 8 * Real.tanh (tC * (x / a)) < 31 / 2 := by
    refine lt_of_le_of_lt (wt_mono ?_) wt_one
    nlinarith [tC_pos]
  have w2 : 1 / 2 < 8 + 8 * Real.tanh (tC * (x / a)) := by
    have h1 : wt (-tC) ≤ wt (tC * (x / a)) := wt_mono (by nlinarith [tC_pos])
    rw [wt_neg] at h1
    have h2 := wt_one
    show 1 / 2 < wt (tC * (x / a))
    linarith
  have lt_of (s y : ℝ) (hw : wt (tC * s) < wt (tC * y)) : s < y := by
    by_contra hn
    exact absurd (wt_mono (mul_le_mul_of_nonneg_left (not_lt.mp hn) tC_pos.le)) (not_le.mpr hw)
  refine kv_of a x (Real.tanh (tC * (x / a))) (by rw [hc]; rfl) w2 w1 ?_ ?_ ?_
  · intro k hk
    rw [hu, sl_eq, EReal.coe_lt_coe_iff]
    exact lt_of _ _ ((wt_tau k).2.trans_le hk)
  · intro k hk
    rw [hu, sl_eq, EReal.coe_lt_coe_iff, not_lt]
    exact (lt_of _ _ (lt_of_le_of_lt hk (wt_tau k).1)).le
  · intro k _ _
    rw [hu, sl_eq, EReal.coe_lt_coe_iff, ← EReal.coe_mul, EReal.coe_lt_coe_iff]
    exact hmul _

/-- The encoded element is 128 and the number of thresholds below it. -/
theorem kv_eq (a x : EReal) (h : av x ≤ a) : kv a x = (((128 + rcode a x : ℕ) : ℝ) : EReal) := by
  have hx := (max_le_iff.mp h).1
  have hx' := (max_le_iff.mp h).2
  induction a with
  | bot =>
    rw [le_bot_iff] at hx hx'
    rw [hx] at hx'
    exact absurd hx' (by simp)
  | top =>
    have hC : cK ⊤ = 0 := by rw [cK, if_neg (by simp), Ideal.div, if_neg (by simp), EReal.inv_top, mul_zero]
    refine kv_zero _ _ (by rw [hC, mul_zero]) (by rw [if_neg (by simp), Ideal.div, if_neg (by simp), EReal.inv_top, mul_zero, mul_zero]) ?_
    rw [EReal.top_mul_of_pos sl8_pos]
    exact not_top_lt
  | coe a =>
    induction x with
    | bot => simp at hx'
    | top => simp at hx
    | coe x =>
      rw [EReal.coe_le_coe_iff] at hx
      rw [← EReal.coe_neg, EReal.coe_le_coe_iff] at hx'
      rcases lt_trichotomy a 0 with ha | rfl | ha
      · linarith
      · obtain rfl : x = 0 := by linarith
        refine kv_zero _ _ ?_ ?_ ?_ <;> simp
      · exact kv_real a x ha (abs_le.mpr ⟨by linarith, hx⟩)

end Cert.Proof.Val
-- ==== Proof.ValueMerge.lean ====
/-
  The merge: two codes of neighbouring rows in a byte.
-/
module

public import proofs.«01_k».proof.Proof.ValueLevels
public import Idealize.ShloMosaic.Lib.BitcastPair

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The code at row `r`, lane `l`. -/
def code (X : S1x6272x128.Idx → EReal) (r : ℕ) (l : Fin 128) : ℕ := rcode (amax X (r / 64) l) (row X r l)

/-- A code is at most fifteen. -/
theorem code_le (X : S1x6272x128.Idx → EReal) (r : ℕ) (l : Fin 128) : code X r l ≤ 15 := rcode_le _ _

/-- The stored element of a row is 128 and the row's code. -/
theorem krow_eq (X : S1x6272x128.Idx → EReal) (r : ℕ) (l : Fin 128) : krow X r l = (((128 + code X r l : ℕ) : ℝ) : EReal) :=
  kv_eq _ _ (av_le_amax X (r / 64) l r (by omega) (by omega))

/-- The codes of both halves, side by side. -/
def code2 (X0 X1 : S1x6272x128.Idx → EReal) (r : ℕ) (l : Fin 256) : ℕ :=
  if h : l.val < 128 then code X0 r ⟨l.val, h⟩ else code X1 r ⟨l.val - 128, by omega⟩

/-- A code is at most fifteen. -/
theorem code2_le (X0 X1 : S1x6272x128.Idx → EReal) (r : ℕ) (l : Fin 256) : code2 X0 X1 r l ≤ 15 := by
  unfold code2; split <;> exact code_le _ _ _

/-- The byte of row `R`: the code of row `2R` above that of row `2R + 1`. -/
def pkn (X0 X1 : S1x6272x128.Idx → EReal) (R : ℕ) (l : Fin 256) : ℕ := 16 * code2 X0 X1 (2 * R) l + code2 X0 X1 (2 * R + 1) l

/-- A packed byte is below 256. -/
theorem pkn_lt (X0 X1 : S1x6272x128.Idx → EReal) (R : ℕ) (l : Fin 256) : pkn X0 X1 R l < 256 := by
  have := code2_le X0 X1 (2 * R) l; have := code2_le X0 X1 (2 * R + 1) l
  unfold pkn; omega

/-- The weights of four neighbouring rows. -/
def pw : Fin 4 → ℕ := ![16, 1, 4096, 256]

/-- The weight matrix: row `r` has the weights at columns `4r` to `4r + 3`. -/
def pm (r c : ℕ) : ℕ := if c / 4 = r then pw ⟨c % 4, Nat.mod_lt _ (by decide)⟩ else 0

/-- The buffer holds the weight matrix. -/
def PF (R : S64x256.Idx → EReal) : Prop := ∀ (r : Fin 64) (c : Fin 256), R (ix2 r c) = ((pm r.val c.val : ℝ) : EReal)

/-- A sum of whole numbers, taken over the extended reals. -/
theorem coe_natsum {n : ℕ} (f : Fin n → ℕ) : (∑ x, ((f x : ℝ) : EReal)) = (((∑ x, f x : ℕ) : ℝ) : EReal) := by
  induction n with
  | zero => simp
  | succ n ih =>
    rw [Fin.sum_univ_succ, Fin.sum_univ_succ, ih (fun x => f x.succ)]
    push_cast
    rfl

/-- A row of the weight matrix picks four neighbouring numbers. -/
theorem pm_sum (n : ℕ) (r : Fin n) (f : ℕ → ℕ) :
    ∑ x : Fin (n * 4), pm r.val x.val * f x.val = 16 * f (4 * r.val) + f (4 * r.val + 1) + 4096 * f (4 * r.val + 2) + 256 * f (4 * r.val + 3) := by
  rw [← finProdFinEquiv.sum_comp, Fintype.sum_prod_type, Finset.sum_eq_single r]
  · have h (q : Fin 4) : pm r.val (finProdFinEquiv (r, q)).val * f (finProdFinEquiv (r, q)).val = pw q * f (4 * r.val + q.val) := by
      have e : (finProdFinEquiv (r, q)).val = 4 * r.val + q.val := Nat.add_comm _ _
      rw [e, pm, if_pos (by omega)]
      congr 2
      exact Fin.ext (by show (4 * r.val + q.val) % 4 = q.val; omega)
    simp only [h, Fin.sum_univ_four]
    simp [pw]
  · intro b _ hb
    refine Finset.sum_eq_zero fun q _ => ?_
    have e : (finProdFinEquiv (b, q)).val = 4 * b.val + q.val := Nat.add_comm _ _
    have := Fin.val_ne_of_ne hb
    rw [e, pm, if_neg (by omega), Nat.zero_mul]
  · simp

/-- The word of row `r` after the offset of the codes is taken off. -/
theorem word_eq (n : ℕ) (r : Fin n) (f : ℕ → ℕ) (hf : ∀ x, f x ≤ 15) (g : Fin (n * 4) → EReal)
    (hg : ∀ x, g x = ((pm r.val x.val : ℝ) : EReal) * (((128 + f x.val : ℕ) : ℝ) : EReal)) :
    Ideal.fptosi 32 ((∑ x, g x) - Ideal.ofBits .f32 0x49088800#32)
      = BitVec.ofNat 32 ((16 * f (4 * r.val) + f (4 * r.val + 1)) + 256 * (16 * f (4 * r.val + 2) + f (4 * r.val + 3))) := by
  have e : (∑ x, g x) = (((∑ x : Fin (n * 4), pm r.val x.val * (128 + f x.val) : ℕ) : ℝ) : EReal) := by
    rw [← coe_natsum]
    refine Finset.sum_congr rfl fun x _ => ?_
    rw [hg, ← EReal.coe_mul]
    push_cast
    rfl
  have ho : Ideal.ofBits .f32 0x49088800#32 = ((559232 : ℝ) : EReal) := by simp [Ideal.ofBits, Ideal.ieee]; rw [← EReal.coe_mul]; congr 1; norm_num
  rw [e, pm_sum n r (fun x => 128 + f x), ho, ← EReal.coe_sub]
  have h0 := hf (4 * r.val); have h1 := hf (4 * r.val + 1); have h2 := hf (4 * r.val + 2); have h3 := hf (4 * r.val + 3)
  rw [← fptosi_nat _ (by omega)]
  congr 2
  push_cast
  ring

/-- The word at local row `r` of the first part of a group, whose rows begin at `2 R`. -/
theorem pay196_apply (X0 X1 : S1x6272x128.Idx → EReal) (R : ℕ) (a b : Vec Ideal S1x128x2x128 .bf16) (p : Vec Ideal S64x256 .bf16)
    (ha : ∀ (j : Fin 128) (q : Fin 2) (l : Fin 128), a (ix4 0 j q l) = krow X0 (2 * R + 2 * j.val + q.val) l)
    (hb : ∀ (j : Fin 128) (q : Fin 2) (l : Fin 128), b (ix4 0 j q l) = krow X1 (2 * R + 2 * j.val + q.val) l)
    (hp : ∀ (r : Fin 64) (c : Fin 256), p (ix2 r c) = ((pm r.val c.val : ℝ) : EReal)) (r : Fin 64) (l : Fin 256) :
    k0_pay196 (F := Ideal) a b p (ix2 r l) = BitVec.ofNat 32 (pkn X0 X1 (R + 2 * r.val) l + 256 * pkn X0 X1 (R + 2 * r.val + 1) l) := by
  pointwise [k0_pay196]
  refine (word_eq 64 r (fun x => code2 X0 X1 (2 * R + x) l) (fun x => code2_le _ _ _ _) _ fun x => ?_).trans ?_
  · rw [hp]
    congr 1
    unfold code2
    split
    · rw [← krow_eq]
      split
      · rw [ha]; exact congrArg (fun r => krow X0 r _) (by show 2 * R + 2 * (x.val / 2) + 0 = _; omega)
      · rw [ha]; exact congrArg (fun r => krow X0 r _) (by show 2 * R + 2 * (x.val / 2) + 1 = _; omega)
    · rw [← krow_eq]
      split
      · rw [hb]; exact congrArg (fun r => krow X1 r _) (by show 2 * R + 2 * (x.val / 2) + 0 = _; omega)
      · rw [hb]; exact congrArg (fun r => krow X1 r _) (by show 2 * R + 2 * (x.val / 2) + 1 = _; omega)
  · refine congrArg (BitVec.ofNat 32) ?_
    unfold pkn
    rw [show 2 * (R + 2 * r.val) = 2 * R + 4 * r.val by omega, show 2 * (R + 2 * r.val + 1) = 2 * R + (4 * r.val + 2) by omega]
    rfl

/-- The word at local row `r` of the second part of a group, whose rows begin at `2 R`. -/
theorem pay204_apply (X0 X1 : S1x6272x128.Idx → EReal) (R : ℕ) (a b : Vec Ideal S1x96x2x128 .bf16) (p : Vec Ideal S48x192 .bf16)
    (ha : ∀ (j : Fin 96) (q : Fin 2) (l : Fin 128), a (ix4 0 j q l) = krow X0 (2 * R + 2 * j.val + q.val) l)
    (hb : ∀ (j : Fin 96) (q : Fin 2) (l : Fin 128), b (ix4 0 j q l) = krow X1 (2 * R + 2 * j.val + q.val) l)
    (hp : ∀ (r : Fin 48) (c : Fin 192), p (ix2 r c) = ((pm r.val c.val : ℝ) : EReal)) (r : Fin 48) (l : Fin 256) :
    k0_pay204 (F := Ideal) (k0_pay202 a b) (k0_pay203 p) (ix2 r l) = BitVec.ofNat 32 (pkn X0 X1 (R + 2 * r.val) l + 256 * pkn X0 X1 (R + 2 * r.val + 1) l) := by
  pointwise [k0_pay204, k0_pay202, k0_pay203]
  refine (word_eq 48 r (fun x => code2 X0 X1 (2 * R + x) l) (fun x => code2_le _ _ _ _) _ fun x => ?_).trans ?_
  · rw [hp]
    congr 1
    unfold code2
    split
    · rw [← krow_eq]
      split
      · rw [ha]; exact congrArg (fun r => krow X0 r _) (by show 2 * R + 2 * (x.val / 2) + 0 = _; omega)
      · rw [ha]; exact congrArg (fun r => krow X0 r _) (by show 2 * R + 2 * (x.val / 2) + 1 = _; omega)
    · rw [← krow_eq]
      split
      · rw [hb]; exact congrArg (fun r => krow X1 r _) (by show 2 * R + 2 * (x.val / 2) + 0 = _; omega)
      · rw [hb]; exact congrArg (fun r => krow X1 r _) (by show 2 * R + 2 * (x.val / 2) + 1 = _; omega)
  · refine congrArg (BitVec.ofNat 32) ?_
    unfold pkn
    rw [show 2 * (R + 2 * r.val) = 2 * R + 4 * r.val by omega, show 2 * (R + 2 * r.val + 1) = 2 * R + (4 * r.val + 2) by omega]
    rfl

/-- A bitcast to a narrower or wider width, at a bit, at rank 2. -/
theorem bitcast_bit {R r n v w : ℕ} (x : (⟨2, ![R, n]⟩ : Shape).Idx → BitVec v) (h : (⟨2, ![R, n]⟩ : Shape).Bitcasts v ⟨2, ![r, n]⟩ w)
    (hv : 0 < v) (a : Fin r) (l : Fin n) (q : ℕ) (hq : q < w) (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- Words of two bytes, split into rows of bytes. -/
theorem bytes_apply (v : IVec S16x256 32) (w : ℕ → Fin 256 → ℕ) (hw : ∀ R l, w R l < 256)
    (hv : ∀ (i : Fin 16) (l : Fin 256), v (ix2 i l) = BitVec.ofNat 32 (w (2 * i.val) l + 256 * w (2 * i.val + 1) l)) (R : Fin 32) (l : Fin 256) :
    bitcast S32x256 8 (bitcast S8x256 32 (trunci 16 v natLt_16_32) bitcasts_S16x256_w16_S8x256_w32) bitcasts_S8x256_w32_S32x256_w8 (ix2 R l)
      = BitVec.ofNat 8 (w R.val l) := by
  apply BitVec.eq_of_getLsbD_eq
  intro i hi
  have h1 : (R.val * 8 + i) / 32 < 8 := by omega
  have h2 : ((R.val * 8 + i) / 32 * 32 + (R.val * 8 + i) % 32) / 16 < 16 := by omega
  refine (bitcast_bit _ _ (by decide) R l i hi ⟨(R.val * 8 + i) / 32, h1⟩ rfl).trans ?_
  refine (bitcast_bit _ _ (by decide) ⟨(R.val * 8 + i) / 32, h1⟩ l _ (by omega) ⟨_, h2⟩ rfl).trans ?_
  show (BitVec.setWidth 16 (v (ix2 _ l))).getLsbD _ = _
  rw [hv]
  have e1 : ((R.val * 8 + i) / 32 * 32 + (R.val * 8 + i) % 32) / 16 = R.val / 2 := by omega
  have e2 : ((R.val * 8 + i) / 32 * 32 + (R.val * 8 + i) % 32) % 16 = 8 * (R.val % 2) + i := by omega
  simp only [e1, e2, BitVec.getLsbD_setWidth, BitVec.getLsbD_ofNat]
  have hlo := hw (2 * (R.val / 2)) l
  have hhi := hw (2 * (R.val / 2) + 1) l
  have hm : R.val % 2 = 0 ∨ R.val % 2 = 1 := by omega
  have hd : (256 : ℕ) = 2 ^ 8 := rfl
  rcases hm with hm | hm
  · have er : R.val = 2 * (R.val / 2) := by omega
    rw [hm]
    simp only [Nat.mul_zero, Nat.zero_add, hi, show i < 16 by omega, show i < 32 by omega, decide_true, Bool.true_and]
    rw [← er] at hlo ⊢
    rw [hd, Nat.add_comm, Nat.testBit_two_pow_mul_add _ hlo]
    simp [hi]
  · have er : R.val = 2 * (R.val / 2) + 1 := by omega
    rw [hm]
    simp only [hi, show 8 * 1 + i < 16 by omega, show 8 * 1 + i < 32 by omega, decide_true, Bool.true_and]
    rw [← er] at hhi ⊢
    rw [hd, Nat.add_comm, Nat.testBit_two_pow_mul_add _ hlo, if_neg (by omega)]
    congr 1; omega

/-- The bytes of sixteen words from word `o` on, as a block of 32 rows. -/
theorem blk_apply (v : IVec S16x256 32) (X0 X1 : S1x6272x128.Idx → EReal) (R0 : ℕ)
    (hv : ∀ (i : Fin 16) (l : Fin 256), v (ix2 i l) = BitVec.ofNat 32 (pkn X0 X1 (R0 + 2 * i.val) l + 256 * pkn X0 X1 (R0 + 2 * i.val + 1) l))
    (r : Fin 32) (l : Fin 256) :
    shapeCast S1x32x256 (bitcast S32x256 8 (bitcast S8x256 32 (trunci 16 v natLt_16_32) bitcasts_S16x256_w16_S8x256_w32) bitcasts_S8x256_w32_S32x256_w8)
      shapeCasts_S32x256_S1x32x256 (ix3 0 r l) = BitVec.ofNat 8 (pkn X0 X1 (R0 + r.val) l) := by
  refine Eq.trans ?_ (bytes_apply v (fun r l => pkn X0 X1 (R0 + r) l) (fun _ _ => pkn_lt _ _ _ _) hv r l)
  pointwise []

/-- The first `n` rows of the packed buffer hold the bytes. -/
def P6 (X0 X1 : S1x6272x128.Idx → EReal) (n : ℕ) (R6 : S1x3136x256.Idx → BitVec 8) : Prop :=
  ∀ r : Fin 3136, r.val < n → ∀ l : Fin 256, R6 (ix3 0 r l) = BitVec.ofNat 8 (pkn X0 X1 r.val l)

/-- Storing 32 rows of bytes. -/
theorem P6_store (v : View sig .tc .vmem S1x3136x256 .i8) (f : v.ty.Contents (Elt Ideal)) (L : List (View.Piece (Elt Ideal) S1x3136x256 .i8))
    (X0 X1 : S1x6272x128.Idx → EReal) (n m : ℕ) (hm : m = n + 32) (off : Fin 3 → ℕ) (hoff : off = ![0, n, 0])
    (hin : ∀ a, off a + S1x32x256.size a ≤ S1x3136x256.size a) (w : S1x32x256.Idx → BitVec 8)
    (hw : ∀ (r : Fin 32) (l : Fin 256), w (ix3 0 r l) = BitVec.ofNat 8 (pkn X0 X1 (n + r.val) l))
    (hf : P6 X0 X1 n (v.read (Elt Ideal) (v.writes (Elt Ideal) f L))) :
    P6 X0 X1 m (v.read (Elt Ideal) (v.writes (Elt Ideal) f (⟨Rect.unit (s := S1x3136x256) off S1x32x256.size hin, w⟩ :: L))) := by
  subst hoff hm
  intro j hj l
  by_cases e : n ≤ j.val
  · refine (rd_hit v f _ _ _ _ (ix3 (n0 := 1) (n1 := 32) (n2 := 256) 0 ⟨j.val - n, by omega⟩ l) ?_).trans ((hw _ l).trans ?_)
    · intro a
      fin_cases a
      · show 0 = 0 + 1 * 0; omega
      · show j.val = n + 1 * (j.val - n); omega
      · show l.val = 0 + 1 * l.val; omega
    · show BitVec.ofNat 8 (pkn X0 X1 (n + (j.val - n)) l) = _
      rw [Nat.add_sub_cancel' e]
  · refine (rd_miss v f _ _ _ _ 1 fun i hi => ?_).trans (hf j (by omega) l)
    show j.val ≠ n + 1 * i
    omega

end Cert.Proof.Val
-- ==== Proof.ValuePack.lean ====
/-
  The seven stores of bytes that follow the encoding of a group.
-/
module

public import proofs.«01_k».proof.Proof.ValueMerge

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The first 128 words of a group lie within their buffer. -/
theorem inb_k1 (h : Fin 2) : ∀ a, (![h.val, 0, 0, 0] : Fin 4 → ℕ) a + S1x128x2x128.size a ≤ S2x224x2x128.size a := by
  have := h.isLt
  intro a
  fin_cases a
  · show h.val + 1 ≤ 2; omega
  · show 0 + 128 ≤ 224; omega
  · show 0 + 2 ≤ 2; omega
  · show 0 + 128 ≤ 128; omega

/-- The last 96 words of a group lie within their buffer. -/
theorem inb_k2 (h : Fin 2) : ∀ a, (![h.val, 128, 0, 0] : Fin 4 → ℕ) a + S1x96x2x128.size a ≤ S2x224x2x128.size a := by
  have := h.isLt
  intro a
  fin_cases a
  · show h.val + 1 ≤ 2; omega
  · show 128 + 96 ≤ 224; omega
  · show 0 + 2 ≤ 2; omega
  · show 0 + 128 ≤ 128; omega

/-- The first 128 row pairs of one half of the code scratch. -/
abbrev kraw1 (v : View sig .tc .vmem S2x224x2x128 .bf16) (f : v.ty.Contents (Elt Ideal)) (h : Fin 2) : Vec Ideal S1x128x2x128 .bf16 :=
  v.readAt (Elt Ideal) (Rect.unit (s := S2x224x2x128) ![h.val, 0, 0, 0] S1x128x2x128.size (inb_k1 h)).toLoadRect f

/-- The last 96 row pairs. -/
abbrev kraw2 (v : View sig .tc .vmem S2x224x2x128 .bf16) (f : v.ty.Contents (Elt Ideal)) (h : Fin 2) : Vec Ideal S1x96x2x128 .bf16 :=
  v.readAt (Elt Ideal) (Rect.unit (s := S2x224x2x128) ![h.val, 128, 0, 0] S1x96x2x128.size (inb_k2 h)).toLoadRect f

/-- A load of the first part of a group's codes, at an index. -/
theorem kraw1_apply (v : View sig .tc .vmem S2x224x2x128 .bf16) (f : v.ty.Contents (Elt Ideal)) (h : Fin 2) (X : S1x6272x128.Idx → EReal) (g m : ℕ)
    (hm : m = 224) (hK : KH h X g m (v.read (Elt Ideal) f)) (j : Fin 128) (q : Fin 2) (l : Fin 128) :
    kraw1 v f h (ix4 0 j q l) = krow X (2 * (224 * g) + 2 * j.val + q.val) l := by
  refine (View.readAt_apply ..).trans ?_
  refine Eq.trans (congrArg (v.read (Elt Ideal) f) (funext fun a => Fin.ext ?_)) ((hK ⟨j.val, by omega⟩ (by show j.val < m; omega) q l).trans (congrArg (fun r => krow X r l) (by show 448 * g + 2 * j.val + q.val = _; omega)))
  fin_cases a
  · show h.val + 1 * 0 = h.val; omega
  · show 0 + 1 * j.val = j.val; omega
  · show 0 + 1 * q.val = q.val; omega
  · show 0 + 1 * l.val = l.val; omega

/-- A load of the last part of a group's codes, at an index. -/
theorem kraw2_apply (v : View sig .tc .vmem S2x224x2x128 .bf16) (f : v.ty.Contents (Elt Ideal)) (h : Fin 2) (X : S1x6272x128.Idx → EReal) (g m : ℕ)
    (hm : m = 224) (hK : KH h X g m (v.read (Elt Ideal) f)) (j : Fin 96) (q : Fin 2) (l : Fin 128) :
    kraw2 v f h (ix4 0 j q l) = krow X (2 * (224 * g + 128) + 2 * j.val + q.val) l := by
  refine (View.readAt_apply ..).trans ?_
  refine Eq.trans (congrArg (v.read (Elt Ideal) f) (funext fun a => Fin.ext ?_)) ((hK ⟨128 + j.val, by omega⟩ (by show 128 + j.val < m; omega) q l).trans (congrArg (fun r => krow X r l) (by show 448 * g + 2 * (128 + j.val) + q.val = _; omega)))
  fin_cases a
  · show h.val + 1 * 0 = h.val; omega
  · show 128 + 1 * j.val = 128 + j.val; omega
  · show 0 + 1 * q.val = q.val; omega
  · show 0 + 1 * l.val = l.val; omega

/-- The weight matrix, whole. -/
abbrev praw1 (v : View sig .tc .vmem S64x256 .bf16) (f : v.ty.Contents (Elt Ideal)) : Vec Ideal S64x256 .bf16 :=
  v.readAt (Elt Ideal) (Rect.unit (s := S64x256) ![0, 0] S64x256.size inb_S64x256_S64x256_0_0).toLoadRect f

/-- Its first 48 rows and 192 columns. -/
abbrev praw2 (v : View sig .tc .vmem S64x256 .bf16) (f : v.ty.Contents (Elt Ideal)) : Vec Ideal S48x192 .bf16 :=
  v.readAt (Elt Ideal) (Rect.unit (s := S64x256) ![0, 0] S48x192.size inb_S64x256_S48x192_0_0).toLoadRect f

/-- A load of the whole weight matrix, at an index. -/
theorem praw1_apply (v : View sig .tc .vmem S64x256 .bf16) (f : v.ty.Contents (Elt Ideal)) (hP : PF (v.read (Elt Ideal) f)) (r : Fin 64) (c : Fin 256) :
    praw1 v f (ix2 r c) = ((pm r.val c.val : ℝ) : EReal) := by
  refine (View.readAt_apply ..).trans ?_
  refine Eq.trans (congrArg (v.read (Elt Ideal) f) (funext fun a => Fin.ext ?_)) (hP r c)
  fin_cases a
  · show 0 + 1 * r.val = r.val; omega
  · show 0 + 1 * c.val = c.val; omega

/-- A load of the corner of the weight matrix, at an index. -/
theorem praw2_apply (v : View sig .tc .vmem S64x256 .bf16) (f : v.ty.Contents (Elt Ideal)) (hP : PF (v.read (Elt Ideal) f)) (r : Fin 48) (c : Fin 192) :
    praw2 v f (ix2 r c) = ((pm r.val c.val : ℝ) : EReal) := by
  refine (View.readAt_apply ..).trans ?_
  refine Eq.trans (congrArg (v.read (Elt Ideal) f) (funext fun a => Fin.ext ?_)) (hP ⟨r.val, by omega⟩ ⟨c.val, by omega⟩)
  fin_cases a
  · show 0 + 1 * r.val = r.val; omega
  · show 0 + 1 * c.val = c.val; omega

/-- Sixteen rows from row `o` on, at an index. -/
theorem slice_apply {n : ℕ} (V : (⟨2, ![n, 256]⟩ : Shape).Idx → BitVec 32) (o : ℕ) (h : (⟨2, ![n, 256]⟩ : Shape).Slices ![o, 0] S16x256) (i : Fin 16) (l : Fin 256) (ho : o + i.val < n) :
    extractStridedSlice S16x256 ![o, 0] V h (ix2 i l) = V (ix2 ⟨o + i.val, ho⟩ l) := by
  refine congrArg V (funext fun a => Fin.ext ?_)
  fin_cases a
  · rfl
  · show 0 + l.val = l.val; omega

/-- A block of 32 rows of bytes from sixteen words of the first part. -/
theorem part1_apply (vk : View sig .tc .vmem S2x224x2x128 .bf16) (fk : vk.ty.Contents (Elt Ideal)) (vp : View sig .tc .vmem S64x256 .bf16) (fp : vp.ty.Contents (Elt Ideal))
    (X0 X1 : S1x6272x128.Idx → EReal) (g m0 m1 : ℕ) (h0 : m0 = 224) (h1 : m1 = 224)
    (hK : KF X0 X1 g m0 m1 (vk.read (Elt Ideal) fk)) (hP : PF (vp.read (Elt Ideal) fp)) (o : ℕ) (ho : o ≤ 48) (hs : S64x256.Slices ![o, 0] S16x256) (n : ℕ) (hn : n = 224 * g + 2 * o)
    (r : Fin 32) (l : Fin 256) :
    shapeCast S1x32x256 (bitcast S32x256 8 (bitcast S8x256 32 (trunci 16 (extractStridedSlice S16x256 ![o, 0] (k0_pay196 (F := Ideal) (kraw1 vk fk 0) (kraw1 vk fk 1) (praw1 vp fp)) hs) natLt_16_32)
      bitcasts_S16x256_w16_S8x256_w32) bitcasts_S8x256_w32_S32x256_w8) shapeCasts_S32x256_S1x32x256 (ix3 0 r l) = BitVec.ofNat 8 (pkn X0 X1 (n + r.val) l) := by
  subst hn
  refine blk_apply _ X0 X1 (224 * g + 2 * o) (fun i l => ?_) r l
  refine (slice_apply _ o hs i l (by omega)).trans ?_
  refine (pay196_apply X0 X1 (224 * g) _ _ _ (kraw1_apply vk fk 0 X0 g m0 h0 hK.1) (kraw1_apply vk fk 1 X1 g m1 h1 hK.2) (praw1_apply vp fp hP) _ l).trans ?_
  show BitVec.ofNat 32 (pkn X0 X1 (224 * g + 2 * (o + i.val)) l + 256 * pkn X0 X1 (224 * g + 2 * (o + i.val) + 1) l) = _
  rw [show 224 * g + 2 * (o + i.val) = 224 * g + 2 * o + 2 * i.val by omega]

/-- A block of 32 rows of bytes from sixteen words of the second part. -/
theorem part2_apply (vk : View sig .tc .vmem S2x224x2x128 .bf16) (fk : vk.ty.Contents (Elt Ideal)) (vp : View sig .tc .vmem S64x256 .bf16) (fp : vp.ty.Contents (Elt Ideal))
    (X0 X1 : S1x6272x128.Idx → EReal) (g m0 m1 : ℕ) (h0 : m0 = 224) (h1 : m1 = 224)
    (hK : KF X0 X1 g m0 m1 (vk.read (Elt Ideal) fk)) (hP : PF (vp.read (Elt Ideal) fp)) (o : ℕ) (ho : o ≤ 32) (hs : S48x256.Slices ![o, 0] S16x256) (n : ℕ) (hn : n = 224 * g + 128 + 2 * o)
    (r : Fin 32) (l : Fin 256) :
    shapeCast S1x32x256 (bitcast S32x256 8 (bitcast S8x256 32 (trunci 16 (extractStridedSlice S16x256 ![o, 0] (k0_pay204 (F := Ideal) (k0_pay202 (kraw2 vk fk 0) (kraw2 vk fk 1)) (k0_pay203 (praw2 vp fp))) hs) natLt_16_32)
      bitcasts_S16x256_w16_S8x256_w32) bitcasts_S8x256_w32_S32x256_w8) shapeCasts_S32x256_S1x32x256 (ix3 0 r l) = BitVec.ofNat 8 (pkn X0 X1 (n + r.val) l) := by
  subst hn
  refine blk_apply _ X0 X1 (224 * g + 128 + 2 * o) (fun i l => ?_) r l
  refine (slice_apply _ o hs i l (by omega)).trans ?_
  refine (pay204_apply X0 X1 (224 * g + 128) _ _ _ (kraw2_apply vk fk 0 X0 g m0 h0 hK.1) (kraw2_apply vk fk 1 X1 g m1 h1 hK.2) (praw2_apply vp fp hP) _ l).trans ?_
  show BitVec.ofNat 32 (pkn X0 X1 (224 * g + 128 + 2 * (o + i.val)) l + 256 * pkn X0 X1 (224 * g + 128 + 2 * (o + i.val) + 1) l) = _
  rw [show 224 * g + 128 + 2 * (o + i.val) = 224 * g + 128 + 2 * o + 2 * i.val by omega]

/-- The seven stores of one group's bytes. -/
theorem P6_group (v : View sig .tc .vmem S1x3136x256 .i8) (f : v.ty.Contents (Elt Ideal)) (L : List (View.Piece (Elt Ideal) S1x3136x256 .i8))
    (vk : View sig .tc .vmem S2x224x2x128 .bf16) (fk : vk.ty.Contents (Elt Ideal)) (vp : View sig .tc .vmem S64x256 .bf16) (fp : vp.ty.Contents (Elt Ideal))
    (X0 X1 : S1x6272x128.Idx → EReal) (g n m m0 m1 : ℕ) (h0 : m0 = 224) (h1 : m1 = 224) (hn : n = 224 * g) (hm : m = n + 224)
    (hK : KF X0 X1 g m0 m1 (vk.read (Elt Ideal) fk)) (hP : PF (vp.read (Elt Ideal) fp))
    (o0 o1 o2 o3 o4 o5 o6 : Fin 3 → ℕ) (ho0 : o0 = ![0, n + 0, 0]) (ho1 : o1 = ![0, n + 32, 0]) (ho2 : o2 = ![0, n + 64, 0]) (ho3 : o3 = ![0, n + 96, 0]) (ho4 : o4 = ![0, n + 128, 0]) (ho5 : o5 = ![0, n + 160, 0]) (ho6 : o6 = ![0, n + 192, 0])
    (i0 : ∀ a, o0 a + S1x32x256.size a ≤ S1x3136x256.size a) (i1 : ∀ a, o1 a + S1x32x256.size a ≤ S1x3136x256.size a) (i2 : ∀ a, o2 a + S1x32x256.size a ≤ S1x3136x256.size a) (i3 : ∀ a, o3 a + S1x32x256.size a ≤ S1x3136x256.size a) (i4 : ∀ a, o4 a + S1x32x256.size a ≤ S1x3136x256.size a) (i5 : ∀ a, o5 a + S1x32x256.size a ≤ S1x3136x256.size a) (i6 : ∀ a, o6 a + S1x32x256.size a ≤ S1x3136x256.size a)
    (hL : P6 X0 X1 n (v.read (Elt Ideal) (v.writes (Elt Ideal) f L))) :
    P6 X0 X1 m (v.read (Elt Ideal) (v.writes (Elt Ideal) f
      (⟨Rect.unit (s := S1x3136x256) o6 S1x32x256.size i6, k0_pay207 (F := Ideal) (k0_pay202 (kraw2 vk fk 0) (kraw2 vk fk 1)) (k0_pay203 (praw2 vp fp))⟩ ::
       ⟨Rect.unit (s := S1x3136x256) o5 S1x32x256.size i5, k0_pay206 (F := Ideal) (k0_pay202 (kraw2 vk fk 0) (kraw2 vk fk 1)) (k0_pay203 (praw2 vp fp))⟩ ::
       ⟨Rect.unit (s := S1x3136x256) o4 S1x32x256.size i4, k0_pay205 (F := Ideal) (k0_pay202 (kraw2 vk fk 0) (kraw2 vk fk 1)) (k0_pay203 (praw2 vp fp))⟩ ::
       ⟨Rect.unit (s := S1x3136x256) o3 S1x32x256.size i3, k0_pay201 (F := Ideal) (k0_pay196 (kraw1 vk fk 0) (kraw1 vk fk 1) (praw1 vp fp))⟩ ::
       ⟨Rect.unit (s := S1x3136x256) o2 S1x32x256.size i2, k0_pay200 (F := Ideal) (k0_pay196 (kraw1 vk fk 0) (kraw1 vk fk 1) (praw1 vp fp))⟩ ::
       ⟨Rect.unit (s := S1x3136x256) o1 S1x32x256.size i1, k0_pay199 (F := Ideal) (k0_pay198 (kraw1 vk fk 0) (kraw1 vk fk 1) (praw1 vp fp))⟩ ::
       ⟨Rect.unit (s := S1x3136x256) o0 S1x32x256.size i0, k0_pay197 (F := Ideal) (kraw1 vk fk 0) (kraw1 vk fk 1) (praw1 vp fp)⟩ :: L))) := by
  refine P6_store v f _ X0 X1 (n + 192) m (by omega) o6 ho6 i6 _ (part2_apply vk fk vp fp X0 X1 g m0 m1 h0 h1 hK hP 32 (by omega) _ _ (by omega)) ?_
  refine P6_store v f _ X0 X1 (n + 160) (n + 192) (by omega) o5 ho5 i5 _ (part2_apply vk fk vp fp X0 X1 g m0 m1 h0 h1 hK hP 16 (by omega) _ _ (by omega)) ?_
  refine P6_store v f _ X0 X1 (n + 128) (n + 160) (by omega) o4 ho4 i4 _ (part2_apply vk fk vp fp X0 X1 g m0 m1 h0 h1 hK hP 0 (by omega) _ _ (by omega)) ?_
  refine P6_store v f _ X0 X1 (n + 96) (n + 128) (by omega) o3 ho3 i3 _ (part1_apply vk fk vp fp X0 X1 g m0 m1 h0 h1 hK hP 48 (by omega) _ _ (by omega)) ?_
  refine P6_store v f _ X0 X1 (n + 64) (n + 96) (by omega) o2 ho2 i2 _ (part1_apply vk fk vp fp X0 X1 g m0 m1 h0 h1 hK hP 32 (by omega) _ _ (by omega)) ?_
  refine P6_store v f _ X0 X1 (n + 32) (n + 64) (by omega) o1 ho1 i1 _ (part1_apply vk fk vp fp X0 X1 g m0 m1 h0 h1 hK hP 16 (by omega) _ _ (by omega)) ?_
  refine P6_store v f _ X0 X1 (n + 0) (n + 32) (by omega) o0 ho0 i0 _ (part1_apply vk fk vp fp X0 X1 g m0 m1 h0 h1 hK hP 0 (by omega) _ _ (by omega)) ?_
  exact hL

end Cert.Proof.Val
-- ==== Proof.ValueT3.lean ====
/-
  The main loop over the groups of blocks.
-/
module

public import proofs.«01_k».proof.Proof.ValueEnc
public import proofs.«01_k».proof.Proof.ValuePack

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The table holds the rows of the points before `t`, and of point `t` those of the first `n` blocks. -/
@[irreducible] def HFpt (c : Dev nD) (a : Memref sig .tc .vmem S12936x128 .f32) (HS : ℕ → Fin 128 → EReal) (t n : ℕ) : sProp 𝕄 :=
  iprop(∃ f, pt c a f ∗ ⌜HF HS t n (rd a f)⌝)

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option maxHeartbeats 1600000 in
set_option sl_exec.squeezeSlice true in
/-- One trip of the main loop. -/
theorem step_t3 (arg0 : BitVec 32) (arg1 : BitVec 32) (c0_i32_135 : BitVec 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (HS0 HS1 : ℕ → Fin 128 → EReal) (k : Fin k0_t3_loop.trips) :
    iprop(⌜HSF HS0 (rd arg2 X2) (i 0).val (i 1).val ∧ HSF HS1 (rd arg3 X3) (i 0).val (i 1).val⌝ ∗ ⌜TF (rd arg4 X4) ∧ PF (rd arg5 X5)⌝ ∗ pt c arg2 X2 ∗ pt c arg3 X3 ∗ pt c arg4 X4 ∗ pt c arg5 X5 ∗ (∃ f, pt c arg6 f ∗ ⌜P6 (rd arg2 X2) (rd arg3 X3) (448 * k.val) (rd arg6 f)⌝) ∗ (∃ f, pt c arg11 f) ∗ (∃ f, pt c arg12 f ∗ ⌜AF 0 0 (rd arg2 X2) (7 * min (2 * k.val) 13) (rd arg12 f) ∧ AF 0 1 (rd arg3 X3) (7 * min (2 * k.val) 13) (rd arg12 f)⌝) ∗ (∃ f, pt c arg13 f ∗ ⌜CF 0 0 (rd arg2 X2) (7 * min (2 * k.val) 13) (rd arg13 f) ∧ CF 0 1 (rd arg3 X3) (7 * min (2 * k.val) 13) (rd arg13 f)⌝) ∗ (∃ f, pt c arg14 f) ∗ (∃ f, pt c arg15 f) ∗ (∃ f, pt c arg16 f ∗ ⌜SF (rd arg2 X2) (14 * k.val + 7) (rd arg16 f)⌝) ∗ (∃ f, pt c arg17 f ∗ ⌜SF (rd arg3 X3) (14 * k.val + 7) (rd arg17 f)⌝) ∗ HFpt c arg18 HS0 (11 * (i 0).val + (i 1).val) (14 * k.val + 7) ∗ HFpt c arg19 HS1 (11 * (i 0).val + (i 1).val) (14 * k.val + 7)) ⊢ wp frame (wpE (defs₀ (F := Ideal)) 𝒱 (c : Thread nD τ) bd) E
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 k ()) (fun _ => iprop(⌜HSF HS0 (rd arg2 X2) (i 0).val (i 1).val ∧ HSF HS1 (rd arg3 X3) (i 0).val (i 1).val⌝ ∗ ⌜TF (rd arg4 X4) ∧ PF (rd arg5 X5)⌝ ∗ pt c arg2 X2 ∗ pt c arg3 X3 ∗ pt c arg4 X4 ∗ pt c arg5 X5 ∗ (∃ f, pt c arg6 f ∗ ⌜P6 (rd arg2 X2) (rd arg3 X3) (448 * (k.val + 1)) (rd arg6 f)⌝) ∗ (∃ f, pt c arg11 f) ∗ (∃ f, pt c arg12 f ∗ ⌜AF 0 0 (rd arg2 X2) (7 * min (2 * (k.val + 1)) 13) (rd arg12 f) ∧ AF 0 1 (rd arg3 X3) (7 * min (2 * (k.val + 1)) 13) (rd arg12 f)⌝) ∗ (∃ f, pt c arg13 f ∗ ⌜CF 0 0 (rd arg2 X2) (7 * min (2 * (k.val + 1)) 13) (rd arg13 f) ∧ CF 0 1 (rd arg3 X3) (7 * min (2 * (k.val + 1)) 13) (rd arg13 f)⌝) ∗ (∃ f, pt c arg14 f) ∗ (∃ f, pt c arg15 f) ∗ (∃ f, pt c arg16 f ∗ ⌜SF (rd arg2 X2) (14 * (k.val + 1) + 7) (rd arg16 f)⌝) ∗ (∃ f, pt c arg17 f ∗ ⌜SF (rd arg3 X3) (14 * (k.val + 1) + 7) (rd arg17 f)⌝) ∗ HFpt c arg18 HS0 (11 * (i 0).val + (i 1).val) (14 * (k.val + 1) + 7) ∗ HFpt c arg19 HS1 (11 * (i 0).val + (i 1).val) (14 * (k.val + 1) + 7))) := by
  have hk : k.val < 7 := Nat.lt_of_lt_of_le k.isLt k0_t3_abs.2.1
  unfold k0_t3_body HFpt
  iintro ⟨%hHS, %hTP, H2, H3, H4, H5, ⟨%X6, H6, %h6⟩, ⟨%X11, H11⟩, ⟨%X12, H12, %h12⟩, ⟨%X13, H13, %h13⟩, ⟨%X14, H14⟩, ⟨%X15, H15⟩, ⟨%X16, H16, %h16⟩, ⟨%X17, H17, %h17⟩, ⟨%X18, H18, %h18⟩, ⟨%X19, H19, %h19⟩⟩
  rw [show min (2 * k.val) 13 = 2 * k.val by omega] at h12 h13
  have e0 : TF (rd arg4 X4) ∧ AF 0 0 (rd arg2 X2) (7 * (2 * k.val)) (rd arg12 X12) ∧ CF 0 0 (rd arg2 X2) (7 * (2 * k.val)) (rd arg13 X13) := ⟨hTP.1, h12.1, h13.1⟩
  have e1 : TF (rd arg4 X4) ∧ AF 0 1 (rd arg3 X3) (7 * (2 * k.val)) (rd arg12 X12) ∧ CF 0 1 (rd arg3 X3) (7 * (2 * k.val)) (rd arg13 X13) := ⟨hTP.1, h12.2, h13.2⟩
  have e2 : KF (rd arg2 X2) (rd arg3 X3) (2 * k.val) (32 * 0) (32 * 0) (rd arg14 X14) := ⟨fun j hj => absurd hj (by omega), fun j hj => absurd hj (by omega)⟩
  have e3 : KF (rd arg2 X2) (rd arg3 X3) (2 * k.val + 1) (32 * 0) (32 * 0) (rd arg15 X15) := ⟨fun j hj => absurd hj (by omega), fun j hj => absurd hj (by omega)⟩
  sl_exec
  ihave H12 : iprop(∃ f, pt c arg12 f ∗ ⌜AF 1 0 (rd arg2 X2) (7 * (2 * k.val + 1)) (rd arg12 f) ∧ AF 1 1 (rd arg3 X3) (7 * (2 * k.val + 1)) (rd arg12 f)⌝) $$ [H12]
  · iexists _
    isplitl [H12]
    · iexact H12
    ipureintro
    exact ⟨AF_miss arg12.view X12 _ 1 0 1 1 _ _ _ _ (Or.inr (by decide)) (AF_hit arg12.view X12 _ 1 0 _ _ _ _ (fun b hb l => val267 arg11.view _ 1 0 _ _ ‹_› (by decide) b hb l)),
      AF_hit arg12.view X12 _ 1 1 _ _ _ _ (fun b hb l => val267 arg11.view _ 1 1 _ _ ‹_› (by decide) b hb l)⟩
  icases H12 with ⟨%Y12, H12, %g12⟩
  ihave H13 : iprop(∃ f, pt c arg13 f ∗ ⌜CF 1 0 (rd arg2 X2) (7 * (2 * k.val + 1)) (rd arg13 f) ∧ CF 1 1 (rd arg3 X3) (7 * (2 * k.val + 1)) (rd arg13 f)⌝) $$ [H13]
  · iexists _
    isplitl [H13]
    · iexact H13
    ipureintro
    exact ⟨CF_miss arg13.view X13 _ 1 0 1 1 _ _ _ _ (Or.inr (by decide)) (CF_hit arg13.view X13 _ 1 0 _ _ _ _ (fun b hb p l => val268 arg11.view _ 1 0 _ _ ‹_› (by decide) b hb p l)),
      CF_hit arg13.view X13 _ 1 1 _ _ _ _ (fun b hb p l => val268 arg11.view _ 1 1 _ _ ‹_› (by decide) b hb p l)⟩
  icases H13 with ⟨%Y13, H13, %g13⟩
  ihave HT : Tok $$ []
  · exact Tok_intro
  have e4 : TF (rd arg4 X4) ∧ AF 1 0 (rd arg2 X2) (7 * (2 * k.val + 1)) (rd arg12 Y12) ∧ CF 1 0 (rd arg2 X2) (7 * (2 * k.val + 1)) (rd arg13 Y13) := ⟨hTP.1, g12.1, g13.1⟩
  have e5 : TF (rd arg4 X4) ∧ AF 1 1 (rd arg3 X3) (7 * (2 * k.val + 1)) (rd arg12 Y12) ∧ CF 1 1 (rd arg3 X3) (7 * (2 * k.val + 1)) (rd arg13 Y13) := ⟨hTP.1, g12.2, g13.2⟩
  sl_exec
  sl_step
  isplitr
  · ipureintro; exact hHS
  isplitr
  · ipureintro; exact hTP
  isplitl [H2]
  · iexact H2
  isplitl [H3]
  · iexact H3
  isplitl [H4]
  · iexact H4
  isplitl [H5]
  · iexact H5
  isplitl [H6]
  · iexists _
    isplitl [H6]
    · iexact H6
    ipureintro
    refine P6_group arg6.view X6 _ arg15.view _ arg5.view X5 (rd arg2 X2) (rd arg3 X3) (2 * k.val + 1) (448 * k.val + 224) _ (32 * Scf.trips k0_t8_loop.lb k0_t8_loop.ub k0_t8_loop.st) (32 * Scf.trips k0_t9_loop.lb k0_t9_loop.ub k0_t9_loop.st) (by decide) (by decide) (by omega) (by omega) ‹_› hTP.2 _ _ _ _ _ _ _ (k0_off43_eq k) (k0_off44_eq k) (k0_off45_eq k) (k0_off46_eq k) (k0_off47_eq k) (k0_off48_eq k) (k0_off49_eq k) _ _ _ _ _ _ _ ?_
    exact P6_group arg6.view X6 [] arg14.view _ arg5.view X5 (rd arg2 X2) (rd arg3 X3) (2 * k.val) (448 * k.val) _ (32 * Scf.trips k0_t4_loop.lb k0_t4_loop.ub k0_t4_loop.st) (32 * Scf.trips k0_t5_loop.lb k0_t5_loop.ub k0_t5_loop.st) (by decide) (by decide) (by omega) rfl ‹_› hTP.2 _ _ _ _ _ _ _ (k0_off21_eq k) (k0_off22_eq k) (k0_off23_eq k) (k0_off24_eq k) (k0_off25_eq k) (k0_off26_eq k) (k0_off27_eq k) _ _ _ _ _ _ _ h6
  isplitl [H11]
  · iexists _; iexact H11
  isplitl [H12]
  · iexists _
    isplitl [H12]
    · iexact H12
    ipureintro
    rw [show min (2 * (k.val + 1)) 13 = min (2 * k.val + 2) 13 from rfl]
    exact ⟨AF_miss arg12.view Y12 _ 0 0 0 1 _ _ _ _ (Or.inr (by decide)) (AF_hit arg12.view Y12 _ 0 0 _ _ _ _ (fun b hb l => val267 arg11.view _ 0 0 _ _ ‹_› (by decide) b hb l)),
      AF_hit arg12.view Y12 _ 0 1 _ _ _ _ (fun b hb l => val267 arg11.view _ 0 1 _ _ ‹_› (by decide) b hb l)⟩
  isplitl [H13]
  · iexists _
    isplitl [H13]
    · iexact H13
    ipureintro
    rw [show min (2 * (k.val + 1)) 13 = min (2 * k.val + 2) 13 from rfl]
    exact ⟨CF_miss arg13.view Y13 _ 0 0 0 1 _ _ _ _ (Or.inr (by decide)) (CF_hit arg13.view Y13 _ 0 0 _ _ _ _ (fun b hb p l => val268 arg11.view _ 0 0 _ _ ‹_› (by decide) b hb p l)),
      CF_hit arg13.view Y13 _ 0 1 _ _ _ _ (fun b hb p l => val268 arg11.view _ 0 1 _ _ ‹_› (by decide) b hb p l)⟩
  isplitl [H14]
  · iexists _; iexact H14
  isplitl [H15]
  · iexists _; iexact H15
  isplitl [H16]
  · iexists _
    isplitl [H16]
    · iexact H16
    ipureintro
    refine SF_store arg16.view X16 _ _ (14 * k.val + 14) _ (min (2 * k.val + 2) 13) _ _ (k0_off38_eq k) rfl _ _ (fun b l => val269 arg11.view _ 0 0 _ _ ‹_› (by decide) b l) ?_ ?_
    · refine SF_store arg16.view X16 [] _ (14 * k.val + 7) _ (2 * k.val + 1) _ _ (k0_off16_eq k) (by omega) _ _ (fun b l => val269 arg11.view _ 1 0 _ _ ‹_› (by decide) b l) h16 ?_
      intro q _ hq; omega
    · intro q _ hq; omega
  isplitl [H17]
  · iexists _
    isplitl [H17]
    · iexact H17
    ipureintro
    refine SF_store arg17.view X17 _ _ (14 * k.val + 14) _ (min (2 * k.val + 2) 13) _ _ (k0_off38_eq k) rfl _ _ (fun b l => val269 arg11.view _ 0 1 _ _ ‹_› (by decide) b l) ?_ ?_
    · refine SF_store arg17.view X17 [] _ (14 * k.val + 7) _ (2 * k.val + 1) _ _ (k0_off16_eq k) (by omega) _ _ (fun b l => val269 arg11.view _ 1 1 _ _ ‹_› (by decide) b l) h17 ?_
      intro q _ hq; omega
    · intro q _ hq; omega
  isplitl [H18]
  · iexists _
    isplitl [H18]
    · iexact H18
    ipureintro
    refine HF_store arg18.view X18 _ HS0 (rd arg2 X2) _ _ (14 * k.val + 14) _ (min (2 * k.val + 2) 13) (i 0).isLt (i 1).isLt (by omega) hHS.1 _ _ (k0_off39_eq i k) (by omega) _ _ _ (fun b l => val271 arg11.view _ 0 0 _ _ ‹_› (by decide) b l) ?_ ?_
    · refine HF_store arg18.view X18 [] HS0 (rd arg2 X2) _ _ (14 * k.val + 7) _ (2 * k.val + 1) (i 0).isLt (i 1).isLt (by omega) hHS.1 _ _ (k0_off17_eq i k) (by omega) _ _ _ (fun b l => val271 arg11.view _ 1 0 _ _ ‹_› (by decide) b l) h18 ?_
      intro q _ hq; omega
    · intro q _ hq; omega
  · iexists _
    isplitl [H19]
    · iexact H19
    ipureintro
    refine HF_store arg19.view X19 _ HS1 (rd arg3 X3) _ _ (14 * k.val + 14) _ (min (2 * k.val + 2) 13) (i 0).isLt (i 1).isLt (by omega) hHS.2 _ _ (k0_off39_eq i k) (by omega) _ _ _ (fun b l => val271 arg11.view _ 0 1 _ _ ‹_› (by decide) b l) ?_ ?_
    · refine HF_store arg19.view X19 [] HS1 (rd arg3 X3) _ _ (14 * k.val + 7) _ (2 * k.val + 1) (i 0).isLt (i 1).isLt (by omega) hHS.2 _ _ (k0_off17_eq i k) (by omega) _ _ _ (fun b l => val271 arg11.view _ 1 1 _ _ ‹_› (by decide) b l) h19 ?_
      intro q _ hq; omega
    · intro q _ hq; omega

/-- The main loop's invariant. -/
@[sl_loop, instance_reducible] def inv_t3 (arg0 : BitVec 32) (arg1 : BitVec 32) (c0_i32_135 : BitVec 32) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (HS0 HS1 : ℕ → Fin 128 → EReal) :
    LoopInvTy_k0_t3 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 where
  inv := fun k _ => iprop(⌜HSF HS0 (rd arg2 X2) (i 0).val (i 1).val ∧ HSF HS1 (rd arg3 X3) (i 0).val (i 1).val⌝ ∗ ⌜TF (rd arg4 X4) ∧ PF (rd arg5 X5)⌝ ∗ pt c arg2 X2 ∗ pt c arg3 X3 ∗ pt c arg4 X4 ∗ pt c arg5 X5 ∗ (∃ f, pt c arg6 f ∗ ⌜P6 (rd arg2 X2) (rd arg3 X3) (448 * k) (rd arg6 f)⌝) ∗ (∃ f, pt c arg11 f) ∗ (∃ f, pt c arg12 f ∗ ⌜AF 0 0 (rd arg2 X2) (7 * min (2 * k) 13) (rd arg12 f) ∧ AF 0 1 (rd arg3 X3) (7 * min (2 * k) 13) (rd arg12 f)⌝) ∗ (∃ f, pt c arg13 f ∗ ⌜CF 0 0 (rd arg2 X2) (7 * min (2 * k) 13) (rd arg13 f) ∧ CF 0 1 (rd arg3 X3) (7 * min (2 * k) 13) (rd arg13 f)⌝) ∗ (∃ f, pt c arg14 f) ∗ (∃ f, pt c arg15 f) ∗ (∃ f, pt c arg16 f ∗ ⌜SF (rd arg2 X2) (14 * k + 7) (rd arg16 f)⌝) ∗ (∃ f, pt c arg17 f ∗ ⌜SF (rd arg3 X3) (14 * k + 7) (rd arg17 f)⌝) ∗ HFpt c arg18 HS0 (11 * (i 0).val + (i 1).val) (14 * k + 7) ∗ HFpt c arg19 HS1 (11 * (i 0).val + (i 1).val) (14 * k + 7))
  step := fun k _ => step_t3 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 arg1 c0_i32_135 X2 X3 X4 X5 HS0 HS1 k

end Run
end Cert.Proof.Val
-- ==== Proof.ValueSec.lean ====
/-
  The second level: the sum over the maxima, and the rows of codes and scales.
-/
module

public import proofs.«01_k».proof.Proof.ValueRed

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- Rows `264 k` on of a table. -/
def blk (A : S12936x128.Idx → EReal) (k : ℕ) : Vec Ideal S264x128 .f32 :=
  fun j => if h : 264 * k + (j 0).val < 12936 then A (ix2 ⟨264 * k + (j 0).val, h⟩ (j 1)) else 0

/-- The running sums after `k` trips of the summing loop. -/
def accf (A B : S12936x128.Idx → EReal) : ℕ → FVec Ideal S8x128 .f32
  | 0 => k0_pay245 (F := Ideal)
  | k + 1 => k0_pay246 (F := Ideal) (accf A B k) (blk A k) (blk B k)

/-- The scale of a second-level row. -/
def sc (o : EReal) (u v : Fin 128 → EReal) : EReal :=
  Ideal.div (Finset.fold max (Ideal.ofBits .f32 0xFF800000#32) (fun x => max (av (u x - o)) (av (v x - o))) Finset.univ)
    (Ideal.ofBits .f32 0x42FE0000#32)

/-- The code of a centred maximum `x` under the row's scale `s`. -/
def cd (o x s : EReal) : BitVec 8 :=
  FloatOps.fptosi (F := Ideal) (φ := .f32) 8 (min (Ideal.ofBits .f32 0x42FE0000#32) (max (Ideal.ofBits .f32 0xC2FE0000#32)
    (Ideal.liftRound Ideal.roundHalfEven (Ideal.div (x - o) s))))

/-- The scales of 32 rows. -/
theorem pay250_apply (a : FVec Ideal S8x128 .f32) (u v : Vec Ideal S32x128 .f32) (r : Fin 32) :
    k0_pay250 (F := Ideal) a u v (ix2 r 0) = sc (k0_pay247 a) (fun l => u (ix2 r l)) (fun l => v (ix2 r l)) := by
  pointwise [k0_pay250, k0_pay249, k0_pay248]
  rfl

/-- The codes of 32 rows of the first half. -/
theorem pay251_apply (a : FVec Ideal S8x128 .f32) (u v : Vec Ideal S32x128 .f32) (r : Fin 32) (l : Fin 128) :
    k0_pay251 (F := Ideal) a u v (ix2 r l) = cd (k0_pay247 a) (u (ix2 r l)) (sc (k0_pay247 a) (fun l => u (ix2 r l)) (fun l => v (ix2 r l))) := by
  rw [← pay250_apply]
  pointwise [k0_pay251, k0_pay249, k0_pay248]
  rfl

/-- The codes of 32 rows of the second half. -/
theorem pay252_apply (a : FVec Ideal S8x128 .f32) (u v : Vec Ideal S32x128 .f32) (r : Fin 32) (l : Fin 128) :
    k0_pay252 (F := Ideal) a u v (ix2 r l) = cd (k0_pay247 a) (v (ix2 r l)) (sc (k0_pay247 a) (fun l => u (ix2 r l)) (fun l => v (ix2 r l))) := by
  rw [← pay250_apply]
  pointwise [k0_pay252, k0_pay249, k0_pay248]
  rfl

/-- The scales of the last eight rows. -/
theorem pay255_apply (a : FVec Ideal S8x128 .f32) (u v : Vec Ideal S8x128 .f32) (r : Fin 8) :
    k0_pay255 (F := Ideal) a u v (ix2 r 0) = sc (k0_pay247 a) (fun l => u (ix2 r l)) (fun l => v (ix2 r l)) := by
  pointwise [k0_pay255, k0_pay253, k0_pay254]
  rfl

/-- The codes of the last eight rows of the first half. -/
theorem pay256_apply (a : FVec Ideal S8x128 .f32) (u v : Vec Ideal S8x128 .f32) (r : Fin 8) (l : Fin 128) :
    k0_pay256 (F := Ideal) a u v (ix2 r l) = cd (k0_pay247 a) (u (ix2 r l)) (sc (k0_pay247 a) (fun l => u (ix2 r l)) (fun l => v (ix2 r l))) := by
  rw [← pay255_apply]
  pointwise [k0_pay256, k0_pay253, k0_pay254]
  rfl

/-- The codes of the last eight rows of the second half. -/
theorem pay6_apply (a : FVec Ideal S8x128 .f32) (u v : Vec Ideal S8x128 .f32) (r : Fin 8) (l : Fin 128) :
    k0_pay6 (F := Ideal) (k0_pay257 (F := Ideal) a u v) (ix2 r l) = cd (k0_pay247 a) (v (ix2 r l)) (sc (k0_pay247 a) (fun l => u (ix2 r l)) (fun l => v (ix2 r l))) := by
  rw [← pay255_apply]
  pointwise [k0_pay6, k0_pay257, k0_pay253, k0_pay254]
  rfl

/-- A row of a table. -/
def rw2 (A : S12936x128.Idx → EReal) (r : Fin 12936) : Fin 128 → EReal := fun l => A (ix2 r l)

/-- The first `n` rows of the codes. -/
def C8 (o : EReal) (A B : S12936x128.Idx → EReal) (n : ℕ) (R : S12936x256.Idx → BitVec 8) : Prop :=
  ∀ r : Fin 12936, r.val < n → ∀ l : Fin 128,
    R (ix2 r ⟨l.val, by omega⟩) = cd o (A (ix2 r l)) (sc o (rw2 A r) (rw2 B r))
      ∧ R (ix2 r ⟨128 + l.val, by omega⟩) = cd o (B (ix2 r l)) (sc o (rw2 A r) (rw2 B r))

/-- The first `n` rows of the scales. -/
def C9 (o : EReal) (A B : S12936x128.Idx → EReal) (n : ℕ) (R : S12936x1.Idx → EReal) : Prop :=
  ∀ r : Fin 12936, r.val < n → R (ix2 r 0) = sc o (rw2 A r) (rw2 B r)

/-- `C8` of the first `32 n` rows, trivially true before the first pass. -/
def C8T (o : EReal) (A B : S12936x128.Idx → EReal) (n : ℕ) (R : S12936x256.Idx → BitVec 8) : Prop :=
  match n with
  | 0 => True
  | n + 1 => C8 o A B (32 * (n + 1)) R

/-- `C9` of the first `32 n` rows, trivially true before the first pass. -/
def C9T (o : EReal) (A B : S12936x128.Idx → EReal) (n : ℕ) (R : S12936x1.Idx → EReal) : Prop :=
  match n with
  | 0 => True
  | n + 1 => C9 o A B (32 * (n + 1)) R

/-- `C8T` gives `C8`. -/
theorem C8T_C8 {o : EReal} {A B : S12936x128.Idx → EReal} {n : ℕ} {R : S12936x256.Idx → BitVec 8} (h : C8T o A B n R = True) :
    C8 o A B (32 * n) R := by
  cases n with
  | zero => intro r hr; omega
  | succ n => exact of_eq_true h

/-- `C9T` gives `C9`. -/
theorem C9T_C9 {o : EReal} {A B : S12936x128.Idx → EReal} {n : ℕ} {R : S12936x1.Idx → EReal} (h : C9T o A B n R = True) :
    C9 o A B (32 * n) R := by
  cases n with
  | zero => intro r hr; omega
  | succ n => exact of_eq_true h

/-- Whole rows loaded from a table. -/
theorem ldrows (v : View sig .tc .vmem S12936x128 .f32) (f : v.ty.Contents (Elt Ideal)) (n : ℕ) (off : Fin 2 → ℕ) (o : ℕ)
    (hoff : off = ![o, 0]) (hin) (r : Fin n) (l : Fin 128) (h : o + r.val < 12936) :
    v.readAt (Elt Ideal) (Rect.unit (s := S12936x128) off (⟨2, ![n, 128]⟩ : Shape).size hin).toLoadRect f (ix2 r l)
      = v.read (Elt Ideal) f (ix2 ⟨o + r.val, h⟩ l) := by
  subst hoff
  refine congrArg (v.read (Elt Ideal) f) (funext fun a => Fin.ext ?_)
  fin_cases a
  · show o + 1 * r.val = o + r.val; omega
  · show 0 + 1 * l.val = l.val; omega

/-- Two stores, of the left and the right half of `m` rows, extend the codes. -/
theorem C8_store (v : View sig .tc .vmem S12936x256 .i8) (f : v.ty.Contents (Elt Ideal)) (L) (q : EReal) (A B : S12936x128.Idx → EReal)
    (n m : ℕ) (hf : C8 q A B n (v.read (Elt Ideal) (v.writes (Elt Ideal) f L)))
    (off off' : Fin 2 → ℕ) (hoff : off = ![n, 0]) (hoff' : off' = ![n, 128]) (hin hin') (w w' : (⟨2, ![m, 128]⟩ : Shape).Idx → BitVec 8)
    (hw : ∀ (r : Fin m) (l : Fin 128) (h : n + r.val < 12936), w (ix2 r l) = cd q (A (ix2 ⟨n + r.val, h⟩ l)) (sc q (rw2 A ⟨n + r.val, h⟩) (rw2 B ⟨n + r.val, h⟩)))
    (hw' : ∀ (r : Fin m) (l : Fin 128) (h : n + r.val < 12936), w' (ix2 r l) = cd q (B (ix2 ⟨n + r.val, h⟩ l)) (sc q (rw2 A ⟨n + r.val, h⟩) (rw2 B ⟨n + r.val, h⟩))) :
    C8 q A B (n + m) (v.read (Elt Ideal) (v.writes (Elt Ideal) f
      (⟨Rect.unit (s := S12936x256) off' (⟨2, ![m, 128]⟩ : Shape).size hin', w'⟩ :: ⟨Rect.unit (s := S12936x256) off (⟨2, ![m, 128]⟩ : Shape).size hin, w⟩ :: L))) := by
  subst hoff hoff'
  intro r hr l
  by_cases e : r.val < n
  · have hmiss : ∀ (o : ℕ) (j : ℕ), j < m → r.val ≠ n + 1 * j := fun _ j hj => by omega
    constructor
    · exact ((rd_miss v f _ _ _ _ 0 (hmiss 0)).trans (rd_miss v f _ _ _ _ 0 (hmiss 0))).trans (hf r e l).1
    · exact ((rd_miss v f _ _ _ _ 0 (hmiss 0)).trans (rd_miss v f _ _ _ _ 0 (hmiss 0))).trans (hf r e l).2
  · have er : (⟨n + (r.val - n), by have := r.isLt; omega⟩ : Fin 12936) = r := Fin.ext (by show n + (r.val - n) = r.val; omega)
    constructor
    · refine ((rd_miss v f _ _ _ _ 1 ?_).trans (rd_hit v f _ _ _ _ (ix2 (n0 := m) (n1 := 128) ⟨r.val - n, by omega⟩ l) ?_)).trans ((hw _ l (by have := r.isLt; show n + (r.val - n) < 12936; omega)).trans ?_)
      · intro j _
        show l.val ≠ 128 + 1 * j
        omega
      · intro a
        fin_cases a
        · show r.val = n + 1 * (r.val - n); omega
        · show l.val = 0 + 1 * l.val; omega
      · rw [er]
    · refine (rd_hit v f _ _ _ _ (ix2 (n0 := m) (n1 := 128) ⟨r.val - n, by omega⟩ l) ?_).trans ((hw' _ l (by have := r.isLt; show n + (r.val - n) < 12936; omega)).trans ?_)
      · intro a
        fin_cases a
        · show r.val = n + 1 * (r.val - n); omega
        · show 128 + l.val = 128 + 1 * l.val; omega
      · rw [er]

/-- A store of `m` rows extends the scales. -/
theorem C9_store (v : View sig .tc .vmem S12936x1 .f32) (f : v.ty.Contents (Elt Ideal)) (L) (q : EReal) (A B : S12936x128.Idx → EReal)
    (n m : ℕ) (hf : C9 q A B n (v.read (Elt Ideal) (v.writes (Elt Ideal) f L)))
    (off : Fin 2 → ℕ) (hoff : off = ![n, 0]) (hin) (w : (⟨2, ![m, 1]⟩ : Shape).Idx → EReal)
    (hw : ∀ (r : Fin m) (h : n + r.val < 12936), w (ix2 r 0) = sc q (rw2 A ⟨n + r.val, h⟩) (rw2 B ⟨n + r.val, h⟩)) :
    C9 q A B (n + m) (v.read (Elt Ideal) (v.writes (Elt Ideal) f
      (⟨Rect.unit (s := S12936x1) off (⟨2, ![m, 1]⟩ : Shape).size hin, w⟩ :: L))) := by
  subst hoff
  intro r hr
  by_cases e : r.val < n
  · exact (rd_miss v f _ _ _ _ 0 (fun j (hj : j < m) => show r.val ≠ n + 1 * j by omega)).trans (hf r e)
  · have er : (⟨n + (r.val - n), by have := r.isLt; omega⟩ : Fin 12936) = r := Fin.ext (by show n + (r.val - n) = r.val; omega)
    refine (rd_hit v f _ _ _ _ (ix2 (n0 := m) (n1 := 1) ⟨r.val - n, by omega⟩ 0) ?_).trans ((hw _ (by have := r.isLt; show n + (r.val - n) < 12936; omega)).trans ?_)
    · intro a
      fin_cases a
      · show r.val = n + 1 * (r.val - n); omega
      · rfl
    · rw [er]

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

/-- One trip of the summing loop. -/
theorem step_t12 (k0_h2 : k0_cond2 i = 1#1) (A : BufTy.Contents (Elt Ideal) arg18.view.ty) (B : BufTy.Contents (Elt Ideal) arg19.view.ty) (k : Fin k0_t12_loop.trips) (acc : FVec Ideal S8x128 .f32) :
    iprop(pt c arg18 A ∗ pt c arg19 B ∗ ⌜acc = accf (rd arg18 A) (rd arg19 B) k.val⌝) ⊢ wp frame (wpE (defs₀ (F := Ideal)) 𝒱 (c : Thread nD τ) bd) E
      (k0_t12_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 k acc) (fun acc => iprop(pt c arg18 A ∗ pt c arg19 B ∗ ⌜acc = accf (rd arg18 A) (rd arg19 B) (k.val + 1)⌝)) := by
  have hk : k.val < 49 := Nat.lt_of_lt_of_le k.isLt k0_t12_abs.2.1
  unfold k0_t12_body
  iintro ⟨H18, H19, %ha⟩
  sl_exec
  sl_step
  isplitl [H18]
  · iexact H18
  isplitl [H19]
  · iexact H19
  ipureintro
  subst ha
  have e : ∀ (v : View sig .tc .vmem S12936x128 .f32) (f : v.ty.Contents (Elt Ideal)) (hin),
      v.readAt (Elt Ideal) (Rect.unit (s := S12936x128) (k0_off50 k) S264x128.size hin).toLoadRect f = blk (v.read (Elt Ideal) f) k.val := by
    intro v f hin
    funext j
    have hj : (j 0).val < 264 := (j 0).isLt
    unfold blk
    rw [dif_pos (by omega)]
    exact (congrArg (v.readAt (Elt Ideal) _ f) (ix2_eta j).symm).trans (ldrows v f 264 _ _ (k0_off50_eq k) hin (j 0) (j 1) (by omega))
  exact congrArg₂ (k0_pay246 (F := Ideal) _) (e _ _ _) (e _ _ _)

/-- The summing loop's invariant. -/
@[sl_loop, instance_reducible] def inv_t12 (k0_h2 : k0_cond2 i = 1#1) (A : BufTy.Contents (Elt Ideal) arg18.view.ty) (B : BufTy.Contents (Elt Ideal) arg19.view.ty) :
    LoopInvTy_k0_t12 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 (k0_pay245 (F := Ideal)) where
  inv := fun k acc => iprop(pt c arg18 A ∗ pt c arg19 B ∗ ⌜acc = accf (rd arg18 A) (rd arg19 B) k⌝)
  step := fun k acc => step_t12 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 A B k acc

/-- One trip of the loop over the second-level rows. -/
theorem step_t13 (k0_h2 : k0_cond2 i = 1#1) (v169 : FVec Ideal S8x128 .f32) (A : BufTy.Contents (Elt Ideal) arg18.view.ty) (B : BufTy.Contents (Elt Ideal) arg19.view.ty) (k : Fin k0_t13_loop.trips) :
    iprop(pt c arg18 A ∗ pt c arg19 B ∗ (∃ f, pt c arg8 f ∗ ⌜C8T (k0_pay247 v169) (rd arg18 A) (rd arg19 B) k.val (rd arg8 f) = True⌝) ∗ (∃ f, pt c arg9 f ∗ ⌜C9T (k0_pay247 v169) (rd arg18 A) (rd arg19 B) k.val (rd arg9 f) = True⌝)) ⊢ wp frame (wpE (defs₀ (F := Ideal)) 𝒱 (c : Thread nD τ) bd) E
      (k0_t13_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v169 k ()) (fun _ => iprop(pt c arg18 A ∗ pt c arg19 B ∗ (∃ f, pt c arg8 f ∗ ⌜C8T (k0_pay247 v169) (rd arg18 A) (rd arg19 B) (k.val + 1) (rd arg8 f) = True⌝) ∗ (∃ f, pt c arg9 f ∗ ⌜C9T (k0_pay247 v169) (rd arg18 A) (rd arg19 B) (k.val + 1) (rd arg9 f) = True⌝))) := by
  have hk : k.val < 404 := Nat.lt_of_lt_of_le k.isLt k0_t13_abs.2.1
  unfold k0_t13_body
  iintro ⟨H18, H19, ⟨%X8, H8, %h8⟩, ⟨%X9, H9, %h9⟩⟩
  sl_exec
  sl_step
  isplitl [H18]
  · iexact H18
  isplitl [H19]
  · iexact H19
  have eA : ∀ (r : Fin 32) (l : Fin 128) (h : 32 * k.val + r.val < 12936) (hin),
      arg18.view.readAt (Elt Ideal) (Rect.unit (s := S12936x128) (k0_off51 k) S32x128.size hin).toLoadRect A (ix2 r l) = rd arg18 A (ix2 ⟨32 * k.val + r.val, h⟩ l) :=
    fun r l h hin => ldrows _ _ 32 _ _ (k0_off51_eq k) hin r l h
  have eB : ∀ (r : Fin 32) (l : Fin 128) (h : 32 * k.val + r.val < 12936) (hin),
      arg19.view.readAt (Elt Ideal) (Rect.unit (s := S12936x128) (k0_off51 k) S32x128.size hin).toLoadRect B (ix2 r l) = rd arg19 B (ix2 ⟨32 * k.val + r.val, h⟩ l) :=
    fun r l h hin => ldrows _ _ 32 _ _ (k0_off51_eq k) hin r l h
  isplitl [H8]
  · iexists _
    isplitl [H8]
    · iexact H8
    ipureintro
    refine eq_true (C8_store arg8.view X8 [] _ _ _ (32 * k.val) 32 (C8T_C8 h8) _ _ (k0_off52_eq k) (k0_off53_eq k) _ _ _ _ ?_ ?_)
    · intro r l h
      refine (pay251_apply _ _ _ r l).trans ?_
      simp only [eA _ _ h, eB _ _ h]
      rfl
    · intro r l h
      refine (pay252_apply _ _ _ r l).trans ?_
      simp only [eA _ _ h, eB _ _ h]
      rfl
  · iexists _
    isplitl [H9]
    · iexact H9
    ipureintro
    refine eq_true (C9_store arg9.view X9 [] _ _ _ (32 * k.val) 32 (C9T_C9 h9) _ (k0_off54_eq k) _ _ ?_)
    intro r h
    refine (pay250_apply _ _ _ r).trans ?_
    simp only [eA _ _ h, eB _ _ h]
    rfl

/-- The invariant of the loop over the second-level rows. -/
@[sl_loop, instance_reducible] def inv_t13 (k0_h2 : k0_cond2 i = 1#1) (v169 : FVec Ideal S8x128 .f32) (A : BufTy.Contents (Elt Ideal) arg18.view.ty) (B : BufTy.Contents (Elt Ideal) arg19.view.ty) :
    LoopInvTy_k0_t13 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v169 where
  inv := fun k _ => iprop(pt c arg18 A ∗ pt c arg19 B ∗ (∃ f, pt c arg8 f ∗ ⌜C8T (k0_pay247 v169) (rd arg18 A) (rd arg19 B) k (rd arg8 f) = True⌝) ∗ (∃ f, pt c arg9 f ∗ ⌜C9T (k0_pay247 v169) (rd arg18 A) (rd arg19 B) k (rd arg9 f) = True⌝))
  step := fun k _ => step_t13 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 v169 A B k

end Run
end Cert.Proof.Val
-- ==== Proof.ValueBody.lean ====
/-
  What one grid point leaves in its windows and in the kept tables.
-/
module

public import proofs.«01_k».proof.Proof.ValueT3
public import proofs.«01_k».proof.Proof.ValueSec

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The absmax rows of both lane halves. -/
def A7 (X Y : S1x6272x128.Idx → EReal) (R : S1x98x256.Idx → EReal) : Prop :=
  ∀ (q : Fin 98) (l : Fin 128), R (ix3 0 q ⟨l.val, by omega⟩) = amax X q.val l ∧ R (ix3 0 q ⟨128 + l.val, by omega⟩) = amax Y q.val l

/-- The offset: the mean over both tables. -/
def offv (A B : S12936x128.Idx → EReal) : EReal := k0_pay247 (accf A B 49)

/-- The first half's maxima, as they are stored. -/
theorem pay4_apply (v : Vec Ideal S98x128 .f32) (q : Fin 98) (l : Fin 128) : k0_pay4 (F := Ideal) v (ix3 0 q l) = v (ix2 q l) := by
  pointwise [k0_pay4]

/-- The second half's maxima, as they are stored. -/
theorem pay5_apply (v : Vec Ideal S98x128 .f32) (q : Fin 98) (l : Fin 128) : k0_pay5 (F := Ideal) v (ix3 0 q l) = v (ix2 q l) := by
  pointwise [k0_pay5]

/-- Storing the maxima of both halves gives the block of maxima. -/
theorem A7_store (v : View sig .tc .vmem S1x98x256 .f32) (f : v.ty.Contents (Elt Ideal)) (L) (X Y : S1x6272x128.Idx → EReal)
    (off off' : Fin 3 → ℕ) (hoff : off = ![0, 0, 0]) (hoff' : off' = ![0, 0, 128]) (hin hin') (w w' : S1x98x128.Idx → EReal)
    (hw : ∀ (q : Fin 98) (l : Fin 128), w (ix3 0 q l) = amax X q.val l) (hw' : ∀ (q : Fin 98) (l : Fin 128), w' (ix3 0 q l) = amax Y q.val l) :
    A7 X Y (v.read (Elt Ideal) (v.writes (Elt Ideal) f
      (⟨Rect.unit (s := S1x98x256) off' S1x98x128.size hin', w'⟩ :: ⟨Rect.unit (s := S1x98x256) off S1x98x128.size hin, w⟩ :: L))) := by
  subst hoff hoff'
  intro q l
  constructor
  · refine ((rd_miss v f _ _ _ _ 2 ?_).trans (rd_hit v f _ _ _ _ (ix3 (n0 := 1) (n1 := 98) (n2 := 128) 0 q l) ?_)).trans (hw q l)
    · intro j _
      show l.val ≠ 128 + 1 * j
      omega
    · intro a
      fin_cases a
      · rfl
      · show q.val = 0 + 1 * q.val; omega
      · show l.val = 0 + 1 * l.val; omega
  · refine (rd_hit v f _ _ _ _ (ix3 (n0 := 1) (n1 := 98) (n2 := 128) 0 q l) ?_).trans (hw' q l)
    intro a
    fin_cases a
    · rfl
    · show q.val = 0 + 1 * q.val; omega
    · show 128 + l.val = 128 + 1 * l.val; omega

/-- The absmax rows as loaded whole from the scratch table. -/
theorem SF_load (v : View sig .tc .vmem S98x128 .f32) (f : v.ty.Contents (Elt Ideal)) (X : S1x6272x128.Idx → EReal) (n : ℕ) (hn : 98 ≤ n)
    (h : SF X n (v.read (Elt Ideal) f)) (off : Fin 2 → ℕ) (hoff : off = ![0, 0]) (hin) (q : Fin 98) (l : Fin 128) :
    v.readAt (Elt Ideal) (Rect.unit (s := S98x128) off S98x128.size hin).toLoadRect f (ix2 q l) = amax X q.val l := by
  subst hoff
  refine (congrArg (v.read (Elt Ideal) f) (funext fun a => Fin.ext ?_)).trans (h q (by omega) l)
  fin_cases a
  · show 0 + 1 * q.val = q.val; omega
  · show 0 + 1 * l.val = l.val; omega

/-- After all 98 rows of a point, the next point begins with none of its own. -/
theorem HF_next {HS : ℕ → Fin 128 → EReal} {t n : ℕ} {R : S12936x128.Idx → EReal} (hn : 98 ≤ n) (h : HF HS t n R) : HF HS (t + 1) 0 R := by
  intro r hr l
  have := r.isLt
  refine h r ?_ l
  omega

/-- The main loop, over pairs of groups, makes seven passes. -/
theorem trips3 : Scf.trips k0_t3_loop.lb k0_t3_loop.ub k0_t3_loop.st = 7 := by decide

/-- Seven passes cover the 98 blocks. -/
theorem le3 : 98 ≤ 14 * Scf.trips k0_t3_loop.lb k0_t3_loop.ub k0_t3_loop.st + 7 := by rw [trips3]; omega
/-- After the seven trips every packed row is in place. -/
theorem P6_all {X0 X1 : S1x6272x128.Idx → EReal} {R : S1x3136x256.Idx → BitVec 8}
    (h : P6 X0 X1 (448 * Scf.trips k0_t3_loop.lb k0_t3_loop.ub k0_t3_loop.st) R) : P6 X0 X1 3136 R := by
  rw [trips3] at h
  exact h

/-- The loop of the sum makes 49 passes. -/
theorem trips12 : Scf.trips k0_t12_loop.lb k0_t12_loop.ub k0_t12_loop.st = 49 := by decide

/-- The loop of the second-level quantisation makes 404 passes. -/
theorem trips13 : Scf.trips k0_t13_loop.lb k0_t13_loop.ub k0_t13_loop.st = 404 := by decide

section Run
variable (𝒱 : Variants) (c : Dev nD) (bd : Option 𝒱.V) (E : Set ℕ) (i : grid0.Coords) (arg2 : Memref sig .tc .vmem S1x6272x128 .bf16) (harg2 : arg2.IsWhole) (arg3 : Memref sig .tc .vmem S1x6272x128 .bf16) (harg3 : arg3.IsWhole) (arg4 : Memref sig .tc .vmem S3x8x128 .i32) (harg4 : arg4.IsWhole) (arg5 : Memref sig .tc .vmem S64x256 .bf16) (harg5 : arg5.IsWhole) (arg6 : Memref sig .tc .vmem S1x3136x256 .i8) (harg6 : arg6.IsWhole) (arg7 : Memref sig .tc .vmem S1x98x256 .f32) (harg7 : arg7.IsWhole) (arg8 : Memref sig .tc .vmem S12936x256 .i8) (harg8 : arg8.IsWhole) (arg9 : Memref sig .tc .vmem S12936x1 .f32) (harg9 : arg9.IsWhole) (arg10 : Memref sig .tc .smem S1x1 .f32) (harg10 : arg10.IsWhole) (arg11 : Memref sig .tc .vmem S2x2x72x2x128 .bf16) (harg11 : arg11.IsWhole) (arg12 : Memref sig .tc .vmem S2x2x8x128 .f32) (harg12 : arg12.IsWhole) (arg13 : Memref sig .tc .vmem S2x2x8x2x128 .bf16) (harg13 : arg13.IsWhole) (arg14 : Memref sig .tc .vmem S2x224x2x128 .bf16) (harg14 : arg14.IsWhole) (arg15 : Memref sig .tc .vmem S2x224x2x128 .bf16) (harg15 : arg15.IsWhole) (arg16 : Memref sig .tc .vmem S98x128 .f32) (harg16 : arg16.IsWhole) (arg17 : Memref sig .tc .vmem S98x128 .f32) (harg17 : arg17.IsWhole) (arg18 : Memref sig .tc .vmem S12936x128 .f32) (harg18 : arg18.IsWhole) (arg19 : Memref sig .tc .vmem S12936x128 .f32) (harg19 : arg19.IsWhole)

set_option maxHeartbeats 1600000 in
set_option sl_exec.squeezeSlice true in
/-- One grid point. -/
theorem body_val (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (HS0 HS1 : ℕ → Fin 128 → EReal) :
    iprop(⌜HSF HS0 (rd arg2 X2) (i 0).val (i 1).val ∧ HSF HS1 (rd arg3 X3) (i 0).val (i 1).val⌝ ∗ ⌜HF HS0 (11 * (i 0).val + (i 1).val) 0 (rd arg18 X18) ∧ HF HS1 (11 * (i 0).val + (i 1).val) 0 (rd arg19 X19)⌝ ∗ ⌜TF (rd arg4 X4) ∧ PF (rd arg5 X5)⌝ ∗ pt c arg2 X2 ∗ pt c arg3 X3 ∗ pt c arg4 X4 ∗ pt c arg5 X5 ∗ pt c arg6 X6 ∗ pt c arg7 X7 ∗ pt c arg8 X8 ∗ pt c arg9 X9 ∗ pt c arg10 X10 ∗ pt c arg11 X11 ∗ pt c arg12 X12 ∗ pt c arg13 X13 ∗ pt c arg14 X14 ∗ pt c arg15 X15 ∗ pt c arg16 X16 ∗ pt c arg17 X17 ∗ pt c arg18 X18 ∗ pt c arg19 X19) ⊢ wp frame (wpE (defs₀ (F := Ideal)) 𝒱 (c : Thread nD τ) bd) E
      (cc0_nf4 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) (fun _ => iprop(pt c arg2 X2 ∗ pt c arg3 X3 ∗ pt c arg4 X4 ∗ pt c arg5 X5 ∗ (∃ f, pt c arg6 f ∗ ⌜P6 (rd arg2 X2) (rd arg3 X3) 3136 (rd arg6 f)⌝) ∗ (∃ f, pt c arg7 f ∗ ⌜A7 (rd arg2 X2) (rd arg3 X3) (rd arg7 f)⌝) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ A, pt c arg18 A ∗ ∃ B, pt c arg19 B ∗ ⌜HF HS0 (11 * (i 0).val + (i 1).val + 1) 0 (rd arg18 A) ∧ HF HS1 (11 * (i 0).val + (i 1).val + 1) 0 (rd arg19 B)⌝ ∗
      (∃ f, pt c arg8 f ∗ ⌜if k0_cond2 i = 1#1 then C8 (offv (rd arg18 A) (rd arg19 B)) (rd arg18 A) (rd arg19 B) 12936 (rd arg8 f) else f = X8⌝) ∗
      (∃ f, pt c arg9 f ∗ ⌜if k0_cond2 i = 1#1 then C9 (offv (rd arg18 A) (rd arg19 B)) (rd arg18 A) (rd arg19 B) 12936 (rd arg9 f) else f = X9⌝) ∗
      (∃ f, pt c arg10 f ∗ ⌜if k0_cond2 i = 1#1 then rd arg10 f (ix2 0 0) = offv (rd arg18 A) (rd arg19 B) else f = X10⌝)))) := by
  rw [cc0_nf4_eq_skeleton]
  unfold cc0_nf4_skel
  iintro ⟨%hHS, %hHF, %hTP, H2, H3, H4, H5, H6, H7, H8, H9, H10, H11, H12, H13, H14, H15, H16, H17, H18, H19⟩
  sl_exec
  ihave H16 : iprop(∃ f, pt c arg16 f ∗ ⌜SF (rd arg2 X2) (14 * 0 + 7) (rd arg16 f)⌝) $$ [H16]
  · iexists _
    isplitl [H16]
    · iexact H16
    ipureintro
    exact SF_store arg16.view X16 [] (rd arg2 X2) 0 (14 * 0 + 7) 0 _ _ rfl rfl _ _ (fun b l => val269 arg11.view _ 0 0 _ _ ‹_› (by decide) b l) (fun q hq => absurd hq (by omega)) (fun q _ hq => by omega)
  ihave H17 : iprop(∃ f, pt c arg17 f ∗ ⌜SF (rd arg3 X3) (14 * 0 + 7) (rd arg17 f)⌝) $$ [H17]
  · iexists _
    isplitl [H17]
    · iexact H17
    ipureintro
    exact SF_store arg17.view X17 [] (rd arg3 X3) 0 (14 * 0 + 7) 0 _ _ rfl rfl _ _ (fun b l => val269 arg11.view _ 0 1 _ _ ‹_› (by decide) b l) (fun q hq => absurd hq (by omega)) (fun q _ hq => by omega)
  ihave H18 : HFpt c arg18 HS0 (11 * (i 0).val + (i 1).val) (14 * 0 + 7) $$ [H18]
  · unfold HFpt
    iexists _
    isplitl [H18]
    · iexact H18
    ipureintro
    exact HF_store arg18.view X18 [] HS0 (rd arg2 X2) _ _ 0 (14 * 0 + 7) 0 (i 0).isLt (i 1).isLt (by omega) hHS.1 _ _ (k0_off3_eq i) (by omega) _ _ _ (fun b l => val271 arg11.view _ 0 0 _ _ ‹_› (by decide) b l) hHF.1 (fun q _ hq => by omega)
  ihave H19 : HFpt c arg19 HS1 (11 * (i 0).val + (i 1).val) (14 * 0 + 7) $$ [H19]
  · unfold HFpt
    iexists _
    isplitl [H19]
    · iexact H19
    ipureintro
    exact HF_store arg19.view X19 [] HS1 (rd arg3 X3) _ _ 0 (14 * 0 + 7) 0 (i 0).isLt (i 1).isLt (by omega) hHS.2 _ _ (k0_off3_eq i) (by omega) _ _ _ (fun b l => val271 arg11.view _ 0 1 _ _ ‹_› (by decide) b l) hHF.2 (fun q _ hq => by omega)
  ihave H12 : iprop(∃ f, pt c arg12 f ∗ ⌜AF 0 0 (rd arg2 X2) (7 * min (2 * 0) 13) (rd arg12 f) ∧ AF 0 1 (rd arg3 X3) (7 * min (2 * 0) 13) (rd arg12 f)⌝) $$ [H12]
  · iexists _
    isplitl [H12]
    · iexact H12
    ipureintro
    exact ⟨AF_miss arg12.view X12 _ 0 0 0 1 _ _ _ _ (Or.inr (by decide)) (AF_hit arg12.view X12 _ 0 0 _ _ _ _ (fun b hb l => val267 arg11.view _ 0 0 _ _ ‹_› (by decide) b hb l)),
      AF_hit arg12.view X12 _ 0 1 _ _ _ _ (fun b hb l => val267 arg11.view _ 0 1 _ _ ‹_› (by decide) b hb l)⟩
  ihave H13 : iprop(∃ f, pt c arg13 f ∗ ⌜CF 0 0 (rd arg2 X2) (7 * min (2 * 0) 13) (rd arg13 f) ∧ CF 0 1 (rd arg3 X3) (7 * min (2 * 0) 13) (rd arg13 f)⌝) $$ [H13]
  · iexists _
    isplitl [H13]
    · iexact H13
    ipureintro
    exact ⟨CF_miss arg13.view X13 _ 0 0 0 1 _ _ _ _ (Or.inr (by decide)) (CF_hit arg13.view X13 _ 0 0 _ _ _ _ (fun b hb p l => val268 arg11.view _ 0 0 _ _ ‹_› (by decide) b hb p l)),
      CF_hit arg13.view X13 _ 0 1 _ _ _ _ (fun b hb p l => val268 arg11.view _ 0 1 _ _ ‹_› (by decide) b hb p l)⟩
  have h6 : P6 (rd arg2 X2) (rd arg3 X3) (448 * 0) (rd arg6 X6) := fun r hr => absurd hr (by omega)
  icases H12 with ⟨%f12, H12, %h12⟩
  icases H13 with ⟨%f13, H13, %h13⟩
  icases H16 with ⟨%f16, H16, %h16⟩
  icases H17 with ⟨%f17, H17, %h17⟩
  sl_exec
  unfold HFpt
  icases H18 with ⟨%f18, H18, %h18⟩
  icases H19 with ⟨%f19, H19, %h19⟩
  by_cases k0_h2 : k0_cond2 i = 1#1
  · sl_exec
    sl_step
    isplitl [H2]
    · iexact H2
    isplitl [H3]
    · iexact H3
    isplitl [H4]
    · iexact H4
    isplitl [H5]
    · iexact H5
    isplitl [H6]
    · iexists _
      isplitl [H6]
      · iexact H6
      ipureintro
      exact P6_all ‹_›
    isplitl [H7]
    · iexists _
      isplitl [H7]
      · iexact H7
      ipureintro
      refine A7_store arg7.view _ [] _ _ _ _ rfl rfl _ _ _ _ (fun q l => (pay4_apply _ q l).trans ?_) (fun q l => (pay5_apply _ q l).trans ?_)
      · exact SF_load arg16.view _ _ _ le3 ‹_› _ rfl _ q l
      · exact SF_load arg17.view _ _ _ le3 ‹_› _ rfl _ q l
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists f18
    isplitl [H18]
    · iexact H18
    iexists f19
    isplitl [H19]
    · iexact H19
    isplitr
    · ipureintro
      exact ⟨HF_next le3 h18, HF_next le3 h19⟩
    have e8 := C8T_C8 ‹C8T _ _ _ _ _ = True›
    have e9 := C9T_C9 ‹C9T _ _ _ _ _ = True›
    rw [trips13, trips12] at e8 e9
    have eA : ∀ (r : Fin 8) (l : Fin 128) (h : 12928 + r.val < 12936) (hin),
        arg18.view.readAt (Elt Ideal) (Rect.unit (s := S12936x128) ![12928, 0] S8x128.size hin).toLoadRect f18 (ix2 r l) = rd arg18 f18 (ix2 ⟨12928 + r.val, h⟩ l) :=
      fun r l h hin => ldrows _ _ 8 _ _ rfl hin r l h
    have eB : ∀ (r : Fin 8) (l : Fin 128) (h : 12928 + r.val < 12936) (hin),
        arg19.view.readAt (Elt Ideal) (Rect.unit (s := S12936x128) ![12928, 0] S8x128.size hin).toLoadRect f19 (ix2 r l) = rd arg19 f19 (ix2 ⟨12928 + r.val, h⟩ l) :=
      fun r l h hin => ldrows _ _ 8 _ _ rfl hin r l h
    isplitl [H8]
    · iexists _
      isplitl [H8]
      · iexact H8
      ipureintro
      rw [if_pos k0_h2]
      refine C8_store arg8.view _ [] _ _ _ 12928 8 e8 _ _ rfl rfl _ _ _ _ ?_ ?_
      · intro r l h
        refine (pay256_apply _ _ _ r l).trans ?_
        simp only [eA _ _ h, eB _ _ h]
        rfl
      · intro r l h
        refine (pay6_apply _ _ _ r l).trans ?_
        simp only [eA _ _ h, eB _ _ h]
        rfl
    isplitl [H9]
    · iexists _
      isplitl [H9]
      · iexact H9
      ipureintro
      rw [if_pos k0_h2]
      refine C9_store arg9.view _ [] _ _ _ 12928 8 e9 _ rfl _ _ ?_
      intro r h
      refine (pay255_apply _ _ _ r).trans ?_
      simp only [eA _ _ h, eB _ _ h]
      rfl
    · iexists _
      isplitl [H10]
      · iexact H10
      ipureintro
      rw [if_pos k0_h2]
      refine rd_hit arg10.view _ _ _ _ _ (ix2 (n0 := 1) (n1 := 1) 0 0) ?_
      intro a
      fin_cases a <;> rfl
  · sl_exec
    sl_step
    isplitl [H2]
    · iexact H2
    isplitl [H3]
    · iexact H3
    isplitl [H4]
    · iexact H4
    isplitl [H5]
    · iexact H5
    isplitl [H6]
    · iexists _
      isplitl [H6]
      · iexact H6
      ipureintro
      exact P6_all ‹_›
    isplitl [H7]
    · iexists _
      isplitl [H7]
      · iexact H7
      ipureintro
      refine A7_store arg7.view _ [] _ _ _ _ rfl rfl _ _ _ _ (fun q l => (pay4_apply _ q l).trans ?_) (fun q l => (pay5_apply _ q l).trans ?_)
      · exact SF_load arg16.view _ _ _ le3 ‹_› _ rfl _ q l
      · exact SF_load arg17.view _ _ _ le3 ‹_› _ rfl _ q l
    isplitl [H11]
    · iexists _; iexact H11
    isplitl [H12]
    · iexists _; iexact H12
    isplitl [H13]
    · iexists _; iexact H13
    isplitl [H14]
    · iexists _; iexact H14
    isplitl [H15]
    · iexists _; iexact H15
    isplitl [H16]
    · iexists _; iexact H16
    isplitl [H17]
    · iexists _; iexact H17
    iexists f18
    isplitl [H18]
    · iexact H18
    iexists f19
    isplitl [H19]
    · iexact H19
    isplitr
    · ipureintro
      exact ⟨HF_next le3 h18, HF_next le3 h19⟩
    isplitl [H8]
    · iexists _
      isplitl [H8]
      · iexact H8
      ipureintro
      rw [if_neg k0_h2]
    isplitl [H9]
    · iexists _
      isplitl [H9]
      · iexact H9
      ipureintro
      rw [if_neg k0_h2]
    · iexists _
      isplitl [H10]
      · iexact H10
      ipureintro
      rw [if_neg k0_h2]

end Run
end Cert.Proof.Val
-- ==== Proof.ValueHost.lean ====
/-
  The two constant tables the kernel is launched with.
-/
module

public import proofs.«01_k».proof.Proof.ValueMerge
public import Idealize.ShloMosaic.Lib.Claim
public import proofs.«01_k».proof.Proof.Gen.KernelIdeal.Frame

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (m : (ℓ : Loc nD τ sig) → Buf (Elt Ideal) ℓ)

/-- The table's literal holds the even thresholds, then the odd ones. -/
theorem lit1_row : ∀ p : Fin 2, ∀ s : Fin 8, lit1 ⟨8 * p.val + s.val, by have := p.isLt; have := s.isLt; omega⟩ = slotW ⟨2 * s.val + p.val, by have := p.isLt; have := s.isLt; omega⟩ := by
  decide

/-- The staged table is the literal, spread over the lanes. -/
theorem V_v10 (c : Dev nD) : V m c main_v10 = (broadcastInDim S3x8x128 ![0, 1, 2] bcast_S3x8x1_S3x8x128_0_1_2 (fun i => lit1 (S3x8x1.rowMajor i)) : S3x8x128.Idx → BitVec 32) := by
  show StableHlo.after [hostOps0, hostOps0_1, hostOps0_2].flatten (fun b => m (c, b)) (Proc.tc.devRef main_v10) = _
  simp only [hostOps0, hostOps0_1, hostOps0_2, List.flatten_cons, List.flatten_nil, List.append_nil, List.cons_append, List.nil_append]
  after_results_simp
  rfl

/-- The staged weight matrix, as the host operations compute it. -/
theorem V_v11 (c : Dev nD) : V m c main_v11 = (truncf (F := Ideal) .bf16 (select (cmpi .eq (Host.shrui (iotaInDim S64x256 32 1) (broadcastInDim S64x256 ![] bcast_S_S64x256 (constantI S_ 32 2#32))) (iotaInDim S64x256 32 0))
    (broadcastInDim S64x256 ![1] bcast_S256_S64x256_1 (shapeCast S256 (broadcastInDim S64x4 ![0, 1] bcast_S1x4_S64x4_0_1 (shapeCast S1x4 (fun i => Ideal.ofBits .f32 (lit0 (S4.rowMajor i)) : S4.Idx → EReal) shapeCasts_S4_S1x4)) shapeCasts_S64x4_S256))
    (broadcastInDim S64x256 ![] bcast_S_S64x256 (id (constant (F := Ideal) S_ .f32 0x00000000#32)))) bitsLt_bf16_f32 : S64x256.Idx → EReal) := by
  show StableHlo.after [hostOps0, hostOps0_1, hostOps0_2].flatten (fun b => m (c, b)) (Proc.tc.devRef main_v11) = _
  simp only [hostOps0, hostOps0_1, hostOps0_2, List.flatten_cons, List.flatten_nil, List.append_nil, List.cons_append, List.nil_append]
  after_results_simp
  rfl

/-- Every point stages the whole table. -/
theorem win2_index (t : Fin grid0.N) : ∀ a, (cfg0.win 2).index t a = 0 := by
  have : ∀ t : Fin grid0.N, ∀ a : Fin 3, (cfg0.win 2).index t a = 0 := by decide +kernel
  exact this t

/-- Every point stages the whole weight matrix. -/
theorem win3_index (t : Fin grid0.N) : ∀ a, (cfg0.win 3).index t a = 0 := by
  have : ∀ t : Fin grid0.N, ∀ a : Fin 2, (cfg0.win 3).index t a = 0 := by decide +kernel
  exact this t

/-- The staged table at an index. -/
theorem iblk2 (c : Dev nD) (t : Fin grid0.N) (p : Fin 3) (s : Fin 8) (l : Fin 128) : iblk m c 2 t (ix3 p s l) = V m c main_v10 (ix3 p s l) := by
  show V m c main_v10 (((cfg0.win 2).blk t).view.emb (ix3 p s l)) = _
  refine congrArg (V m c main_v10) (funext fun a => Fin.ext ?_)
  refine (Pipeline.Window.rect_emb_val (cfg0.win 2) t (ix3 p s l) a).trans ?_
  rw [win2_index t a]
  match a with
  | 0 => show 0 * 3 + p.val = p.val; omega
  | 1 => show 0 * 8 + s.val = s.val; omega
  | 2 => show 0 * 128 + l.val = l.val; omega

/-- The staged weight matrix at an index. -/
theorem iblk3 (c : Dev nD) (t : Fin grid0.N) (r : Fin 64) (l : Fin 256) : iblk m c 3 t (ix2 r l) = V m c main_v11 (ix2 r l) := by
  show V m c main_v11 (((cfg0.win 3).blk t).view.emb (ix2 r l)) = _
  refine congrArg (V m c main_v11) (funext fun a => Fin.ext ?_)
  refine (Pipeline.Window.rect_emb_val (cfg0.win 3) t (ix2 r l) a).trans ?_
  rw [win3_index t a]
  match a with
  | 0 => show 0 * 64 + r.val = r.val; omega
  | 1 => show 0 * 256 + l.val = l.val; omega

/-- The staged table holds the thresholds. -/
theorem TF_of (c : Dev nD) (t : Fin grid0.N) : TF (iblk m c 2 t) := by
  have key : ∀ (p : Fin 2) (s : Fin 8) (l : Fin 128), iblk m c 2 t (ix3 (n0 := 3) ⟨p.val, by omega⟩ s l) = slotW ⟨2 * s.val + p.val, by omega⟩ := fun p s l => by
    rw [iblk2, V_v10]
    refine Eq.trans ?_ (lit1_row p s)
    show lit1 (S3x8x1.rowMajor _) = _
    refine congrArg lit1 (Fin.ext ?_)
    refine (Shape.rowMajor_val_three _).trans ?_
    show (p.val * 8 + s.val) * 1 + 0 = 8 * p.val + s.val
    omega
  exact fun s l => ⟨key 0 s l, key 1 s l⟩

/-- The comparison of a column's quarter with the row. -/
theorem cmp_eq : ∀ (r : Fin 64) (l : Fin 256), IntOp.cmpi .eq (IntOp.shrui .host (BitVec.ofNat 32 l.val) 2#32) (BitVec.ofNat 32 r.val) = if l.val / 4 = r.val then 1#1 else 0#1 := by
  decide +kernel

/-- The four weights as numbers. -/
theorem lit0_eq (k : Fin 4) : Ideal.ofBits .f32 (lit0 k) = ((pw k : ℝ) : EReal) := by
  match k with
  | 0 => show Ideal.ofBits .f32 0x41800000#32 = (((16 : ℕ) : ℝ) : EReal); simp [Ideal.ofBits, Ideal.ieee] <;> rw [← EReal.coe_mul] <;> norm_num
  | 1 => show Ideal.ofBits .f32 0x3F800000#32 = (((1 : ℕ) : ℝ) : EReal); simp [Ideal.ofBits, Ideal.ieee] <;> rw [← EReal.coe_mul] <;> norm_num
  | 2 => show Ideal.ofBits .f32 0x45800000#32 = (((4096 : ℕ) : ℝ) : EReal); simp [Ideal.ofBits, Ideal.ieee] <;> rw [← EReal.coe_mul] <;> norm_num
  | 3 => show Ideal.ofBits .f32 0x43800000#32 = (((256 : ℕ) : ℝ) : EReal); simp [Ideal.ofBits, Ideal.ieee] <;> rw [← EReal.coe_mul] <;> norm_num

/-- The staged matrix holds the weights. -/
theorem PF_of (c : Dev nD) (t : Fin grid0.N) : PF (iblk m c 3 t) := by
  intro r l
  rw [iblk3, V_v11]
  pointwise
  rw [cmp_eq r l]
  unfold pm
  by_cases h : l.val / 4 = r.val
  · rw [if_pos h, if_pos h]
    show Ideal.ofBits .f32 (lit0 (S4.rowMajor (ix1 (⟨l.val % 4, _⟩ : Fin 4)))) = _
    have e : S4.rowMajor (ix1 (⟨l.val % 4, Nat.mod_lt _ (by decide)⟩ : Fin 4)) = (⟨l.val % 4, Nat.mod_lt _ (by decide)⟩ : Fin 4) := Fin.ext (Shape.rowMajor_val_one _)
    rw [e]
    exact lit0_eq _
  · rw [if_neg h, if_neg h]
    show Ideal.ofBits .f32 0x00000000#32 = _
    simp [Ideal.ofBits, Ideal.ieee]

end Cert.Proof.Val
-- ==== Proof.ValueLaunch.lean ====
/-
  The launch: what the arrays hold at the end.
-/
module

public import proofs.«01_k».proof.Proof.ValueBody
public import proofs.«01_k».proof.Proof.ValueHost
public import proofs.«01_k».proof.Proof.FrameKernelIdeal
public import Idealize.ShloMosaic.Lib.Pipeline.DatRel
public import Idealize.ShloMosaic.Lib.Pipeline.ArrRel
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Cert.Proof.KernelIdeal (held)
open Idealize.ShloMosaic.Pipeline (RDat Dat Cfg Window cellOf BodyObligationRel)

local notation "𝕄" => MT nD τ sig Unit (Elt Ideal) ℕ (UR sig nD τ) ℕ

variable (m : (ℓ : Loc nD τ sig) → Buf (Elt Ideal) ℓ) (ρ : Dev nD → PrngReg)

/-- The block that lane half `h` stages at point `p`. -/
def hblk (c : Dev nD) (h : Fin 2) (p : Fin 132) : S1x6272x128.Idx → EReal :=
  match h with
  | 0 => iblk m c 0 p
  | 1 => iblk m c 1 p

/-- The maximum of second-level row `r`, lane `l`, of lane half `h`. -/
def HS (c : Dev nD) (h : Fin 2) (r : ℕ) (l : Fin 128) : EReal :=
  amax (hblk m c h (Fin.ofNat 132 (owner r))) (r % 1078 / 11) l

/-- The table of all maxima of a lane half. -/
def TA (c : Dev nD) (h : Fin 2) : S12936x128.Idx → EReal := fun j => HS m c h (j 0).val (j 1)

/-- The two coordinates of a point. -/
theorem coords_div (t : Fin grid0.N) : (grid0.coords t 0).val = t.val / 11 ∧ (grid0.coords t 1).val = t.val % 11 :=
  (by decide +kernel : ∀ t : Fin grid0.N, (grid0.coords t 0).val = t.val / 11 ∧ (grid0.coords t 1).val = t.val % 11) t

/-- The number of a point, from its coordinates. -/
theorem coords_lin (t : Fin grid0.N) : 11 * (grid0.coords t 0).val + (grid0.coords t 1).val = t.val := by
  have := coords_div t
  omega

/-- The last point makes the second-level quantisation. -/
theorem cond2_last (t : Fin grid0.N) (h : t.val = 131) : k0_cond2 (grid0.coords t) = 1#1 :=
  (by decide +kernel : ∀ t : Fin grid0.N, t.val = 131 → k0_cond2 (grid0.coords t) = 1#1) t h

/-- The maxima of a point have their place in the table of all maxima. -/
theorem HSF_of (c : Dev nD) (h : Fin 2) (t : Fin grid0.N) : HSF (HS m c h) (hblk m c h t) (grid0.coords t 0).val (grid0.coords t 1).val := by
  intro q hq l
  have e := coords_lin t
  have hy : (grid0.coords t 1).val < 11 := (grid0.coords t 1).isLt
  have hx : (grid0.coords t 0).val < 12 := (grid0.coords t 0).isLt
  have ho : owner (1078 * (grid0.coords t 0).val + 11 * q + (grid0.coords t 1).val) = t.val := by
    rw [← e]; unfold owner; omega
  have hr : (1078 * (grid0.coords t 0).val + 11 * q + (grid0.coords t 1).val) % 1078 / 11 = q := by omega
  unfold HS
  rw [ho, hr]
  have : Fin.ofNat 132 t.val = t := Fin.ext (Nat.mod_eq_of_lt t.isLt)
  rw [this]

/-- A scratch array that every point has filled is the table of all maxima. -/
theorem HF_all (c : Dev nD) (h : Fin 2) (R : S12936x128.Idx → EReal) (hR : HF (HS m c h) 132 0 R) : R = TA m c h := by
  funext j
  rw [eq_ix2 j]
  refine hR (j 0) (.inl ?_) (j 1)
  have h0 : (j 0).val < 12936 := (j 0).isLt
  unfold owner
  omega

/-- What the body leaves in each window. -/
def Rl (c : Dev nD) (w : Fin cfg0.W) (t : Fin cfg0.N) : ((cfg0.win w).block.Idx → Elt Ideal (cfg0.win w).elt) → Prop :=
  match w with
  | 4 => fun X => P6 (hblk m c 0 t) (hblk m c 1 t) 3136 X
  | 5 => fun X => A7 (hblk m c 0 t) (hblk m c 1 t) X
  | 6 => fun X => t.val = 131 → C8 (offv (TA m c 0) (TA m c 1)) (TA m c 0) (TA m c 1) 12936 X
  | 7 => fun X => t.val = 131 → C9 (offv (TA m c 0) (TA m c 1)) (TA m c 0) (TA m c 1) 12936 X
  | 8 => fun X => t.val = 131 → X (ix2 0 0) = offv (TA m c 0) (TA m c 1)
  | _ => fun _ => True

/-- The windows that are held to what `Rl` says. -/
def fgt (w : Fin cfg0.W) : Bool := decide (4 ≤ w.val)

/-- The body's invariant: the two tables so far, and the scratch buffers at any contents. -/
def Phi (c : Dev nD) (t : ℕ) : sProp 𝕄 :=
  iprop((held Ideal c (Memref.whole cc0_scratch0) ∗ held Ideal c (Memref.whole cc0_scratch1) ∗ held Ideal c (Memref.whole cc0_scratch2) ∗ held Ideal c (Memref.whole cc0_scratch3) ∗ held Ideal c (Memref.whole cc0_scratch4) ∗ held Ideal c (Memref.whole cc0_scratch5) ∗ held Ideal c (Memref.whole cc0_scratch6)
    ∗ HFpt c (Memref.whole cc0_scratch7) (HS m c 0) t 0 ∗ HFpt c (Memref.whole cc0_scratch8) (HS m c 1) t 0) ∗ ∃ r, prngReg c r)

/-- The proof data: the inputs stay in place. -/
def vdat (c : Dev nD) : Dat τ (Elt Ideal) Unit ℕ (UR sig nD τ) ℕ cfg0 c where
  A w := V m c (Pipeline.arrRef spec0 w)
  after w t := if h : w.val < 4 then
      match w, h with
      | 0, _ => iblk m c 0 t
      | 1, _ => iblk m c 1 t
      | 2, _ => iblk m c 2 t
      | 3, _ => iblk m c 3 t
    else Classical.arbitrary _
  Φ t := Phi m c t.val
  q w := Pipeline.shareOf spec0 w
  owed _ := 0

/-- The body at a point, from the contents of its buffers. -/
theorem body_at (c : Dev nD) (t : Fin cfg0.N) (X2 : BufTy.Contents (Elt Ideal) (st0_0 t).view.ty) (X3 : BufTy.Contents (Elt Ideal) (st0_1 t).view.ty) (X4 : BufTy.Contents (Elt Ideal) (st0_2 t).view.ty) (X5 : BufTy.Contents (Elt Ideal) (st0_3 t).view.ty) (X6 : BufTy.Contents (Elt Ideal) (st0_4 t).view.ty) (X7 : BufTy.Contents (Elt Ideal) (st0_5 t).view.ty) (X8 : BufTy.Contents (Elt Ideal) (st0_6 t).view.ty) (X9 : BufTy.Contents (Elt Ideal) (st0_7 t).view.ty) (X10 : BufTy.Contents (Elt Ideal) (st0_8 t).view.ty) (X11 : BufTy.Contents (Elt Ideal) (Memref.whole cc0_scratch0).view.ty) (X12 : BufTy.Contents (Elt Ideal) (Memref.whole cc0_scratch1).view.ty) (X13 : BufTy.Contents (Elt Ideal) (Memref.whole cc0_scratch2).view.ty) (X14 : BufTy.Contents (Elt Ideal) (Memref.whole cc0_scratch3).view.ty) (X15 : BufTy.Contents (Elt Ideal) (Memref.whole cc0_scratch4).view.ty) (X16 : BufTy.Contents (Elt Ideal) (Memref.whole cc0_scratch5).view.ty) (X17 : BufTy.Contents (Elt Ideal) (Memref.whole cc0_scratch6).view.ty) (X18 : BufTy.Contents (Elt Ideal) (Memref.whole cc0_scratch7).view.ty) (X19 : BufTy.Contents (Elt Ideal) (Memref.whole cc0_scratch8).view.ty) :
    iprop(⌜HSF (HS m c 0) (rd (st0_0 t) X2) (grid0.coords t 0).val (grid0.coords t 1).val ∧ HSF (HS m c 1) (rd (st0_1 t) X3) (grid0.coords t 0).val (grid0.coords t 1).val⌝ ∗ ⌜HF (HS m c 0) (11 * (grid0.coords t 0).val + (grid0.coords t 1).val) 0 (rd (Memref.whole cc0_scratch7) X18) ∧ HF (HS m c 1) (11 * (grid0.coords t 0).val + (grid0.coords t 1).val) 0 (rd (Memref.whole cc0_scratch8) X19)⌝ ∗ ⌜TF (rd (st0_2 t) X4) ∧ PF (rd (st0_3 t) X5)⌝ ∗ pt c (st0_0 t) X2 ∗ pt c (st0_1 t) X3 ∗ pt c (st0_2 t) X4 ∗ pt c (st0_3 t) X5 ∗ pt c (st0_4 t) X6 ∗ pt c (st0_5 t) X7 ∗ pt c (st0_6 t) X8 ∗ pt c (st0_7 t) X9 ∗ pt c (st0_8 t) X10 ∗ pt c (Memref.whole cc0_scratch0) X11 ∗ pt c (Memref.whole cc0_scratch1) X12 ∗ pt c (Memref.whole cc0_scratch2) X13 ∗ pt c (Memref.whole cc0_scratch3) X14 ∗ pt c (Memref.whole cc0_scratch4) X15 ∗ pt c (Memref.whole cc0_scratch5) X16 ∗ pt c (Memref.whole cc0_scratch6) X17 ∗ pt c (Memref.whole cc0_scratch7) X18 ∗ pt c (Memref.whole cc0_scratch8) X19) ⊢ wp frame (wpE (defs₀ (F := Ideal)) Variants.none (c : Thread nD τ) none) Set.univ (bodyAt0 t)
        (fun _ => iprop(pt c (st0_0 t) X2 ∗ pt c (st0_1 t) X3 ∗ pt c (st0_2 t) X4 ∗ pt c (st0_3 t) X5 ∗ (∃ f, pt c (st0_4 t) f ∗ ⌜P6 (rd (st0_0 t) X2) (rd (st0_1 t) X3) 3136 (rd (st0_4 t) f)⌝) ∗ (∃ f, pt c (st0_5 t) f ∗ ⌜A7 (rd (st0_0 t) X2) (rd (st0_1 t) X3) (rd (st0_5 t) f)⌝) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ A, pt c (Memref.whole cc0_scratch7) A ∗ ∃ B, pt c (Memref.whole cc0_scratch8) B ∗ ⌜HF (HS m c 0) (11 * (grid0.coords t 0).val + (grid0.coords t 1).val + 1) 0 (rd (Memref.whole cc0_scratch7) A) ∧ HF (HS m c 1) (11 * (grid0.coords t 0).val + (grid0.coords t 1).val + 1) 0 (rd (Memref.whole cc0_scratch8) B)⌝ ∗
      (∃ f, pt c (st0_6 t) f ∗ ⌜if k0_cond2 (grid0.coords t) = 1#1 then C8 (offv (rd (Memref.whole cc0_scratch7) A) (rd (Memref.whole cc0_scratch8) B)) (rd (Memref.whole cc0_scratch7) A) (rd (Memref.whole cc0_scratch8) B) 12936 (rd (st0_6 t) f) else f = X8⌝) ∗
      (∃ f, pt c (st0_7 t) f ∗ ⌜if k0_cond2 (grid0.coords t) = 1#1 then C9 (offv (rd (Memref.whole cc0_scratch7) A) (rd (Memref.whole cc0_scratch8) B)) (rd (Memref.whole cc0_scratch7) A) (rd (Memref.whole cc0_scratch8) B) 12936 (rd (st0_7 t) f) else f = X9⌝) ∗
      (∃ f, pt c (st0_8 t) f ∗ ⌜if k0_cond2 (grid0.coords t) = 1#1 then rd (st0_8 t) f (ix2 0 0) = offv (rd (Memref.whole cc0_scratch7) A) (rd (Memref.whole cc0_scratch8) B) else f = X10⌝)))) :=
  body_val Variants.none c none Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) X2 X3 X4 X5 X6 X7 X8 X9 X10 X11 X12 X13 X14 X15 X16 X17 X18 X19 (HS m c 0) (HS m c 1)

/-- The same, beside what it does not touch. -/
theorem body_at_frame (c : Dev nD) (t : Fin cfg0.N) (X2 : BufTy.Contents (Elt Ideal) (st0_0 t).view.ty) (X3 : BufTy.Contents (Elt Ideal) (st0_1 t).view.ty) (X4 : BufTy.Contents (Elt Ideal) (st0_2 t).view.ty) (X5 : BufTy.Contents (Elt Ideal) (st0_3 t).view.ty) (X6 : BufTy.Contents (Elt Ideal) (st0_4 t).view.ty) (X7 : BufTy.Contents (Elt Ideal) (st0_5 t).view.ty) (X8 : BufTy.Contents (Elt Ideal) (st0_6 t).view.ty) (X9 : BufTy.Contents (Elt Ideal) (st0_7 t).view.ty) (X10 : BufTy.Contents (Elt Ideal) (st0_8 t).view.ty) (X11 : BufTy.Contents (Elt Ideal) (Memref.whole cc0_scratch0).view.ty) (X12 : BufTy.Contents (Elt Ideal) (Memref.whole cc0_scratch1).view.ty) (X13 : BufTy.Contents (Elt Ideal) (Memref.whole cc0_scratch2).view.ty) (X14 : BufTy.Contents (Elt Ideal) (Memref.whole cc0_scratch3).view.ty) (X15 : BufTy.Contents (Elt Ideal) (Memref.whole cc0_scratch4).view.ty) (X16 : BufTy.Contents (Elt Ideal) (Memref.whole cc0_scratch5).view.ty) (X17 : BufTy.Contents (Elt Ideal) (Memref.whole cc0_scratch6).view.ty) (X18 : BufTy.Contents (Elt Ideal) (Memref.whole cc0_scratch7).view.ty) (X19 : BufTy.Contents (Elt Ideal) (Memref.whole cc0_scratch8).view.ty) (R : sProp 𝕄) :
    iprop((⌜HSF (HS m c 0) (rd (st0_0 t) X2) (grid0.coords t 0).val (grid0.coords t 1).val ∧ HSF (HS m c 1) (rd (st0_1 t) X3) (grid0.coords t 0).val (grid0.coords t 1).val⌝ ∗ ⌜HF (HS m c 0) (11 * (grid0.coords t 0).val + (grid0.coords t 1).val) 0 (rd (Memref.whole cc0_scratch7) X18) ∧ HF (HS m c 1) (11 * (grid0.coords t 0).val + (grid0.coords t 1).val) 0 (rd (Memref.whole cc0_scratch8) X19)⌝ ∗ ⌜TF (rd (st0_2 t) X4) ∧ PF (rd (st0_3 t) X5)⌝ ∗ pt c (st0_0 t) X2 ∗ pt c (st0_1 t) X3 ∗ pt c (st0_2 t) X4 ∗ pt c (st0_3 t) X5 ∗ pt c (st0_4 t) X6 ∗ pt c (st0_5 t) X7 ∗ pt c (st0_6 t) X8 ∗ pt c (st0_7 t) X9 ∗ pt c (st0_8 t) X10 ∗ pt c (Memref.whole cc0_scratch0) X11 ∗ pt c (Memref.whole cc0_scratch1) X12 ∗ pt c (Memref.whole cc0_scratch2) X13 ∗ pt c (Memref.whole cc0_scratch3) X14 ∗ pt c (Memref.whole cc0_scratch4) X15 ∗ pt c (Memref.whole cc0_scratch5) X16 ∗ pt c (Memref.whole cc0_scratch6) X17 ∗ pt c (Memref.whole cc0_scratch7) X18 ∗ pt c (Memref.whole cc0_scratch8) X19) ∗ R) ⊢ wp frame (wpE (defs₀ (F := Ideal)) Variants.none (c : Thread nD τ) none) Set.univ (bodyAt0 t)
        (fun _ => iprop((pt c (st0_0 t) X2 ∗ pt c (st0_1 t) X3 ∗ pt c (st0_2 t) X4 ∗ pt c (st0_3 t) X5 ∗ (∃ f, pt c (st0_4 t) f ∗ ⌜P6 (rd (st0_0 t) X2) (rd (st0_1 t) X3) 3136 (rd (st0_4 t) f)⌝) ∗ (∃ f, pt c (st0_5 t) f ∗ ⌜A7 (rd (st0_0 t) X2) (rd (st0_1 t) X3) (rd (st0_5 t) f)⌝) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ A, pt c (Memref.whole cc0_scratch7) A ∗ ∃ B, pt c (Memref.whole cc0_scratch8) B ∗ ⌜HF (HS m c 0) (11 * (grid0.coords t 0).val + (grid0.coords t 1).val + 1) 0 (rd (Memref.whole cc0_scratch7) A) ∧ HF (HS m c 1) (11 * (grid0.coords t 0).val + (grid0.coords t 1).val + 1) 0 (rd (Memref.whole cc0_scratch8) B)⌝ ∗
      (∃ f, pt c (st0_6 t) f ∗ ⌜if k0_cond2 (grid0.coords t) = 1#1 then C8 (offv (rd (Memref.whole cc0_scratch7) A) (rd (Memref.whole cc0_scratch8) B)) (rd (Memref.whole cc0_scratch7) A) (rd (Memref.whole cc0_scratch8) B) 12936 (rd (st0_6 t) f) else f = X8⌝) ∗
      (∃ f, pt c (st0_7 t) f ∗ ⌜if k0_cond2 (grid0.coords t) = 1#1 then C9 (offv (rd (Memref.whole cc0_scratch7) A) (rd (Memref.whole cc0_scratch8) B)) (rd (Memref.whole cc0_scratch7) A) (rd (Memref.whole cc0_scratch8) B) 12936 (rd (st0_7 t) f) else f = X9⌝) ∗
      (∃ f, pt c (st0_8 t) f ∗ ⌜if k0_cond2 (grid0.coords t) = 1#1 then rd (st0_8 t) f (ix2 0 0) = offv (rd (Memref.whole cc0_scratch7) A) (rd (Memref.whole cc0_scratch8) B) else f = X10⌝))) ∗ R)) :=
  (sep_mono_l (body_at m c t X2 X3 X4 X5 X6 X7 X8 X9 X10 X11 X12 X13 X14 X15 X16 X17 X18 X19)).trans (wp_frame_r _ _ _)

set_option maxHeartbeats 2000000 in
/-- The body obligation. -/
theorem body_obl (c : Dev nD) : BodyObligationRel (vdat m c) (defs₀ (F := Ideal)) Variants.none () Set.univ fgt (Rl m c) := fun t => by
  rw [bigSep_W0, bigSep_W0, Cert.Proof.KernelIdeal.defs₀_row]
  show iprop(Phi m c t.val ∗ (vdat m c).owesAt () t.castSucc ∗ (∃ d, owns (c : Thread nD τ) (st0_0 t) fullShare ((vdat m c).before 0 t d)) ∗ (∃ d, owns (c : Thread nD τ) (st0_1 t) fullShare ((vdat m c).before 1 t d)) ∗ (∃ d, owns (c : Thread nD τ) (st0_2 t) fullShare ((vdat m c).before 2 t d)) ∗ (∃ d, owns (c : Thread nD τ) (st0_3 t) fullShare ((vdat m c).before 3 t d)) ∗ (∃ Y, ⌜((vdat m c).toRRel fgt (Rl m c)).Finds 4 t Y⌝ ∗ owns (c : Thread nD τ) (st0_4 t) fullShare Y) ∗ (∃ Y, ⌜((vdat m c).toRRel fgt (Rl m c)).Finds 5 t Y⌝ ∗ owns (c : Thread nD τ) (st0_5 t) fullShare Y) ∗ (∃ Y, ⌜((vdat m c).toRRel fgt (Rl m c)).Finds 6 t Y⌝ ∗ owns (c : Thread nD τ) (st0_6 t) fullShare Y) ∗ (∃ Y, ⌜((vdat m c).toRRel fgt (Rl m c)).Finds 7 t Y⌝ ∗ owns (c : Thread nD τ) (st0_7 t) fullShare Y) ∗ (∃ Y, ⌜((vdat m c).toRRel fgt (Rl m c)).Finds 8 t Y⌝ ∗ owns (c : Thread nD τ) (st0_8 t) fullShare Y))
    ⊢ wp frame _ Set.univ (bodyAt0 t) (fun _ => iprop(Phi m c (t.val + 1) ∗ (vdat m c).owesAt () t.castSucc ∗ owns (c : Thread nD τ) (st0_0 t) fullShare ((vdat m c).after 0 t) ∗ owns (c : Thread nD τ) (st0_1 t) fullShare ((vdat m c).after 1 t) ∗ owns (c : Thread nD τ) (st0_2 t) fullShare ((vdat m c).after 2 t) ∗ owns (c : Thread nD τ) (st0_3 t) fullShare ((vdat m c).after 3 t) ∗ (∃ X, ⌜Rl m c 4 t X⌝ ∗ owns (c : Thread nD τ) (st0_4 t) fullShare X) ∗ (∃ X, ⌜Rl m c 5 t X⌝ ∗ owns (c : Thread nD τ) (st0_5 t) fullShare X) ∗ (∃ X, ⌜Rl m c 6 t X⌝ ∗ owns (c : Thread nD τ) (st0_6 t) fullShare X) ∗ (∃ X, ⌜Rl m c 7 t X⌝ ∗ owns (c : Thread nD τ) (st0_7 t) fullShare X) ∗ (∃ X, ⌜Rl m c 8 t X⌝ ∗ owns (c : Thread nD τ) (st0_8 t) fullShare X)))
  unfold Phi held HFpt owns
  iintro ⟨⟨⟨⟨%s0, S0⟩, ⟨%s1, S1⟩, ⟨%s2, S2⟩, ⟨%s3, S3⟩, ⟨%s4, S4⟩, ⟨%s5, S5⟩, ⟨%s6, S6⟩, ⟨%s7, S7, %hs7⟩, ⟨%s8, S8, %hs8⟩⟩, Hg⟩, HO, ⟨%d0, %f0, %e0, H0⟩, ⟨%d1, %f1, %e1, H1⟩, ⟨%d2, %f2, %e2, H2⟩, ⟨%d3, %f3, %e3, H3⟩, ⟨%Y4, -, %f4, -, H4⟩, ⟨%Y5, -, %f5, -, H5⟩, ⟨%Y6, -, %f6, -, H6⟩, ⟨%Y7, -, %f7, -, H7⟩, ⟨%Y8, -, %f8, -, H8⟩⟩
  istop
  have b0 : rd (st0_0 t) f0 = hblk m c 0 t := e0.trans (before0_0_of m (vdat m c) rfl (fun _ => rfl) t d0)
  have b1 : rd (st0_1 t) f1 = hblk m c 1 t := e1.trans (before0_1_of m (vdat m c) rfl (fun _ => rfl) t d1)
  have b2 : rd (st0_2 t) f2 = iblk m c 2 t := e2.trans (before0_2_of m (vdat m c) rfl (fun _ => rfl) t d2)
  have b3 : rd (st0_3 t) f3 = iblk m c 3 t := e3.trans (before0_3_of m (vdat m c) rfl (fun _ => rfl) t d3)
  refine triple_restated (body_at_frame m c t f0 f1 f2 f3 f4 f5 f6 f7 f8 s0 s1 s2 s3 s4 s5 s6 s7 s8 iprop((∃ r, prngReg c r) ∗ (vdat m c).owesAt () t.castSucc)) rfl ?_ (fun _ => ?_)
  · iintro ⟨⟨⟨⟨⟨⟨⟨⟨⟨⟨⟨⟨⟨⟨⟨⟨⟨⟨⟨S0, S1⟩, S2⟩, S3⟩, S4⟩, S5⟩, S6⟩, S7⟩, S8⟩, Hg⟩, HO⟩, H0⟩, H1⟩, H2⟩, H3⟩, H4⟩, H5⟩, H6⟩, H7⟩, H8⟩
    isplitr [Hg HO]
    · isplitr
      · ipureintro
        rw [b0, b1]
        exact ⟨HSF_of m c 0 t, HSF_of m c 1 t⟩
      isplitr
      · ipureintro
        rw [coords_lin]
        exact ⟨hs7, hs8⟩
      isplitr
      · ipureintro
        rw [b2, b3]
        exact ⟨TF_of m c t, PF_of m c t⟩
      isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      iexact S8
    · isplitl [Hg]
      · iexact Hg
      · iexact HO
  · rw [b0, b1, coords_lin]
    iintro ⟨⟨H0, H1, H2, H3, ⟨%f4, H4, %h4⟩, ⟨%f5, H5, %h5⟩, ⟨%s0, S0⟩, ⟨%s1, S1⟩, ⟨%s2, S2⟩, ⟨%s3, S3⟩, ⟨%s4, S4⟩, ⟨%s5, S5⟩, ⟨%s6, S6⟩, ⟨%A, S7, %B, S8, %hAB, ⟨%f6, H6, %h6⟩, ⟨%f7, H7, %h7⟩, ⟨%f8, H8, %h8⟩⟩⟩, Hg, HO⟩
    isplitl [Hg S0 S1 S2 S3 S4 S5 S6 S7 S8]
    · isplitr [Hg]
      · isplitl [S0]
        · iexists _; iexact S0
        isplitl [S1]
        · iexists _; iexact S1
        isplitl [S2]
        · iexists _; iexact S2
        isplitl [S3]
        · iexists _; iexact S3
        isplitl [S4]
        · iexists _; iexact S4
        isplitl [S5]
        · iexists _; iexact S5
        isplitl [S6]
        · iexists _; iexact S6
        isplitl [S7]
        · iexists A; isplitl [S7]
          · iexact S7
          ipureintro; exact hAB.1
        · iexists B; isplitl [S8]
          · iexact S8
          ipureintro; exact hAB.2
      · iexact Hg
    isplitl [HO]
    · iexact HO
    isplitl [H0]
    · iexists f0; isplitr; · ipureintro; exact b0
      iexact H0
    isplitl [H1]
    · iexists f1; isplitr; · ipureintro; exact b1
      iexact H1
    isplitl [H2]
    · iexists f2; isplitr; · ipureintro; exact b2
      iexact H2
    isplitl [H3]
    · iexists f3; isplitr; · ipureintro; exact b3
      iexact H3
    isplitl [H4]
    · iexists rd (st0_4 t) f4; isplitr; · ipureintro; exact h4
      iexists f4; isplitr; · ipureintro; rfl
      iexact H4
    isplitl [H5]
    · iexists rd (st0_5 t) f5; isplitr; · ipureintro; exact h5
      iexists f5; isplitr; · ipureintro; rfl
      iexact H5
    have hAB' : t.val = 131 → rd (Memref.whole cc0_scratch7) A = TA m c 0 ∧ rd (Memref.whole cc0_scratch8) B = TA m c 1 := fun ht => by
      rw [ht] at hAB
      exact ⟨HF_all m c 0 _ hAB.1, HF_all m c 1 _ hAB.2⟩
    isplitl [H6]
    · iexists rd (st0_6 t) f6; isplitr
      · ipureintro
        intro ht
        rw [if_pos (cond2_last t ht), (hAB' ht).1, (hAB' ht).2] at h6
        exact h6
      iexists f6; isplitr; · ipureintro; rfl
      iexact H6
    isplitl [H7]
    · iexists rd (st0_7 t) f7; isplitr
      · ipureintro
        intro ht
        rw [if_pos (cond2_last t ht), (hAB' ht).1, (hAB' ht).2] at h7
        exact h7
      iexists f7; isplitr; · ipureintro; rfl
      iexact H7
    · iexists rd (st0_8 t) f8; isplitr
      · ipureintro
        intro ht
        rw [if_pos (cond2_last t ht), (hAB' ht).1, (hAB' ht).2] at h8
        exact h8
      iexists f8; isplitr; · ipureintro; rfl
      iexact H8

set_option backward.isDefEq.respectTransparency.types false in
/-- The launch. -/
theorem run_val :
    θ_run defs (onTc (τ := τ) (main (F := Ideal))) (s₀ m ρ)
      (fun r => Pipeline.RDat.FramePost (cfgs 0) (fun c => (vdat m c).toRRel fgt (Rl m c)) (V m) r ∧ r.2.sem = fun _ => 0) :=
  Pipeline.RDat.θ_run_frame_track_shared (Q' := _) cfgs (0 : Fin 1) launch₀0 defs₀ Variants.none (fun c => (vdat m c).toRRel fgt (Rl m c)) m ρ main
    (hbody := fun c => (body_obl m c).toRRel) (hq := fun _ _ _ => rfl)
    (howed := fun _ _ => rfl) (V := V m) (hmain := hmain m Variants.none) (hA := fun _ _ => rfl)
    (hin := fun c => by
      rw [Cert.Proof.KernelIdeal.PhiA0_eq]
      show _ ⊢ Phi m c 0
      unfold Phi HFpt held
      iintro ⟨⟨S0, S1, S2, S3, S4, S5, S6, ⟨%s7, S7⟩, ⟨%s8, S8⟩⟩, Hg⟩
      isplitr [Hg]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexists s7; isplitl [S7]
          · iexact S7
          ipureintro; intro r hr; omega
        · iexists s8; isplitl [S8]
          · iexact S8
          ipureintro; intro r hr; omega
      · iexact Hg)
    (hout := fun c => by
      rw [Cert.Proof.KernelIdeal.PhiA0_eq]
      show Phi m c 132 ⊢ _
      unfold Phi HFpt held
      iintro ⟨⟨S0, S1, S2, S3, S4, S5, S6, ⟨%s7, S7, %_⟩, ⟨%s8, S8, %_⟩⟩, Hg⟩
      isplitr [Hg]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexists s7; iexact S7
        · iexists s8; iexact S8
      · iexact Hg)

end Cert.Proof.Val
-- ==== Proof.ValueRef.lean ====
/-
  The reference's second level, read at an index.

  The absolute maxima are one array of 12 x 98 x 2816 numbers. The reference flattens it to 12936 rows of 256; here it is read
  through its flat positions, `flat A n`.
-/
module

public import proofs.«01_k».proof.Proof.ValueBody
public import proofs.«01_k».proof.Proof.Gen.ReferenceIdeal.Run
public import Idealize.ShloMosaic.Lib.KernelVsHost

@[expose] public section

set_option maxRecDepth 16384

noncomputable section

namespace Cert.Proof.Val

open Cert.ReferenceIdeal Cert.ReferenceIdeal.Gen
open Idealize.ShloMosaic Idealize.ShloMosaic.TcCoe Idealize.ShloMosaic.Tactic

/-- A host maximum over one axis, from minus infinity, read at an index. -/
theorem hmax {s t u : Shape} {a : Fin s.rank} (x : FVec Ideal s .f32) (h : s.ReducesTo [a] t) (hu : 0 < u.numel)
    (h' : s.Reduces [a] t) (j : t.Idx) :
    Host.reduce FloatOps.maximumf x (constant u .f32 0xFF800000#32) h hu j
      = Finset.fold max (Ideal.ofBits .f32 0xFF800000#32) (x ∘ h'.lift j) Finset.univ := by
  have hf : FKind.Formats .f32 := by decide
  rw [hostReduce_maximumf_eq_multiReduction x 0xFF800000#32 h hu h' hf rfl]
  exact Ideal.multiReduction_maximumf_single x _ h' _ rfl j

/-- The number at flat position `n` of the absolute maxima. -/
def flat (A : S12x98x2816.Idx → EReal) (n : ℕ) : EReal :=
  A (ix3 (Fin.ofNat 12 (n / 275968)) (Fin.ofNat 98 (n / 2816 % 98)) (Fin.ofNat 2816 (n % 2816)))

/-- Column `j` of block `q` of matrix `x` lies at flat position `2816 (98 x + q) + j`. -/
theorem flat_ix (A : S12x98x2816.Idx → EReal) (x : Fin 12) (q : Fin 98) (j : Fin 2816) :
    flat A (2816 * (98 * x.val + q.val) + j.val) = A (ix3 x q j) := by
  have hx := x.isLt; have hq := q.isLt; have hj := j.isLt
  unfold flat
  congr 1
  funext a
  match a with
  | 0 => exact Fin.ext (by show _ % 12 = x.val; omega)
  | 1 => exact Fin.ext (by show _ % 98 = q.val; omega)
  | 2 => exact Fin.ext (by show _ % 2816 = j.val; omega)

/-- A sum over `a b` positions, taken in runs of `b`. -/
theorem sum_runs (g : ℕ → EReal) (a b : ℕ) :
    ∑ i ∈ Finset.range (a * b), g i = ∑ i ∈ Finset.range a, ∑ j ∈ Finset.range b, g (b * i + j) := by
  induction a with
  | zero => simp
  | succ a ih =>
    rw [Finset.sum_range_succ, ← ih, Nat.succ_mul, Finset.sum_range_add, Nat.mul_comm a b]

/-- The two outer sums of four exchanged with the two inner. -/
theorem sum_swap (g : ℕ → ℕ → ℕ → ℕ → EReal) :
    ∑ k ∈ Finset.range 49, ∑ x ∈ Finset.range 33, ∑ r ∈ Finset.range 8, ∑ l ∈ Finset.range 128, g k x r l
      = ∑ r : Fin 8, ∑ l : Fin 128, ∑ k ∈ Finset.range 49, ∑ x ∈ Finset.range 33, g k x r.val l.val := by
  have h1 : ∀ k, ∑ x ∈ Finset.range 33, ∑ r ∈ Finset.range 8, ∑ l ∈ Finset.range 128, g k x r l
      = ∑ r ∈ Finset.range 8, ∑ l ∈ Finset.range 128, ∑ x ∈ Finset.range 33, g k x r l := fun k => by
    rw [Finset.sum_comm]
    exact Finset.sum_congr rfl fun r _ => Finset.sum_comm
  simp only [h1]
  rw [Finset.sum_comm, Finset.sum_range]
  refine Finset.sum_congr rfl fun r _ => ?_
  rw [Finset.sum_comm, Finset.sum_range]

/-- The absolute maxima, as the reference takes them from the weights. -/
def refA (W : S12x6272x2816.Idx → EReal) : S12x98x2816.Idx → EReal :=
  Host.reduce (FloatOps.maximumf (F := Ideal) (φ := .f32))
    (Host.absf (F := Ideal) (shapeCast _ (extf (F := Ideal) (φ := .bf16) .f32 W bitsLt_bf16_f32) shapeCasts_S12x6272x2816_S12x98x64x2816))
    (constant (F := Ideal) S_ .f32 0xFF800000#32) reducesTo_S12x98x64x2816_S12x98x2816_d2 h_S_

/-- The mean of the absolute maxima. -/
def refO (A : S12x98x2816.Idx → EReal) : S_.Idx → EReal :=
  Host.divf (F := Ideal) (φ := .f32) (Host.reduceAdd (F := Ideal) (φ := .f32) A (constant (F := Ideal) S_ .f32 0x00000000#32) reducesTo_S12x98x2816_S_d0_1_2 h_S_)
    (constant (F := Ideal) S_ .f32 0x4A4A2000#32)

/-- The absolute maxima less their mean, in rows of 256. -/
def refC (A : S12x98x2816.Idx → EReal) : S12936x256.Idx → EReal :=
  shapeCast _ (subf (F := Ideal) (φ := .f32) A (broadcastInDim S12x98x2816 ![] bcast_S_S12x98x2816 (refO A))) shapeCasts_S12x98x2816_S12936x256

/-- The scale of each row. -/
def refS (A : S12x98x2816.Idx → EReal) : S12936.Idx → EReal :=
  Host.divf (F := Ideal) (φ := .f32) (Host.reduce (FloatOps.maximumf (F := Ideal) (φ := .f32)) (Host.absf (F := Ideal) (φ := .f32) (refC A)) (constant (F := Ideal) S_ .f32 0xFF800000#32)
    reducesTo_S12936x256_S12936_d1 h_S_) (broadcastInDim S12936 ![] bcast_S_S12936 (constant (F := Ideal) S_ .f32 0x42FE0000#32))

/-- The codes of each row. -/
def refQ (A : S12x98x2816.Idx → EReal) : S12936x256.Idx → BitVec 8 :=
  trunci 8 (fptosi (F := Ideal) (φ := .f32) 32 (minimumf (broadcastInDim S12936x256 ![] bcast_S_S12936x256 (id (constant (F := Ideal) S_ .f32 0x42FE0000#32)))
    (maximumf (broadcastInDim S12936x256 ![] bcast_S_S12936x256 (id (constant (F := Ideal) S_ .f32 0xC2FE0000#32)))
      (Host.roundeven (Host.divf (refC A) (broadcastInDim S12936x256 ![0, 1] bcast_S12936x1_S12936x256_0_1
        (broadcastInDim S12936x1 ![0] bcast_S12936_S12936x1_0 (refS A)))))))) natLt_8_32

/-- Block `q`, column `j` of matrix `x`: the greatest absolute value of 64 rows. -/
theorem refA_apply (W : S12x6272x2816.Idx → EReal) (x : Fin 12) (q : Fin 98) (j : Fin 2816) :
    refA W (ix3 x q j) = Finset.fold max (Ideal.ofBits .f32 0xFF800000#32)
      (fun k : Fin 64 => av (W (ix3 x ⟨64 * q.val + k.val, by have := q.isLt; have := k.isLt; omega⟩ j))) Finset.univ := by
  have hr : S12x98x64x2816.Reduces [2] S12x98x2816 := by decide
  have hj : ∀ k : Fin 64, hr.lift (ix3 x q j) k = ix4 x q k j := fun k => by
    funext a
    match a with
    | 0 => exact Fin.ext rfl
    | 1 => exact Fin.ext rfl
    | 2 => exact Fin.ext rfl
    | 3 => exact Fin.ext rfl
  unfold refA
  rw [hmax _ _ _ hr]
  congr 1
  funext k
  change Fin 64 at k
  show av (shapeCast S12x98x64x2816 W _ (hr.lift (ix3 x q j) k)) = _
  rw [hj k, shapeCast_apply W shapeCasts_S12x6272x2816_S12x98x64x2816 (ix4 x q k j) (ix3 x ⟨64 * q.val + k.val, by have := q.isLt; have := k.isLt; omega⟩ j)]
  rw [Shape.rowMajor_val_three, Shape.rowMajor_val_four]
  simp
  ring

/-- The mean, as a sum over flat positions. -/
theorem refO_apply (A : S12x98x2816.Idx → EReal) :
    refO A ix0 = Ideal.div (∑ n ∈ Finset.range 3311616, flat A n) (Ideal.ofBits .f32 0x4A4A2000#32) := by
  have e : ∑ n ∈ Finset.range 3311616, flat A n = ∑ x : Fin 12, ∑ q : Fin 98, ∑ j : Fin 2816, A (ix3 x q j) := by
    rw [show (3311616 : ℕ) = (12 * 98) * 2816 from rfl, sum_runs, sum_runs, Finset.sum_range]
    refine Finset.sum_congr rfl fun x _ => ?_
    rw [Finset.sum_range]
    refine Finset.sum_congr rfl fun q _ => ?_
    rw [Finset.sum_range]
    exact Finset.sum_congr rfl fun j _ => flat_ix A x q j
  rw [e]
  unfold refO
  pointwise

/-- Row `r`, place `l` less the mean. -/
theorem refC_apply (A : S12x98x2816.Idx → EReal) (r : Fin 12936) (l : Fin 256) :
    refC A (ix2 r l) = flat A (256 * r.val + l.val) - refO A ix0 := by
  have hr := r.isLt; have hl := l.isLt
  unfold refC flat
  rw [shapeCast_apply _ shapeCasts_S12x98x2816_S12936x256 (ix2 r l)
    (ix3 (Fin.ofNat 12 ((256 * r.val + l.val) / 275968)) (Fin.ofNat 98 ((256 * r.val + l.val) / 2816 % 98)) (Fin.ofNat 2816 ((256 * r.val + l.val) % 2816)))]
  · pointwise
  · rw [Shape.rowMajor_val_three, Shape.rowMajor_val_two]
    show _ = (r.val * 256 + l.val : ℕ)
    simp
    omega

/-- The scale of row `r`. -/
theorem refS_apply (A : S12x98x2816.Idx → EReal) (r : Fin 12936) :
    refS A (ix1 r) = Ideal.div (Finset.fold max (Ideal.ofBits .f32 0xFF800000#32)
      (fun l : Fin 256 => av (flat A (256 * r.val + l.val) - refO A ix0)) Finset.univ) (Ideal.ofBits .f32 0x42FE0000#32) := by
  have hr : S12936x256.Reduces [1] S12936 := by decide
  have hj : ∀ k : Fin 256, hr.lift (ix1 r) k = ix2 r k := fun k => by
    funext a
    match a with
    | 0 => exact Fin.ext rfl
    | 1 => exact Fin.ext rfl
  unfold refS
  show Ideal.div (Host.reduce _ _ _ _ _ (ix1 r)) _ = _
  rw [hmax _ _ _ hr]
  congr 2
  funext l
  change Fin 256 at l
  show av (refC A (hr.lift (ix1 r) l)) = _
  rw [hj l, refC_apply]

/-- Clamped to [-127, 127], a number's integer part is the same eight bits at either width. -/
theorem setWidth_fptosi (z : EReal) :
    BitVec.setWidth 8 (Ideal.fptosi 32 (min (Ideal.ofBits .f32 0x42FE0000#32) (max (Ideal.ofBits .f32 0xC2FE0000#32) z)))
      = Ideal.fptosi 8 (min (Ideal.ofBits .f32 0x42FE0000#32) (max (Ideal.ofBits .f32 0xC2FE0000#32) z)) := by
  have h1 : Ideal.ofBits .f32 0x42FE0000#32 = ((127 : ℝ) : EReal) := by simp [Ideal.ofBits, Ideal.ieee]; rw [← EReal.coe_mul]; congr 1; norm_num
  have h2 : Ideal.ofBits .f32 0xC2FE0000#32 = ((-127 : ℝ) : EReal) := by simp [Ideal.ofBits, Ideal.ieee]; rw [← EReal.coe_mul]; congr 1; norm_num
  rw [h1, h2]
  generalize hy : min ((127 : ℝ) : EReal) (max ((-127 : ℝ) : EReal) z) = y
  have hu : y ≤ ((127 : ℝ) : EReal) := hy ▸ min_le_left _ _
  have hl : ((-127 : ℝ) : EReal) ≤ y := by
    rw [← hy]
    exact le_min (by norm_cast) (le_max_left _ _)
  clear hy
  induction y with
  | bot => simp at hl
  | top => simp at hu
  | coe r =>
    rw [EReal.coe_le_coe_iff] at hu hl
    have ht : ∃ t : ℤ, (if 0 ≤ r then ⌊r⌋ else ⌈r⌉) = t ∧ -127 ≤ t ∧ t ≤ 127 := by
      refine ⟨_, rfl, ?_⟩
      split
      · exact ⟨Int.le_floor.mpr (by push_cast; linarith), Int.floor_le_iff.mpr (by push_cast; linarith)⟩
      · exact ⟨Int.le_ceil_iff.mpr (by push_cast; linarith), Int.ceil_le.mpr (by push_cast; linarith)⟩
    obtain ⟨t, ht, h1, h2⟩ := ht
    show BitVec.setWidth 8 (BitVec.ofInt 32 (max _ (min _ (if 0 ≤ r then ⌊r⌋ else ⌈r⌉)))) = BitVec.ofInt 8 (max _ (min _ (if 0 ≤ r then ⌊r⌋ else ⌈r⌉)))
    rw [ht]
    have e1 : max (-((2 ^ (32 - 1) : ℕ) : ℤ)) (min (((2 ^ (32 - 1) : ℕ) : ℤ) - 1) t) = t := by norm_num; omega
    have e2 : max (-((2 ^ (8 - 1) : ℕ) : ℤ)) (min (((2 ^ (8 - 1) : ℕ) : ℤ) - 1) t) = t := by norm_num; omega
    rw [e1, e2]
    apply BitVec.eq_of_toNat_eq
    simp only [BitVec.toNat_setWidth, BitVec.toNat_ofInt]
    omega

/-- The code at row `r`, place `l`. -/
theorem refQ_apply (A : S12x98x2816.Idx → EReal) (r : Fin 12936) (l : Fin 256) :
    refQ A (ix2 r l) = cd (refO A ix0) (flat A (256 * r.val + l.val)) (refS A (ix1 r)) := by
  unfold refQ
  pointwise
  rw [refC_apply]
  exact setWidth_fptosi _

/-! ## The kernel's second level over the same positions -/

section Kernel

variable (A : S12x98x2816.Idx → EReal) (T0 T1 : Cert.KernelIdeal.S12936x128.Idx → EReal)

/-- The two halves of the kernel's scratch hold the absolute maxima: row `r` of the one the first 128 of the 256 places, of the
    other the last 128. -/
def Halves : Prop :=
  ∀ (r : Fin 12936) (l : Fin 128), T0 (ix2 r l) = flat A (256 * r.val + l.val) ∧ T1 (ix2 r l) = flat A (256 * r.val + (128 + l.val))

variable {A T0 T1}

/-- The kernel's running sum after `k` of its 49 steps. -/
theorem accf_apply (k : ℕ) (r : Fin 8) (l : Fin 128) :
    accf T0 T1 k (ix2 r l) = ∑ i ∈ Finset.range k, ∑ x : Fin 33,
      (blk T0 i (ix2 ⟨x.val * 8 + r.val, by have := x.isLt; have := r.isLt; omega⟩ l)
        + blk T1 i (ix2 ⟨x.val * 8 + r.val, by have := x.isLt; have := r.isLt; omega⟩ l)) := by
  induction k with
  | zero =>
    show Cert.KernelIdeal.Gen.k0_pay245 (ix2 r l) = _
    unfold Cert.KernelIdeal.Gen.k0_pay245
    pointwise
    simp
  | succ k ih =>
    rw [Finset.sum_range_succ, ← ih]
    show Cert.KernelIdeal.Gen.k0_pay246 _ _ _ (ix2 r l) = _
    unfold Cert.KernelIdeal.Gen.k0_pay246
    pointwise

/-- The kernel's mean is the reference's. -/
theorem offv_eq (h : Halves A T0 T1) : offv T0 T1 = refO A ix0 := by
  have hs : ∑ n ∈ Finset.range 3311616, flat A n = ∑ r : Fin 8, ∑ l : Fin 128, accf T0 T1 49 (ix2 r l) := by
    have e1 : ∑ n ∈ Finset.range 3311616, flat A n
        = ∑ R ∈ Finset.range 12936, ∑ l ∈ Finset.range 128, (flat A (256 * R + l) + flat A (256 * R + (128 + l))) := by
      rw [show (3311616 : ℕ) = 12936 * 256 from rfl, sum_runs]
      refine Finset.sum_congr rfl fun R _ => ?_
      rw [show (256 : ℕ) = 128 + 128 from rfl, Finset.sum_range_add, Finset.sum_add_distrib]
    have e2 : ∀ g : ℕ → EReal, ∑ R ∈ Finset.range 12936, g R
        = ∑ k ∈ Finset.range 49, ∑ x ∈ Finset.range 33, ∑ r ∈ Finset.range 8, g (8 * (33 * k + x) + r) := fun g => by
      rw [show (12936 : ℕ) = 49 * 33 * 8 from rfl, sum_runs, sum_runs]
    have e3 : ∀ (r : Fin 8) (l : Fin 128), accf T0 T1 49 (ix2 r l)
        = ∑ k ∈ Finset.range 49, ∑ x ∈ Finset.range 33, (flat A (256 * (8 * (33 * k + x) + r.val) + l.val)
            + flat A (256 * (8 * (33 * k + x) + r.val) + (128 + l.val))) := fun r l => by
      rw [accf_apply]
      refine Finset.sum_congr rfl fun k hk => ?_
      rw [Finset.sum_range]
      refine Finset.sum_congr rfl fun x _ => ?_
      have hr := r.isLt; have hx := x.isLt; have hk := Finset.mem_range.mp hk
      have hb : 264 * k + (x.val * 8 + r.val) < 12936 := by omega
      have hR : 264 * k + (x.val * 8 + r.val) = 8 * (33 * k + x.val) + r.val := by omega
      have b : ∀ T : Cert.KernelIdeal.S12936x128.Idx → EReal,
          blk T k (ix2 ⟨x.val * 8 + r.val, by omega⟩ l) = T (ix2 ⟨264 * k + (x.val * 8 + r.val), hb⟩ l) := fun T => dif_pos hb
      rw [b, b, (h _ l).1, (h _ l).2]
      show flat A (256 * (264 * k + (x.val * 8 + r.val)) + _) + flat A (256 * (264 * k + (x.val * 8 + r.val)) + _) = _
      rw [hR]
    simp only [e3]
    rw [e1, e2]
    exact sum_swap fun k x r l => flat A (256 * (8 * (33 * k + x) + r) + l) + flat A (256 * (8 * (33 * k + x) + r) + (128 + l))
  rw [refO_apply, hs]
  show Cert.KernelIdeal.Gen.k0_pay247 _ = _
  unfold Cert.KernelIdeal.Gen.k0_pay247
  pointwise

/-- The kernel's scale of a row is the reference's. -/
theorem sc_eq (h : Halves A T0 T1) (r : Fin 12936) (o : EReal) (ho : o = refO A ix0) :
    sc o (rw2 T0 r) (rw2 T1 r) = refS A (ix1 r) := by
  rw [refS_apply, ← ho]
  unfold sc rw2
  congr 1
  refine eq_of_forall_ge_iff fun c => ?_
  rw [Finset.fold_max_le, Finset.fold_max_le]
  refine and_congr_right fun _ => ⟨fun H l _ => ?_, fun H l _ => ?_⟩
  · by_cases hl : l.val < 128
    · have := le_trans (le_max_left _ _) (H ⟨l.val, hl⟩ (Finset.mem_univ _))
      rwa [(h _ _).1] at this
    · have := le_trans (le_max_right _ _) (H ⟨l.val - 128, by have := l.isLt; omega⟩ (Finset.mem_univ _))
      rw [(h _ _).2] at this
      rwa [show 128 + (l.val - 128) = l.val by omega] at this
  · rw [(h _ _).1, (h _ _).2]
    exact max_le (H ⟨l.val, by omega⟩ (Finset.mem_univ _)) (H ⟨128 + l.val, by omega⟩ (Finset.mem_univ _))

end Kernel

end Cert.Proof.Val
-- ==== Proof.ValueRefPack.lean ====
/-
  The reference's packed codes, read at an index.
-/
module

public import proofs.«01_k».proof.Proof.ValueRef
public import proofs.«01_k».proof.Proof.ValueLevels

@[expose] public section

set_option maxRecDepth 16384

noncomputable section

namespace Cert.Proof.Val

open Cert.ReferenceIdeal Cert.ReferenceIdeal.Gen
open Idealize.ShloMosaic Idealize.ShloMosaic.TcCoe Idealize.ShloMosaic.Tactic

/-- The weights over the absolute maximum of their block, a zero maximum taken as one. -/
def refX (W : S12x6272x2816.Idx → EReal) : S12x98x64x2816.Idx → EReal :=
  mulf (F := Ideal) (φ := .f32) (shapeCast _ (extf (F := Ideal) (φ := .bf16) .f32 W bitsLt_bf16_f32) shapeCasts_S12x6272x2816_S12x98x64x2816)
    (broadcastInDim S12x98x64x2816 ![0, 1, 2, 3] bcast_S12x98x1x2816_S12x98x64x2816_0_1_2_3 (broadcastInDim S12x98x1x2816 ![0, 1, 3] bcast_S12x98x2816_S12x98x1x2816_0_1_3
      (Host.divf (F := Ideal) (φ := .f32) (broadcastInDim S12x98x2816 ![] bcast_S_S12x98x2816 (constant (F := Ideal) S_ .f32 0x3F800000#32))
        (select (cmpf (F := Ideal) (φ := .f32) .oeq (refA W) (broadcastInDim S12x98x2816 ![] bcast_S_S12x98x2816 (constant (F := Ideal) S_ .f32 0x00000000#32)))
          (broadcastInDim S12x98x2816 ![] bcast_S_S12x98x2816 (id (constant (F := Ideal) S_ .f32 0x3F800000#32))) (refA W)))))

/-- One where the normalised weight lies above the threshold of bits `b`, else zero. -/
def refB (X : S12x98x64x2816.Idx → EReal) (b : BitVec 32) : S12x98x64x2816.Idx → BitVec 32 :=
  extui 32 (cmpf (F := Ideal) (φ := .f32) .ogt X (broadcastInDim S12x98x64x2816 ![] bcast_S_S12x98x64x2816 (constant (F := Ideal) S_ .f32 b))) natLt_1_32

/-- The number of thresholds below each normalised weight. -/
def refT (X : S12x98x64x2816.Idx → EReal) : S12x98x64x2816.Idx → BitVec 32 :=
  addi (addi (addi (addi (addi (addi (addi (addi (addi (addi (addi (addi (addi (addi (addi (broadcastInDim S12x98x64x2816 ![] bcast_S_S12x98x64x2816 (constantI S_ 32 0#32)) (refB X 0xBF591CD8#32)) (refB X 0xBF1C5270#32)) (refB X 0xBEEB8480#32)) (refB X 0xBEADEA76#32)) (refB X 0xBE703CEC#32)) (refB X 0xBE0D38BC#32)) (refB X 0xBD3A7871#32)) (refB X 0x3D22FAFF#32)) (refB X 0x3DF64862#32)) (refB X 0x3E5067E0#32)) (refB X 0x3E9582D4#32)) (refB X 0x3EC753F9#32)) (refB X 0x3F006D04#32)) (refB X 0x3F248DAF#32)) (refB X 0x3F5C89DA#32)

/-- Two neighbouring rows' codes in one byte. -/
def refP (T : S12x98x64x2816.Idx → BitVec 32) : S12x3136x2816.Idx → BitVec 8 :=
  trunci 8 (ori (Host.shli (shapeCast _ (extractStridedSlice S12x3136x1x2816 ![0, 0, 0, 0] (shapeCast _ T shapeCasts_S12x98x64x2816_S12x3136x2x2816) slices_S12x3136x2x2816_S12x3136x1x2816_0_0_0_0) shapeCasts_S12x3136x1x2816_S12x3136x2816)
      (broadcastInDim S12x3136x2816 ![] bcast_S_S12x3136x2816 (constantI S_ 32 4#32)))
    (shapeCast _ (extractStridedSlice S12x3136x1x2816 ![0, 0, 1, 0] (shapeCast _ T shapeCasts_S12x98x64x2816_S12x3136x2x2816) slices_S12x3136x2x2816_S12x3136x1x2816_0_0_1_0) shapeCasts_S12x3136x1x2816_S12x3136x2816)) natLt_8_32

/-- The reference's first result. -/
theorem res_refP (m : (ℓ : Loc nD τ sig) → Buf (Elt Ideal) ℓ) (c : Dev nD) :
    Value.res_out0 (F := Ideal) m c = refP (refT (refX (m ((c.tc : Thread nD τ).loc main_arg0)))) := by
  unfold Value.res_out0 Value.res_main_v81
  rfl

/-- One comparison, at an index. -/
theorem refB_apply (X : S12x98x64x2816.Idx → EReal) (b : BitVec 32) (j : S12x98x64x2816.Idx) :
    refB X b j = BitVec.ofNat 32 (if Ideal.ofBits .f32 b < X j then 1 else 0) := by
  show BitVec.setWidth 32 (BitVec.ofBool (decide (Ideal.ofBits .f32 b < X j))) = _
  by_cases h : Ideal.ofBits .f32 b < X j <;> simp [h]

/-- The count of thresholds, at an index. -/
theorem refT_apply (X : S12x98x64x2816.Idx → EReal) (j : S12x98x64x2816.Idx) :
    refT X j = BitVec.ofNat 32 (∑ k : Fin 15, if sl k.succ < X j then 1 else 0) := by
  have e : ∀ (x y : S12x98x64x2816.Idx → BitVec 32), addi x y j = x j + y j := fun _ _ => rfl
  unfold refT
  simp only [e, refB_apply]
  have z : broadcastInDim S12x98x64x2816 ![] bcast_S_S12x98x64x2816 (constantI S_ 32 0#32) j = BitVec.ofNat 32 0 := rfl
  rw [z]
  simp only [← BitVec.ofNat_add]
  refine congrArg (BitVec.ofNat 32) ?_
  simp only [Fin.sum_univ_castSucc, Fin.sum_univ_zero]
  rfl

/-- The bits of one. -/
theorem one_bits : Ideal.ofBits .f32 0x3F800000#32 = (1 : EReal) := by
  simp [Ideal.ofBits, Ideal.ieee] <;> rw [← EReal.coe_mul] <;> norm_num

/-- The bits of zero. -/
theorem zero_bits : Ideal.ofBits .f32 0x00000000#32 = (0 : EReal) := by
  simp [Ideal.ofBits, Ideal.ieee]

/-- The reciprocal of each maximum, a zero maximum taken as one. -/
def refI (A : S12x98x2816.Idx → EReal) : S12x98x2816.Idx → EReal :=
  Host.divf (F := Ideal) (φ := .f32) (broadcastInDim S12x98x2816 ![] bcast_S_S12x98x2816 (constant (F := Ideal) S_ .f32 0x3F800000#32))
    (select (cmpf (F := Ideal) (φ := .f32) .oeq A (broadcastInDim S12x98x2816 ![] bcast_S_S12x98x2816 (constant (F := Ideal) S_ .f32 0x00000000#32)))
      (broadcastInDim S12x98x2816 ![] bcast_S_S12x98x2816 (id (constant (F := Ideal) S_ .f32 0x3F800000#32))) A)

/-- The reciprocal, at an index. -/
theorem refI_apply (A : S12x98x2816.Idx → EReal) (i : S12x98x2816.Idx) :
    refI A i = Ideal.div 1 (if A i = 0 then 1 else A i) := by
  show Ideal.div (Ideal.ofBits .f32 0x3F800000#32) (Scalar.select (BitVec.ofBool (decide (A i = Ideal.ofBits .f32 0x00000000#32))) (Ideal.ofBits .f32 0x3F800000#32) (A i)) = _
  rw [one_bits, zero_bits]
  by_cases h : A i = 0 <;> simp [h, Scalar.select]

/-- An array of blocks, spread over the rows of each block, at an index. -/
theorem spread_apply (A : S12x98x2816.Idx → EReal) (x : Fin 12) (q : Fin 98) (k : Fin 64) (j : Fin 2816) :
    broadcastInDim S12x98x64x2816 ![0, 1, 2, 3] bcast_S12x98x1x2816_S12x98x64x2816_0_1_2_3
      (broadcastInDim S12x98x1x2816 ![0, 1, 3] bcast_S12x98x2816_S12x98x1x2816_0_1_3 A) (ix4 x q k j) = A (ix3 x q j) := by
  pointwise

/-- The weights in blocks of 64 rows, at an index. -/
theorem block_apply (W : S12x6272x2816.Idx → EReal) (x : Fin 12) (q : Fin 98) (k : Fin 64) (j : Fin 2816) :
    shapeCast S12x98x64x2816 W shapeCasts_S12x6272x2816_S12x98x64x2816 (ix4 x q k j)
      = W (ix3 x ⟨64 * q.val + k.val, by have := q.isLt; have := k.isLt; omega⟩ j) := by
  refine shapeCast_apply W _ _ _ ?_
  rw [Shape.rowMajor_val_three, Shape.rowMajor_val_four]
  simp
  ring

/-- A widening keeps the number. -/
theorem ext_id (W : S12x6272x2816.Idx → EReal) : extf (F := Ideal) (φ := .bf16) .f32 W bitsLt_bf16_f32 = W := rfl

/-- A product of arrays, at an index. -/
theorem mulf_read (Y Z : S12x98x64x2816.Idx → EReal) (i : S12x98x64x2816.Idx) : mulf (F := Ideal) (φ := .f32) Y Z i = Y i * Z i := rfl

/-- A weight of block `q`, over the block's absolute maximum. -/
theorem refX_apply (W : S12x6272x2816.Idx → EReal) (x : Fin 12) (q : Fin 98) (k : Fin 64) (j : Fin 2816) :
    refX W (ix4 x q k j) = W (ix3 x ⟨64 * q.val + k.val, by have := q.isLt; have := k.isLt; omega⟩ j)
      * Ideal.div 1 (if refA W (ix3 x q j) = 0 then 1 else refA W (ix3 x q j)) := by
  rw [← refI_apply, ← block_apply W x q k j, ← spread_apply (refI (refA W)) x q k j]
  unfold refX
  rw [ext_id]
  unfold refI
  exact mulf_read _ _ _

/-- Two codes in a byte are a number below 256. -/
theorem pack_bits : ∀ a b : Fin 16, BitVec.setWidth 8 (IntOp.shli .host (BitVec.ofNat 32 a.val) 4#32 ||| BitVec.ofNat 32 b.val) = BitVec.ofNat 8 (16 * a.val + b.val) := by
  decide +kernel

/-- The codes in pairs of neighbouring rows, at an index. -/
theorem cast_pair (T : S12x98x64x2816.Idx → BitVec 32) (x : Fin 12) (R : Fin 3136) (p : Fin 2) (j : Fin 2816) :
    shapeCast S12x3136x2x2816 T shapeCasts_S12x98x64x2816_S12x3136x2x2816 (ix4 x R p j)
      = T (ix4 x ⟨(2 * R.val + p.val) / 64, by have := R.isLt; have := p.isLt; omega⟩ ⟨(2 * R.val + p.val) % 64, Nat.mod_lt _ (by decide)⟩ j) := by
  have := R.isLt; have := p.isLt
  refine shapeCast_apply T _ _ _ ?_
  rw [Shape.rowMajor_val_four, Shape.rowMajor_val_four]
  simp
  omega

/-- The byte of row `R` at column `j`. -/
theorem refP_apply (T : S12x98x64x2816.Idx → BitVec 32) (x : Fin 12) (R : Fin 3136) (j : Fin 2816) (a b : ℕ) (ha : a ≤ 15) (hb : b ≤ 15)
    (h0 : T (ix4 x ⟨(2 * R.val) / 64, by have := R.isLt; omega⟩ ⟨(2 * R.val) % 64, Nat.mod_lt _ (by decide)⟩ j) = BitVec.ofNat 32 a)
    (h1 : T (ix4 x ⟨(2 * R.val + 1) / 64, by have := R.isLt; omega⟩ ⟨(2 * R.val + 1) % 64, Nat.mod_lt _ (by decide)⟩ j) = BitVec.ofNat 32 b) :
    refP T (ix3 x R j) = BitVec.ofNat 8 (16 * a + b) := by
  refine Eq.trans ?_ (pack_bits ⟨a, by omega⟩ ⟨b, by omega⟩)
  have e0 := (cast_pair T x R 0 j).trans h0
  have e1 := (cast_pair T x R 1 j).trans h1
  show _ = BitVec.setWidth 8 (IntOp.shli .host (BitVec.ofNat 32 a) 4#32 ||| BitVec.ofNat 32 b)
  rw [← e0, ← e1]
  unfold refP
  pointwise
  rfl

end Cert.Proof.Val
-- ==== Proof.ValueArrays.lean ====
/-
  What the kernel's result arrays hold at the end of the launch, as numbers of the weights.
-/
module

public import proofs.«01_k».proof.Proof.ValueLaunch
public import proofs.«01_k».proof.Proof.ValueRef
public import proofs.«01_k».proof.Proof.ValueRefPack

@[expose] public section

set_option maxRecDepth 16384

noncomputable section

namespace Cert.Proof.Val

open Cert.KernelIdeal Cert.KernelIdeal.Gen
open Idealize.ShloMosaic Idealize.ShloMosaic.TcCoe Idealize.ShloMosaic.Tactic
open Idealize.SL.Sem
open Idealize.ShloMosaic.Pipeline (RDat Dat Cfg Window)

variable (m : (ℓ : Loc nD τ sig) → Buf (Elt Ideal) ℓ) (ρ : Dev nD → PrngReg)

/-- The weights. -/
def Wm (c : Dev nD) : S12x6272x2816.Idx → EReal := m ((c.tc : Thread nD τ).loc main_arg0)

/-- The block of the first lane half at a point. -/
theorem win0_index (t : Fin grid0.N) :
    (cfg0.win 0).index t 0 = t.val / 11 ∧ (cfg0.win 0).index t 1 = 0 ∧ (cfg0.win 0).index t 2 = 2 * (t.val % 11) :=
  (by decide +kernel : ∀ t : Fin grid0.N,
    (cfg0.win 0).index t 0 = t.val / 11 ∧ (cfg0.win 0).index t 1 = 0 ∧ (cfg0.win 0).index t 2 = 2 * (t.val % 11)) t

/-- The block of the second lane half at a point. -/
theorem win1_index (t : Fin grid0.N) :
    (cfg0.win 1).index t 0 = t.val / 11 ∧ (cfg0.win 1).index t 1 = 0 ∧ (cfg0.win 1).index t 2 = 2 * (t.val % 11) + 1 :=
  (by decide +kernel : ∀ t : Fin grid0.N,
    (cfg0.win 1).index t 0 = t.val / 11 ∧ (cfg0.win 1).index t 1 = 0 ∧ (cfg0.win 1).index t 2 = 2 * (t.val % 11) + 1) t

/-- The block of packed codes at a point. -/
theorem win4_index (t : Fin grid0.N) :
    (cfg0.win 4).index t 0 = t.val / 11 ∧ (cfg0.win 4).index t 1 = 0 ∧ (cfg0.win 4).index t 2 = t.val % 11 :=
  (by decide +kernel : ∀ t : Fin grid0.N,
    (cfg0.win 4).index t 0 = t.val / 11 ∧ (cfg0.win 4).index t 1 = 0 ∧ (cfg0.win 4).index t 2 = t.val % 11) t

/-- The block of absolute maxima at a point. -/
theorem win5_index (t : Fin grid0.N) :
    (cfg0.win 5).index t 0 = t.val / 11 ∧ (cfg0.win 5).index t 1 = 0 ∧ (cfg0.win 5).index t 2 = t.val % 11 :=
  (by decide +kernel : ∀ t : Fin grid0.N,
    (cfg0.win 5).index t 0 = t.val / 11 ∧ (cfg0.win 5).index t 1 = 0 ∧ (cfg0.win 5).index t 2 = t.val % 11) t

/-- The staged block of a lane half, read off the weights. -/
theorem hblk_apply (c : Dev nD) (h : Fin 2) (t : Fin 132) (R : Fin 6272) (l : Fin 128) :
    hblk m c h t (ix3 0 R l) = Wm m c (ix3 ⟨t.val / 11, by have := t.isLt; omega⟩ R
      ⟨256 * (t.val % 11) + (128 * h.val + l.val), by have := h.isLt; have := l.isLt; omega⟩) := by
  match h with
  | 0 =>
    have e := win0_index t
    show V m c main_arg0 (((cfg0.win 0).blk t).view.emb (ix3 0 R l)) = _
    rw [V_main_arg0]
    unfold Wm
    congr 1
    funext a
    refine Fin.ext ?_
    refine (Window.rect_emb_val (cfg0.win 0) t (ix3 0 R l) a).trans ?_
    match a with
    | 0 => rw [e.1]; show t.val / 11 * 1 + 0 = t.val / 11; omega
    | 1 => rw [e.2.1]; show 0 * 6272 + R.val = R.val; omega
    | 2 => rw [e.2.2]; show 2 * (t.val % 11) * 128 + l.val = 256 * (t.val % 11) + (128 * 0 + l.val); omega
  | 1 =>
    have e := win1_index t
    show V m c main_arg0 (((cfg0.win 1).blk t).view.emb (ix3 0 R l)) = _
    rw [V_main_arg0]
    unfold Wm
    congr 1
    funext a
    refine Fin.ext ?_
    refine (Window.rect_emb_val (cfg0.win 1) t (ix3 0 R l) a).trans ?_
    match a with
    | 0 => rw [e.1]; show t.val / 11 * 1 + 0 = t.val / 11; omega
    | 1 => rw [e.2.1]; show 0 * 6272 + R.val = R.val; omega
    | 2 => rw [e.2.2]; show (2 * (t.val % 11) + 1) * 128 + l.val = 256 * (t.val % 11) + (128 * 1 + l.val); omega

/-- The kernel's absolute maximum is the reference's. -/
theorem amax_eq (c : Dev nD) (h : Fin 2) (t : Fin 132) (q : Fin 98) (l : Fin 128) :
    amax (hblk m c h t) q.val l = refA (Wm m c) (ix3 ⟨t.val / 11, by have := t.isLt; omega⟩ q
      ⟨256 * (t.val % 11) + (128 * h.val + l.val), by have := h.isLt; have := l.isLt; omega⟩) := by
  rw [refA_apply]
  have hb : Ideal.ofBits .f32 0xFF800000#32 = (⊥ : EReal) := by simp [Ideal.ofBits, Ideal.ieee]
  rw [hb]
  unfold amax
  show _ = Finset.univ.sup _
  refine Finset.sup_congr rfl fun k _ => ?_
  rw [← row_eq _ _ (by have := q.isLt; have := k.isLt; omega), hblk_apply]

/-- The reference's code of row `r`. -/
theorem refT_row (W : S12x6272x2816.Idx → EReal) (x : Fin 12) (r : ℕ) (hr : r < 6272) (j : Fin 2816) :
    refT (refX W) (ix4 x ⟨r / 64, by omega⟩ ⟨r % 64, Nat.mod_lt _ (by decide)⟩ j)
      = BitVec.ofNat 32 (rcode (refA W (ix3 x ⟨r / 64, by omega⟩ j)) (W (ix3 x ⟨r, hr⟩ j))) := by
  have e : (⟨64 * (r / 64) + r % 64, by omega⟩ : Fin 6272) = ⟨r, hr⟩ := Fin.ext (Nat.div_add_mod r 64)
  rw [refT_apply, refX_apply]
  simp only [e]
  rfl

/-- The kernel's code of row `r` is the code of the reference's maximum. -/
theorem code_eq (c : Dev nD) (h : Fin 2) (t : Fin 132) (r : ℕ) (hr : r < 6272) (l : Fin 128) :
    code (hblk m c h t) r l = rcode (refA (Wm m c) (ix3 ⟨t.val / 11, by have := t.isLt; omega⟩ ⟨r / 64, by omega⟩
        ⟨256 * (t.val % 11) + (128 * h.val + l.val), by have := h.isLt; have := l.isLt; omega⟩))
      (Wm m c (ix3 ⟨t.val / 11, by have := t.isLt; omega⟩ ⟨r, hr⟩
        ⟨256 * (t.val % 11) + (128 * h.val + l.val), by have := h.isLt; have := l.isLt; omega⟩)) := by
  unfold code
  rw [← row_eq _ _ hr, hblk_apply, amax_eq m c h t ⟨r / 64, by omega⟩ l]

/-- The same, for a column of the two halves together. -/
theorem code2_eq (c : Dev nD) (t : Fin 132) (r : ℕ) (hr : r < 6272) (l : Fin 256) :
    code2 (hblk m c 0 t) (hblk m c 1 t) r l = rcode (refA (Wm m c) (ix3 ⟨t.val / 11, by have := t.isLt; omega⟩ ⟨r / 64, by omega⟩
        ⟨256 * (t.val % 11) + l.val, by have := l.isLt; omega⟩))
      (Wm m c (ix3 ⟨t.val / 11, by have := t.isLt; omega⟩ ⟨r, hr⟩ ⟨256 * (t.val % 11) + l.val, by have := l.isLt; omega⟩)) := by
  have hl := l.isLt
  unfold code2
  by_cases h : l.val < 128
  · have e : (⟨256 * (t.val % 11) + (128 * (0 : Fin 2).val + l.val), by show 256 * (t.val % 11) + (128 * 0 + l.val) < 2816; omega⟩ : Fin 2816)
        = ⟨256 * (t.val % 11) + l.val, by omega⟩ := Fin.ext (by show 256 * (t.val % 11) + (128 * 0 + l.val) = 256 * (t.val % 11) + l.val; omega)
    rw [dif_pos h, code_eq m c 0 t r hr ⟨l.val, h⟩]
    rw [e]
  · have e : (⟨256 * (t.val % 11) + (128 * (1 : Fin 2).val + (l.val - 128)), by show 256 * (t.val % 11) + (128 * 1 + (l.val - 128)) < 2816; omega⟩ : Fin 2816)
        = ⟨256 * (t.val % 11) + l.val, by omega⟩ := Fin.ext (by show 256 * (t.val % 11) + (128 * 1 + (l.val - 128)) = 256 * (t.val % 11) + l.val; omega)
    rw [dif_neg h, code_eq m c 1 t r hr ⟨l.val - 128, by omega⟩]
    rw [e]

/-- The kernel's packed byte is the reference's. -/
theorem pack_eq (c : Dev nD) (t : Fin 132) (R : Fin 3136) (l : Fin 256) :
    BitVec.ofNat 8 (pkn (hblk m c 0 t) (hblk m c 1 t) R.val l) = refP (refT (refX (Wm m c))) (ix3 ⟨t.val / 11, by have := t.isLt; omega⟩ R
      ⟨256 * (t.val % 11) + l.val, by have := l.isLt; omega⟩) := by
  have hR := R.isLt
  unfold pkn
  refine (refP_apply _ _ R _ _ _ (code2_le _ _ _ _) (code2_le _ _ _ _) ?_ ?_).symm
  · rw [code2_eq m c t (2 * R.val) (by omega)]
    exact refT_row _ _ (2 * R.val) (by omega) _
  · rw [code2_eq m c t (2 * R.val + 1) (by omega)]
    exact refT_row _ _ (2 * R.val + 1) (by omega) _

/-- The two halves of the scratch hold the absolute maxima in the reference's order. -/
theorem halves (c : Dev nD) : Halves (refA (Wm m c)) (TA m c 0) (TA m c 1) := by
  have key : ∀ (h : Fin 2) (r : Fin 12936) (l : Fin 128),
      TA m c h (ix2 r l) = flat (refA (Wm m c)) (256 * r.val + (128 * h.val + l.val)) := fun h r l => by
    have hr := r.isLt; have hl := l.isLt; have hh := h.isLt
    have ho : owner r.val < 132 := by unfold owner; omega
    have hq : r.val % 1078 / 11 < 98 := by omega
    show amax (hblk m c h (Fin.ofNat 132 (owner r.val))) (r.val % 1078 / 11) l = _
    have e : Fin.ofNat 132 (owner r.val) = (⟨owner r.val, ho⟩ : Fin 132) := Fin.ext (Nat.mod_eq_of_lt ho)
    rw [e, amax_eq m c h ⟨owner r.val, ho⟩ ⟨r.val % 1078 / 11, hq⟩ l, ← flat_ix (refA (Wm m c))]
    congr 1
    show 2816 * (98 * (owner r.val / 11) + r.val % 1078 / 11) + (256 * (owner r.val % 11) + (128 * h.val + l.val)) = _
    unfold owner
    omega
  exact fun r l => ⟨by rw [key 0 r l]; congr 1; show 256 * r.val + (128 * 0 + l.val) = _; omega, key 1 r l⟩

/-! ## The result arrays -/

/-- The blocks of packed codes cover their array, each point writing its own. -/
theorem cov4 : (cfg0.win 4).Covers := by decide +kernel

/-- The blocks of absolute maxima cover their array, each point writing its own. -/
theorem cov5 : (cfg0.win 5).Covers := by decide +kernel

/-- The second-level codes are written whole, at the last point. -/
theorem whole6 : (cfg0.win 6).WholeAt (⟨131, by decide⟩ : Fin grid0.N) := by decide +kernel

/-- The second-level scales are written whole, at the last point. -/
theorem whole7 : (cfg0.win 7).WholeAt (⟨131, by decide⟩ : Fin grid0.N) := by decide +kernel

/-- The offset is written whole, at the last point. -/
theorem whole8 : (cfg0.win 8).WholeAt (⟨131, by decide⟩ : Fin grid0.N) := by decide +kernel

section Arrays

variable {m} {r : PUnit × MemSt nD τ sig (Elt Ideal)}
  (h : RDat.FramePost (cfgs 0) (fun c => (vdat m c).toRRel fgt (Rl m c)) (V m) r) (c : Dev nD)

include h

/-- The packed codes at the end. -/
theorem out4 : r.2.mem ((c.tc : Thread nD τ).loc main_v12_0) = refP (refT (refX (Wm m c))) := by
  obtain ⟨after, hL, hA⟩ := h.exists_exact c
  refine (hA 4).trans ?_
  refine Dat.arrAt_eq_of_covers (cfg := cfg0) (((vdat m c).toRRel fgt (Rl m c)).withAfter after) 4 (refP (refT (refX (Wm m c)))) cov4 fun t hf y => ?_
  have hX : P6 (hblk m c 0 t) (hblk m c 1 t) 3136 (after 4 t) := (vdat m c).toRRel_leaves (w := 4) rfl (hL 4 t hf)
  have e := win4_index t
  have ht : t.val < 132 := t.isLt
  show after 4 t ((cfg0.win 4).xinj (cfg0.grid.coords t) y) = _
  have y1 : (y 1).val < 3136 := (y 1).isLt
  have y2 : (y 2).val < 256 := (y 2).isLt
  have hy : (cfg0.win 4).xinj (cfg0.grid.coords t) y = ix3 (0 : Fin 1) (⟨(y 1).val, y1⟩ : Fin 3136) (⟨(y 2).val, y2⟩ : Fin 256) := by
    funext a
    match a with
    | 0 => exact Fin.ext (by have := (y 0).isLt; change (y 0).val < 1 at this; show (y 0).val = 0; omega)
    | 1 => rfl
    | 2 => rfl
  refine (congrArg (after 4 t) hy).trans ((hX ⟨(y 1).val, y1⟩ y1 ⟨(y 2).val, y2⟩).trans ((pack_eq m c t ⟨(y 1).val, y1⟩ ⟨(y 2).val, y2⟩).trans ?_))
  refine congrArg (refP (refT (refX (Wm m c)))) ?_
  funext a
  refine Fin.ext ?_
  refine Eq.trans ?_ (Window.rect_emb_val (cfg0.win 4) t y a).symm
  match a with
  | 0 => rw [e.1]; have := (y 0).isLt; change (y 0).val < 1 at this; show t.val / 11 = t.val / 11 * 1 + (y 0).val; omega
  | 1 => rw [e.2.1]; show (y 1).val = 0 * 3136 + (y 1).val; omega
  | 2 => rw [e.2.2]; show 256 * (t.val % 11) + (y 2).val = t.val % 11 * 256 + (y 2).val; omega

/-- The absolute maxima at the end. -/
theorem out5 : r.2.mem ((c.tc : Thread nD τ).loc main_v12_1) = refA (Wm m c) := by
  obtain ⟨after, hL, hA⟩ := h.exists_exact c
  refine (hA 5).trans ?_
  refine Dat.arrAt_eq_of_covers (cfg := cfg0) (((vdat m c).toRRel fgt (Rl m c)).withAfter after) 5 (refA (Wm m c)) cov5 fun t hf y => ?_
  have hX : A7 (hblk m c 0 t) (hblk m c 1 t) (after 5 t) := (vdat m c).toRRel_leaves (w := 5) rfl (hL 5 t hf)
  have e := win5_index t
  have ht : t.val < 132 := t.isLt
  show after 5 t ((cfg0.win 5).xinj (cfg0.grid.coords t) y) = _
  have key : ∀ (q : Fin 98) (j : Fin 256), after 5 t (ix3 0 q j) = refA (Wm m c) (ix3 ⟨t.val / 11, by omega⟩ q
      ⟨256 * (t.val % 11) + j.val, by omega⟩) := fun q j => by
    by_cases hj : j.val < 128
    · refine ((hX q ⟨j.val, hj⟩).1).trans ((amax_eq m c 0 t q ⟨j.val, hj⟩).trans ?_)
      congr 2
      exact Fin.ext (by show 256 * (t.val % 11) + (128 * 0 + j.val) = 256 * (t.val % 11) + j.val; omega)
    · have h2 := (hX q ⟨j.val - 128, by omega⟩).2
      have hjj : (⟨128 + (j.val - 128), by omega⟩ : Fin 256) = j := Fin.ext (by show 128 + (j.val - 128) = j.val; omega)
      rw [hjj] at h2
      refine h2.trans ((amax_eq m c 1 t q ⟨j.val - 128, by omega⟩).trans ?_)
      congr 2
      exact Fin.ext (by show 256 * (t.val % 11) + (128 * 1 + (j.val - 128)) = 256 * (t.val % 11) + j.val; omega)
  have y1 : (y 1).val < 98 := (y 1).isLt
  have y2 : (y 2).val < 256 := (y 2).isLt
  have hy : (cfg0.win 5).xinj (cfg0.grid.coords t) y = ix3 (0 : Fin 1) (⟨(y 1).val, y1⟩ : Fin 98) (⟨(y 2).val, y2⟩ : Fin 256) := by
    funext a
    match a with
    | 0 => exact Fin.ext (by have := (y 0).isLt; change (y 0).val < 1 at this; show (y 0).val = 0; omega)
    | 1 => rfl
    | 2 => rfl
  refine (congrArg (after 5 t) hy).trans ((key ⟨(y 1).val, y1⟩ ⟨(y 2).val, y2⟩).trans ?_)
  congr 1
  funext a
  refine Fin.ext ?_
  refine Eq.trans ?_ (Window.rect_emb_val (cfg0.win 5) t y a).symm
  match a with
  | 0 => rw [e.1]; have := (y 0).isLt; change (y 0).val < 1 at this; show t.val / 11 = t.val / 11 * 1 + (y 0).val; omega
  | 1 => rw [e.2.1]; show (y 1).val = 0 * 98 + (y 1).val; omega
  | 2 => rw [e.2.2]; show 256 * (t.val % 11) + (y 2).val = t.val % 11 * 256 + (y 2).val; omega

/-- The codes at the end. -/
theorem out6 : r.2.mem ((c.tc : Thread nD τ).loc main_v12_2) = refQ (refA (Wm m c)) := by
  have H := halves m c
  obtain ⟨X, hX, hG⟩ := RDat.ArrAt.emb_eq_of_wholeAt (cfg := cfg0) (w := 6) ((h c).1 6) whole6
  have hC : C8 (offv (TA m c 0) (TA m c 1)) (TA m c 0) (TA m c 1) 12936 X := (vdat m c).toRRel_leaves (w := 6) rfl hX rfl
  rw [offv_eq H] at hC
  have key : ∀ (R : Fin 12936) (l : Fin 256), X (ix2 R l) = refQ (refA (Wm m c)) (ix2 R l) := fun R l => by
    by_cases hl : l.val < 128
    · refine ((hC R R.isLt ⟨l.val, hl⟩).1).trans ?_
      rw [sc_eq H R _ rfl, (H _ _).1, refQ_apply]
    · have h2 := (hC R R.isLt ⟨l.val - 128, by omega⟩).2
      have hll : (⟨128 + (l.val - 128), by omega⟩ : Fin 256) = l := Fin.ext (by show 128 + (l.val - 128) = l.val; omega)
      rw [hll] at h2
      refine h2.trans ?_
      rw [sc_eq H R _ rfl, (H _ _).2, refQ_apply]
      congr 2
      show 256 * R.val + (128 + (l.val - 128)) = 256 * R.val + l.val
      omega
  funext j
  refine (hG j).trans ?_
  have hj : ∀ i : S12936x256.Idx, i = ix2 (i 0) (i 1) := fun i => by
    funext a
    match a with
    | 0 => rfl
    | 1 => rfl
  have all : ∀ i : S12936x256.Idx, X i = refQ (refA (Wm m c)) i := fun i =>
    (congrArg X (hj i)).trans ((key (i 0) (i 1)).trans (congrArg (refQ (refA (Wm m c))) (hj i).symm))
  exact all j

/-- The scales at the end. -/
theorem out7 (R : Fin 12936) : r.2.mem ((c.tc : Thread nD τ).loc main_v12_3) (ix2 R 0) = refS (refA (Wm m c)) (ix1 R) := by
  have H := halves m c
  obtain ⟨X, hX, hG⟩ := RDat.ArrAt.emb_eq_of_wholeAt (cfg := cfg0) (w := 7) ((h c).1 7) whole7
  have hC : C9 (offv (TA m c 0) (TA m c 1)) (TA m c 0) (TA m c 1) 12936 X := (vdat m c).toRRel_leaves (w := 7) rfl hX rfl
  refine (hG (ix2 R 0)).trans ?_
  refine (hC R R.isLt).trans ?_
  exact sc_eq H R _ (offv_eq H)

/-- The mean at the end. -/
theorem out8 : r.2.mem ((c.tc : Thread nD τ).loc main_v12_4) (ix2 0 0) = refO (refA (Wm m c)) ix0 := by
  have H := halves m c
  obtain ⟨X, hX, hG⟩ := RDat.ArrAt.emb_eq_of_wholeAt (cfg := cfg0) (w := 8) ((h c).1 8) whole8
  have hC : X (ix2 0 0) = offv (TA m c 0) (TA m c 1) := (vdat m c).toRRel_leaves (w := 8) rfl hX rfl
  refine (hG (ix2 0 0)).trans ?_
  refine Eq.trans ?_ (hC.trans (offv_eq H))
  rfl

/-- The weights at the end. -/
theorem outW : r.2.mem ((c.tc : Thread nD τ).loc main_arg0) = m ((c.tc : Thread nD τ).loc main_arg0) :=
  (((h c).1 1 |> fun e => (congrFun (RDat.ArrAt_in _ 1 rfl _) _).mp e)).trans (V_main_arg0 m c)

end Arrays

end Cert.Proof.Val
-- ==== Proof.Algebraic.lean ====
/-
  The kernel and the reference end with equal packed codes, absolute maxima, codes, scales and offset.
-/
module

public import proofs.«01_k».proof.Defs
public import proofs.«01_k».proof.Proof.ValueArrays

@[expose] public section

set_option maxRecDepth 16384

noncomputable section

namespace Cert.Proof

open Idealize.ShloMosaic Idealize.SL.Sem Idealize.ShloMosaic.TcCoe Idealize.ShloMosaic.Tactic

/-- An index of a column is its row. -/
theorem ix_col (j : (⟨2, ![12936, 1]⟩ : Shape).Idx) : j = ix2 (j 0) (0 : Fin 1) := by
  funext a
  match a with
  | 0 => rfl
  | 1 => exact Subsingleton.elim (α := Fin 1) _ _

/-- A single number has one index. -/
theorem ix_one (j : (⟨2, ![1, 1]⟩ : Shape).Idx) : j = ix2 (0 : Fin 1) (0 : Fin 1) := by
  funext a
  match a with
  | 0 => exact Subsingleton.elim (α := Fin 1) _ _
  | 1 => exact Subsingleton.elim (α := Fin 1) _ _

/-- The value claim. -/
theorem algebraic : Cert.algebraic_KernelIdeal_ReferenceIdeal := fun m g m' g' _ hm =>
  ⟨fun c => Val.refP (Val.refT (Val.refX (Val.Wm m c))), fun c => Val.refA (Val.Wm m c), fun c => Val.refQ (Val.refA (Val.Wm m c)),
    fun c j => Val.refS (Val.refA (Val.Wm m c)) (ix1 (j 0)), fun c _ => Val.refO (Val.refA (Val.Wm m c)) ix0,
    (θ_run Cert.KernelIdeal.defs _ _).mono (fun r h c =>
      ⟨Val.out4 h.1 c, Val.out5 h.1 c, Val.out6 h.1 c,
        funext fun j => (congrArg _ (ix_col j)).trans (Val.out7 h.1 c (j 0)),
        funext fun j => (congrArg _ (ix_one j)).trans (Val.out8 h.1 c), Val.outW h.1 c⟩) (Val.run_val m g),
    (θ_run Cert.ReferenceIdeal.defs _ _).mono (fun r h c => by
      have e : m' ((c.tc : Thread Cert.ReferenceIdeal.nD Cert.ReferenceIdeal.τ).loc Cert.ReferenceIdeal.main_arg0) = Val.Wm m c := hm c
      obtain ⟨hp, h0, h1, h2, h3, h4⟩ := h c
      replace hp := hp.trans (Val.res_refP m' c)
      rw [e] at hp h0 h1 h2 h3
      refine ⟨hp, h0, h1, h2.trans ?_, h3.trans ?_, h4⟩
      · funext j
        refine (congrArg _ (ix_col j)).trans ?_
        refine (shapeCast_apply (Val.refS (Val.refA (Val.Wm m c))) Cert.ReferenceIdeal.Gen.shapeCasts_S12936_S12936x1 (ix2 (j 0) (0 : Fin 1)) (ix1 (j 0)) ?_)
        rw [Shape.rowMajor_val_one, Shape.rowMajor_val_two]
        simp
      · funext j
        refine (congrArg _ (ix_one j)).trans ?_
        exact shapeCast_apply (Val.refO (Val.refA (Val.Wm m c))) Cert.ReferenceIdeal.Gen.shapeCasts_S_S1x1 (ix2 (0 : Fin 1) (0 : Fin 1)) ix0 rfl)
      (Cert.ReferenceIdeal.Value.run (F := Ideal) m' g')⟩

end Cert.Proof

end
-- ==== Proof.lean ====
/-
  The certificate's claim, assembled from the modules under Proof/.
-/
module

public import proofs.«01_k».proof.Defs
public import proofs.«01_k».proof.Proof.FrameKernel
public import proofs.«01_k».proof.Proof.FrameKernelIdeal
public import proofs.«01_k».proof.Proof.Preserves
public import proofs.«01_k».proof.Proof.FrameReference
public import proofs.«01_k».proof.Proof.Algebraic
public import proofs.«01_k».proof.Proof.Gen.ReferenceIdeal.Run

@[expose] public section

namespace Cert.Proof

/-- The claim: the side conditions the programs state, then the claims in order. -/
theorem claim : Cert.Claim :=
  ⟨Cert.Kernel.Gen.facts, Cert.KernelIdeal.Gen.facts, Cert.ReferenceIdeal.Gen.facts,
    quiescent_Kernel, quiescent_KernelIdeal, quiescent_ReferenceIdeal, preserves, algebraic⟩

end Cert.Proof

end
